-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens_bounded [hPre_lens_bounded : Cert.Pre_lens_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_lens_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_bounded [hPre_lens_bounded : Cert.Pre_lens_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_lens_bounded [hKernelIdeal : Cert.KernelIdeal.Facts] [hPre_lens_bounded : Cert.Pre_lens_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lens_bounded [hReferenceIdeal : Cert.ReferenceIdeal.Facts] [hPre_lens_bounded : Cert.Pre_lens_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_lens_bounded [hKernelIdeal : Cert.KernelIdeal.Facts] [hReferenceIdeal : Cert.ReferenceIdeal.Facts] [hPre_lens_bounded : Cert.Pre_lens_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v15_0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lens_bounded : Cert.Pre_lens_bounded.Facts),
    quiescent_Kernel (hKernel := hKernel)
    ∧ quiescent_KernelIdeal (hKernelIdeal := hKernelIdeal)
    ∧ quiescent_KernelIdeal_pre_lens_bounded (hKernelIdeal := hKernelIdeal) (hPre_lens_bounded := hPre_lens_bounded)
    ∧ quiescent_ReferenceIdeal (hReferenceIdeal := hReferenceIdeal)
    ∧ quiescent_ReferenceIdeal_pre_lens_bounded (hReferenceIdeal := hReferenceIdeal) (hPre_lens_bounded := hPre_lens_bounded)
    ∧ preserves_Kernel_KernelIdeal
    ∧ algebraic_KernelIdeal_ReferenceIdeal_pre_lens_bounded (hKernelIdeal := hKernelIdeal) (hReferenceIdeal := hReferenceIdeal) (hPre_lens_bounded := hPre_lens_bounded)
-- ==== Pre_lens_bounded.lean ====
abbrev S4x3072x10240 : Shape := ⟨3, ![4, 3072, 10240]⟩
abbrev S_ : Shape := ⟨0, ![]⟩
abbrev S4x3072x8192 : Shape := ⟨3, ![4, 3072, 8192]⟩
abbrev S10240x8192 : Shape := ⟨2, ![10240, 8192]⟩
abbrev S4 : Shape := ⟨1, ![4]⟩

class Facts : Prop where
  bcast_S_S4 : S_.BroadcastsInDim S4 (![] : Fin 0 → Fin S4.rank)

variable [Facts]

def fn {F : FTy → Type} [FloatOps F] (main_arg0 : FVec F S4x3072x10240 .bf16) (main_arg1 : FVec F S_ .f32) (main_arg2 : FVec F S4x3072x8192 .fp8e4m3) (main_arg3 : FVec F S_ .f32) (main_arg4 : FVec F S10240x8192 .fp8e4m3) (main_arg5 : FVec F S_ .f32) (main_arg6 : FVec F S10240x8192 .f32) (main_arg7 : IVec S4 32) : IVec S4 1 :=
  let main_c : IVec S_ 32 := constantI S_ 32 2147482624#32
  let main_v0 : IVec S4 32 := broadcastInDim S4 ![] bcast_S_S4 main_c
  let main_v1 : IVec S4 1 := cmpi .sle main_arg7 main_v0
  main_v1
-- ==== Kernel.lean ====
abbrev S4x3072x10240 : Shape := ⟨3, ![4, 3072, 10240]⟩
abbrev S_ : Shape := ⟨0, ![]⟩
abbrev S4x3072x8192 : Shape := ⟨3, ![4, 3072, 8192]⟩
abbrev S10240x8192 : Shape := ⟨2, ![10240, 8192]⟩
abbrev S4 : Shape := ⟨1, ![4]⟩
abbrev S1 : Shape := ⟨1, ![1]⟩
abbrev S1x1 : Shape := ⟨2, ![1, 1]⟩
abbrev S1x256x10240 : Shape := ⟨3, ![1, 256, 10240]⟩
abbrev S256x10240 : Shape := ⟨2, ![256, 10240]⟩
abbrev S10240 : Shape := ⟨1, ![10240]⟩
abbrev S1x10240 : Shape := ⟨2, ![1, 10240]⟩
abbrev S1x1024x10240 : Shape := ⟨3, ![1, 1024, 10240]⟩
abbrev S10240x512 : Shape := ⟨2, ![10240, 512]⟩
abbrev S1x1024x512 : Shape := ⟨3, ![1, 1024, 512]⟩
abbrev S1024x10240 : Shape := ⟨2, ![1024, 10240]⟩
abbrev S1024x512 : Shape := ⟨2, ![1024, 512]⟩
abbrev S1x1024x1024 : Shape := ⟨3, ![1, 1024, 1024]⟩
abbrev S1024x1024 : Shape := ⟨2, ![1024, 1024]⟩

abbrev nBuf : Space → Nat
  | .hbm => 19
  | .vmem => 20
  | .smem => 4
  | _ => 0

abbrev bufTy : (tb : Table) → Fin (tcTables nBuf tb) → BufTy
  | .hbm, ⟨0, _⟩ => ⟨S4x3072x10240, .bf16⟩
  | .hbm, ⟨1, _⟩ => ⟨S_, .f32⟩
  | .hbm, ⟨2, _⟩ => ⟨S4x3072x8192, .fp8e4m3⟩
  | .hbm, ⟨3, _⟩ => ⟨S_, .f32⟩
  | .hbm, ⟨4, _⟩ => ⟨S10240x8192, .fp8e4m3⟩
  | .hbm, ⟨5, _⟩ => ⟨S_, .f32⟩
  | .hbm, ⟨6, _⟩ => ⟨S10240x8192, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S4x3072x10240, .fp8e5m2⟩
  | .hbm, ⟨11, _⟩ => ⟨S1x1, .f32⟩
  | .hbm, ⟨12, _⟩ => ⟨S_, .f32⟩
  | .hbm, ⟨13, _⟩ => ⟨S1, .f32⟩
  | .hbm, ⟨14, _⟩ => ⟨S4x3072x8192, .bf16⟩
  | .hbm, ⟨15, _⟩ => ⟨S_, .f32⟩
  | .hbm, ⟨16, _⟩ => ⟨S1, .f32⟩
  | .hbm, ⟨17, _⟩ => ⟨S10240x8192, .f32⟩
  | .hbm, ⟨18, _⟩ => ⟨S_, .f32⟩
  | .local _ .vmem, ⟨0, _⟩ => ⟨S1x256x10240, .bf16⟩
  | .local _ .vmem, ⟨1, _⟩ => ⟨S1x256x10240, .bf16⟩
  | .local _ .vmem, ⟨2, _⟩ => ⟨S1x256x10240, .fp8e5m2⟩
  | .local _ .vmem, ⟨3, _⟩ => ⟨S1x256x10240, .fp8e5m2⟩
  | .local _ .vmem, ⟨4, _⟩ => ⟨S1x1, .f32⟩
  | .local _ .vmem, ⟨5, _⟩ => ⟨S1x1024x10240, .fp8e5m2⟩
  | .local _ .vmem, ⟨6, _⟩ => ⟨S1x1024x10240, .fp8e5m2⟩
  | .local _ .vmem, ⟨7, _⟩ => ⟨S10240x512, .fp8e4m3⟩
  | .local _ .vmem, ⟨8, _⟩ => ⟨S10240x512, .fp8e4m3⟩
  | .local _ .vmem, ⟨9, _⟩ => ⟨S1x1024x512, .bf16⟩
  | .local _ .vmem, ⟨10, _⟩ => ⟨S1x1024x512, .bf16⟩
  | .local _ .vmem, ⟨11, _⟩ => ⟨S1x1024x1024, .fp8e5m2⟩
  | .local _ .vmem, ⟨12, _⟩ => ⟨S1x1024x1024, .fp8e5m2⟩
  | .local _ .vmem, ⟨13, _⟩ => ⟨S1x1024x1024, .fp8e4m3⟩
  | .local _ .vmem, ⟨14, _⟩ => ⟨S1x1024x1024, .fp8e4m3⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .smem, ⟨0, _⟩ => ⟨S4, .i32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S4x3072x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_arg7 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_scratch0 : Ref sig .tc := ⟨.vmem, 19, rfl⟩
abbrev cc0_stg0_0 : Ref sig .tc := ⟨.smem, 1, rfl⟩
abbrev cc1_stg0_0 : Ref sig .tc := ⟨.smem, 2, rfl⟩
abbrev cc2_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v8 : BitVec 1 := Scalar.cmpi .slt v0 v2
  let v9 : BitVec 32 := Scalar.extui v8
  let c0_i32_2 : BitVec 32 := 0#32
  let v10 : BitVec 1 := Scalar.cmpi .ne v9 c0_i32_2
  v10

def k0_cond3 (i : grid0.Coords) (v2 : BitVec 32) : BitVec 1 :=
  let arg1 : BitVec 32 := BitVec.ofNat 32 (i 1).val
  let c256_i32 : BitVec 32 := 256#32
  let v0 : BitVec 32 := Scalar.muli arg1 c256_i32
  let v11 : BitVec 1 := Scalar.cmpi .sge v0 v2
  let v12 : BitVec 32 := Scalar.extui v11
  let c0_i32_3 : BitVec 32 := 0#32
  let v13 : BitVec 1 := Scalar.cmpi .ne v12 c0_i32_3
  v13

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c256_i32 : BitVec 32 := 256#32
  let v2 : BitVec 32 := Scalar.addi v1 c256_i32
  let c1_i32 : BitVec 32 := 1#32
  let v3 : BitVec 32 := Scalar.subi v2 c1_i32
  let c256_i32_0 : BitVec 32 := 256#32
  let v4 : BitVec 32 := Scalar.divsi v3 c256_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x10240 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x10240 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨3, ![4, 3, 16], ![false, false, false]⟩

abbrev pre1 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond1 (i : grid1.Coords) (v2 : BitVec 32) : BitVec 1 :=
  let arg1 : BitVec 32 := BitVec.ofNat 32 (i 1).val
  let c1024_i32 : BitVec 32 := 1024#32
  let v0 : BitVec 32 := Scalar.muli arg1 c1024_i32
  let v3 : BitVec 1 := Scalar.cmpi .slt v0 v2
  let v4 : BitVec 32 := Scalar.extui v3
  let c0_i32 : BitVec 32 := 0#32
  let v5 : BitVec 1 := Scalar.cmpi .ne v4 c0_i32
  v5

def k1_cond2 (i : grid1.Coords) (v2 : BitVec 32) : BitVec 1 :=
  let arg1 : BitVec 32 := BitVec.ofNat 32 (i 1).val
  let c1024_i32 : BitVec 32 := 1024#32
  let v0 : BitVec 32 := Scalar.muli arg1 c1024_i32
  let v3 : BitVec 1 := Scalar.cmpi .slt v0 v2
  let v_true : BitVec 1 := 1#1
  let v6 : BitVec 1 := Scalar.xori v3 v_true
  let v7 : BitVec 32 := Scalar.extui v6
  let c0_i32_0 : BitVec 32 := 0#32
  let v8 : BitVec 1 := Scalar.cmpi .ne v7 c0_i32_0
  v8

def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (k1_off1_inb : ∀ i : grid1.Coords, ∀ a, (k1_off1 i) a + S1.size a ≤ S4.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S4) ![v0.toNat] S1.size (k1_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg1 v22
  let c0_i32_8 : BitVec 32 := 0#32
  let c0_i32_9 : BitVec 32 := 0#32
  ![arg0.toNat, v23.toNat, c0_i32_8.toNat]

def cc1_transform_2 (k1_off1_inb : ∀ i : grid1.Coords, ∀ a, (k1_off1 i) a + S1.size a ≤ S4.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg1 c1024_i32
  let v1 : Index := Scalar.indexCast arg0
  let v2 : BitVec 32 := pf.at 0 (Rect.unit (s := S4) ![v1.toNat] S1.size (k1_off1_inb i)) numel1_S1
  let v3 : BitVec 1 := Scalar.cmpi .slt v0 v2
  let c0_i32 : BitVec 32 := 0#32
  let v4 : BitVec 32 := Scalar.select v3 arg2 c0_i32
  let c0_i32_0 : BitVec 32 := 0#32
  let c0_i32_1 : BitVec 32 := 0#32
  ![c0_i32_0.toNat, v4.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 2 → Memref sig .tc .vmem S1x1024x10240 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S10240x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨4, ![10, 8, 4, 3], ![false, false, false, false]⟩

abbrev pre2 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg2 : BitVec 32 := BitVec.ofNat 32 (i 2).val
  let v0 : Index := Scalar.indexCast arg2
  ![v0.toNat]
def k2_cond3 (i : grid2.Coords) : BitVec 1 :=
  let arg2 : BitVec 32 := BitVec.ofNat 32 (i 2).val
  let c3_i32 : BitVec 32 := 3#32
  let v11 : BitVec 1 := Scalar.cmpi .eq arg2 c3_i32
  let arg3 : BitVec 32 := BitVec.ofNat 32 (i 3).val
  let c2_i32 : BitVec 32 := 2#32
  let v12 : BitVec 1 := Scalar.cmpi .eq arg3 c2_i32
  let v13 : BitVec 1 := Scalar.andi v11 v12
  let v14 : BitVec 32 := Scalar.extui v13
  let c0_i32_3 : BitVec 32 := 0#32
  let v15 : BitVec 1 := Scalar.cmpi .ne v14 c0_i32_3
  v15

def cc2_transform_0 (i : grid2.Coords) : Fin 1 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat]

def cc2_transform_1 (k2_off1_inb : ∀ i : grid2.Coords, ∀ a, (k2_off1 i) a + S1.size a ≤ S4.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : Index := Scalar.indexCast arg2
  let v1 : BitVec 32 := pf.at 0 (Rect.unit (s := S4) ![v0.toNat] S1.size (k2_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg3 v22
  let c0_i32_8 : BitVec 32 := 0#32
  ![arg2.toNat, v23.toNat, arg0.toNat]

def cc2_transform_2 (k2_off1_inb : ∀ i : grid2.Coords, ∀ a, (k2_off1 i) a + S1.size a ≤ S4.size a) (numel1_S1 : S1.numel = 1) (pf : pre2.Contents (Elt F)) (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : Index := Scalar.indexCast arg2
  let v1 : BitVec 32 := pf.at 0 (Rect.unit (s := S4) ![v0.toNat] S1.size (k2_off1_inb i)) numel1_S1
  let c1024_i32 : BitVec 32 := 1024#32
  let v2 : BitVec 32 := Scalar.addi v1 c1024_i32
  let c1_i32 : BitVec 32 := 1#32
  let v3 : BitVec 32 := Scalar.subi v2 c1_i32
  let c1024_i32_0 : BitVec 32 := 1024#32
  let v4 : BitVec 32 := Scalar.divsi v3 c1024_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c1024_i32_0 c0_i32_2
  let v11 : BitVec 32 := Scalar.extui v10
  let c0_i32_3 : BitVec 32 := 0#32
  let v12 : BitVec 1 := Scalar.cmpi .slt c1024_i32_0 c0_i32_3
  let v13 : BitVec 32 := Scalar.extui v12
  let v14 : BitVec 32 := Scalar.subi v11 v13
  let v15 : BitVec 1 := Scalar.cmpi .ne v9 v14
  let v16 : BitVec 32 := Scalar.remsi v3 c1024_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c1_i32_6 : BitVec 32 := 1#32
  let v21 : BitVec 32 := Scalar.subi v20 c1_i32_6
  let c0_i32_7 : BitVec 32 := 0#32
  let v22 : BitVec 32 := Scalar.maxsi v21 c0_i32_7
  let v23 : BitVec 32 := Scalar.minsi arg3 v22
  let c0_i32_8 : BitVec 32 := 0#32
  ![arg2.toNat, v23.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false, false, false]

abbrev stage2_1 : Fin 2 → Memref sig .tc .vmem S1x1024x1024 .fp8e5m2 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true, true]

abbrev stage2_2 : Fin 2 → Memref sig .tc .vmem S1x1024x1024 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true, true]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false, false]
-- ==== ReferenceIdeal.lean ====
abbrev S4x3072x10240 : Shape := ⟨3, ![4, 3072, 10240]⟩
abbrev S_ : Shape := ⟨0, ![]⟩
abbrev S4x3072x8192 : Shape := ⟨3, ![4, 3072, 8192]⟩
abbrev S10240x8192 : Shape := ⟨2, ![10240, 8192]⟩
abbrev S4 : Shape := ⟨1, ![4]⟩
abbrev S3072 : Shape := ⟨1, ![3072]⟩
abbrev S1x3072 : Shape := ⟨2, ![1, 3072]⟩
abbrev S4x1 : Shape := ⟨2, ![4, 1]⟩
abbrev S4x3072 : Shape := ⟨2, ![4, 3072]⟩
abbrev S4x3072x1 : Shape := ⟨3, ![4, 3072, 1]⟩

abbrev nBuf : Space → Nat
  | .hbm => 50
  | .vmem => 7
  | .smem => 0
  | _ => 0

abbrev bufTy : (tb : Table) → Fin (tcTables nBuf tb) → BufTy
  | .hbm, ⟨0, _⟩ => ⟨S4x3072x10240, .bf16⟩
  | .hbm, ⟨1, _⟩ => ⟨S_, .f32⟩
  | .hbm, ⟨2, _⟩ => ⟨S4x3072x8192, .fp8e4m3⟩
  | .hbm, ⟨3, _⟩ => ⟨S_, .f32⟩
  | .hbm, ⟨4, _⟩ => ⟨S10240x8192, .fp8e4m3⟩
  | .hbm, ⟨5, _⟩ => ⟨S_, .f32⟩
  | .hbm, ⟨6, _⟩ => ⟨S10240x8192, .f32⟩
  | .hbm, ⟨7, _⟩ => ⟨S4, .i32⟩
  | .hbm, ⟨8, _⟩ => ⟨S3072, .i32⟩
  | .hbm, ⟨9, _⟩ => ⟨S1x3072, .i32⟩
  | .hbm, ⟨10, _⟩ => ⟨S4x1, .i32⟩
  | .hbm, ⟨11, _⟩ => ⟨S4x3072, .i32⟩
  | .hbm, ⟨12, _⟩ => ⟨S4x3072, .i32⟩
  | .hbm, ⟨13, _⟩ => ⟨S4x3072, .i1⟩
  | .hbm, ⟨14, _⟩ => ⟨S4x3072x1, .i1⟩
  | .hbm, ⟨15, _⟩ => ⟨S4x3072x10240, .f32⟩
  | .hbm, ⟨16, _⟩ => ⟨S_, .f32⟩
  | .hbm, ⟨17, _⟩ => ⟨S_, .f32⟩
  | .hbm, ⟨18, _⟩ => ⟨S4x3072x10240, .i1⟩
  | .hbm, ⟨19, _⟩ => ⟨S4x3072x10240, .f32⟩
  | .hbm, ⟨20, _⟩ => ⟨S4x3072x10240, .f32⟩
  | .hbm, ⟨21, _⟩ => ⟨S4x3072x10240, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4x3072x10240, .f32⟩
  | .hbm, ⟨27, _⟩ => ⟨S4x3072x10240, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x3072x10240, .f32⟩
  | .hbm, ⟨32, _⟩ => ⟨S4x3072x10240, .f32⟩
  | .hbm, ⟨33, _⟩ => ⟨S_, .f32⟩
  | .hbm, ⟨34, _⟩ => ⟨S4x3072x10240, .f32⟩
  | .hbm, ⟨35, _⟩ => ⟨S4x3072x10240, .f32⟩
  | .hbm, ⟨36, _⟩ => ⟨S4x3072x10240, .fp8e5m2⟩
  | .hbm, ⟨37, _⟩ => ⟨S4x3072x10240, .bf16⟩
  | .hbm, ⟨38, _⟩ => ⟨S4x3072x8192, .bf16⟩
  | .hbm, ⟨39, _⟩ => ⟨S10240x8192, .bf16⟩
  | .hbm, ⟨40, _⟩ => ⟨S4x3072x8192, .f32⟩
  | .hbm, ⟨41, _⟩ => ⟨S_, .f32⟩
  | .hbm, ⟨42, _⟩ => ⟨S4x3072x8192, .f32⟩
  | .hbm, ⟨43, _⟩ => ⟨S4x3072x8192, .f32⟩
  | .hbm, ⟨44, _⟩ => ⟨S4x3072x8192, .bf16⟩
  | .hbm, ⟨45, _⟩ => ⟨S10240x8192, .f32⟩
  | .hbm, ⟨46, _⟩ => ⟨S_, .f32⟩
  | .hbm, ⟨47, _⟩ => ⟨S10240x8192, .f32⟩
  | .hbm, ⟨48, _⟩ => ⟨S10240x8192, .f32⟩
  | .hbm, ⟨49, _⟩ => ⟨S10240x8192, .f32⟩
  | .local _ .vmem, ⟨0, _⟩ => ⟨S4x3072x10240, .f32⟩
  | .local _ .vmem, ⟨1, _⟩ => ⟨S4x3072x8192, .fp8e4m3⟩
  | .local _ .vmem, ⟨2, _⟩ => ⟨S10240x8192, .fp8e4m3⟩
  | .local _ .vmem, ⟨3, _⟩ => ⟨S4x3072x10240, .fp8e5m2⟩
  | .local _ .vmem, ⟨4, _⟩ => ⟨S4x3072x10240, .bf16⟩
  | .local _ .vmem, ⟨5, _⟩ => ⟨S4x3072x8192, .bf16⟩
  | .local _ .vmem, ⟨6, _⟩ => ⟨S10240x8192, .bf16⟩
  | _, _ => ⟨S4x3072x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_cst_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v15_2 : Ref sig .tc := ⟨.hbm, 38, rfl⟩
abbrev main_v15_3 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x3072x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3072x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10240x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072x10240 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10240x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.K.Body0.lean ====
/-
  The quantising kernel's body at one grid point, for any float interpretation: what it leaves in the block of codes
  and in the running maximum, as plain functions of the gradient block, the scale, the sequence length and what the
  running maximum held before.
-/
module

public import proofs.«01_k».proof.Proof.Gen.Kernel.Launch
public import proofs.«01_k».proof.Proof.Gen.Kernel.Skeleton
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig ℕ (Elt F) ℕ (UR sig nD τ) ℕ

/-- The table of sequence lengths as the bodies are handed it. -/
abbrev tbM : Memref sig .tc .smem S4 .i32 := Memref.whole main_arg7
/-- The table's contents on core `c`. -/
abbrev TbBuf (c : Dev nD) : Type := Buf (Elt F) (tbM.view.loc (c : Thread nD τ))
/-- The table held on core `c` at contents `f`. -/
abbrev tbPt (c : Dev nD) (f : TbBuf (F := F) c) : sProp 𝕄 := tbM.view.loc (c : Thread nD τ) ↦{fullShare} f

/-- The one word of a one-element array. -/
abbrev word1 {e : EltTy} (s : Vec F S1 e) : Elt F e := s (Shape.Idx.first (numel1_S1.symm ▸ Nat.one_pos))

/-- The sequence length the quantising body reads at grid point `i`. -/
abbrev len0 (c : Dev nD) (i : grid0.Coords) (T : TbBuf (F := F) c) : BitVec 32 :=
  tbM.view.readAt (Elt F) (Rect.unit (s := S4) (k0_off1 i) S1.size (k0_off1_inb i)).toLoadRect T (Shape.Idx.first (numel1_S1.symm ▸ Nat.one_pos))

/-- The running maximum as the point's update finds it: reset at the first point. -/
def accIn0 (i : grid0.Coords) (acc : Vec F S1x1 .f32) : Vec F S1x1 .f32 :=
  if k0_cond1 i = 1#1 then k0_pay1 (F := F) else acc

/-- The running maximum the point leaves: raised by the block's largest magnitude where the block holds a live row. -/
def accOut0 (i : grid0.Coords) (n : BitVec 32) (d : Vec F S1x256x10240 .bf16) (acc : Vec F S1x1 .f32) : Vec F S1x1 .f32 :=
  if k0_cond2 i n = 1#1 then k0_pay3 i n d (accIn0 i acc) else accIn0 i acc

/-- The block of codes the point leaves: quantised where it holds a live row, zeros where it holds none. -/
def codes0 (i : grid0.Coords) (n : BitVec 32) (d : Vec F S1x256x10240 .bf16) (s : Elt F .f32) (old : Vec F S1x256x10240 .fp8e5m2) :
    Vec F S1x256x10240 .fp8e5m2 :=
  if k0_cond3 i n = 1#1 then k0_pay5 (F := F) else if k0_cond2 i n = 1#1 then k0_pay4 i n d s else old

theorem pay3_congr (i : grid0.Coords) {n n' : BitVec 32} {d d' : Vec F S1x256x10240 .bf16} {x x' : Vec F S1x1 .f32}
    (hn : n = n') (hd : d = d') (hx : x = x') : k0_pay3 i n d x = k0_pay3 i n' d' x' := by subst hn hd hx; rfl

theorem pay4_congr (i : grid0.Coords) {n n' : BitVec 32} {d d' : Vec F S1x256x10240 .bf16} {x x' : Elt F .f32}
    (hn : n = n') (hd : d = d') (hx : x = x') : k0_pay4 i n d x = k0_pay4 i n' d' x' := by subst hn hd hx; rfl

set_option maxHeartbeats 4000000 in
/-- The quantising body, run on any staging buffers. -/
theorem run0 (c : Dev nD) (i : grid0.Coords)
    (arg3 : Memref sig .tc .smem S1 .f32) (harg3 : arg3.IsWhole) (arg4 : Memref sig .tc .vmem S1x256x10240 .bf16) (harg4 : arg4.IsWhole)
    (arg5 : Memref sig .tc .vmem S1x256x10240 .fp8e5m2) (harg5 : arg5.IsWhole) (arg6 : Memref sig .tc .vmem S1x1 .f32) (harg6 : arg6.IsWhole)
    (s : Vec F S1 .f32) (d : Vec F S1x256x10240 .bf16) (q : Vec F S1x256x10240 .fp8e5m2) (acc : Vec F S1x1 .f32) (T : TbBuf (F := F) c)
    (E : Set ℕ) (K : PUnit → sProp 𝕄) :
    iprop(owns (c : Thread nD τ) arg3 fullShare s ∗ owns (c : Thread nD τ) arg4 fullShare d ∗ owns (c : Thread nD τ) arg5 fullShare q
        ∗ owns (c : Thread nD τ) arg6 fullShare acc ∗ tbPt c T
        ∗ (iprop(owns (c : Thread nD τ) arg3 fullShare s ∗ owns (c : Thread nD τ) arg4 fullShare d
            ∗ owns (c : Thread nD τ) arg5 fullShare (codes0 i (len0 c i T) d (word1 s) q)
            ∗ owns (c : Thread nD τ) arg6 fullShare (accOut0 i (len0 c i T) d acc) ∗ tbPt c T) -∗ K ⟨⟩))
      ⊢ wp frame (wpE (defs₀ (F := F)) Variants.none c none) E
          (cc0_quant i tbM (Memref.isWhole_whole _) arg3 harg3 arg4 harg4 arg5 harg5 arg6 harg6) K := by
  simp only [cc0_quant_eq_skeleton]; unfold cc0_quant_skel
  unfold accOut0 accIn0 codes0
  by_cases hc1 : k0_cond1 i = 1#1 <;> by_cases hc2 : k0_cond2 i (len0 c i T) = 1#1 <;> by_cases hc3 : k0_cond3 i (len0 c i T) = 1#1
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readCov_full (s := S1x1) arg6.view inb_S1x1_S1x1_0_0 inb_S1x1_S1x1_0_0 _ _))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact (pay4_congr i rfl (View.readAt_rep_full (s := S1x256x10240) arg4.view d inb_S1x256x10240_S1x256x10240_0_0_0) (congrFun (View.readAt_rep_full (s := S1) arg3.view s inb_S1_S1_0) _))
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readCov_full (s := S1x1) arg6.view inb_S1x1_S1x1_0_0 inb_S1x1_S1x1_0_0 _ _))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact rfl
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]; · iexact H5
    isplitl [H6]
    · iapply rep_of_owns; unfold owns; iexists _; isplitr; swap; · iexact H6
      ipureintro
      refine (View.read_writes_full (s := S1x1) _ _ _ _ _).trans ?_
      exact rfl
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readAt_rep_full (s := S1x1) arg6.view acc inb_S1x1_S1x1_0_0))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact (pay4_congr i rfl (View.readAt_rep_full (s := S1x256x10240) arg4.view d inb_S1x256x10240_S1x256x10240_0_0_0) (congrFun (View.readAt_rep_full (s := S1) arg3.view s inb_S1_S1_0) _))
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readAt_rep_full (s := S1x1) arg6.view acc inb_S1x1_S1x1_0_0))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]; · iexact H6
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]; · iexact H5
    isplitl [H6]; · iexact H6
    iexact HT

end Cert.Kernel.Hand

end
-- ==== Proof.Words.lean ====
/-
  The index arithmetic the block index maps share: the last block a sequence of `n` rows reaches, and a row-block
  index held at or below it.
-/
module

public import Idealize.ShloMosaic.Lib.Affine
public import Idealize.ShloMosaic.Lib.WordCmp

@[expose] public section

namespace Cert.Words

open Idealize.ShloMosaic Idealize.ShloMosaic.Affine

/-- The row-block index `r` held at or below the last block of `B` rows that `n` rows reach, as the index maps
    compute it on words. -/
def clampW (B n r : BitVec 32) : BitVec 32 :=
  let v3 : BitVec 32 := Scalar.subi (Scalar.addi n B) 1#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt B 0#32)) (Scalar.extui (Scalar.cmpi .slt B 0#32))
  let v18 : BitVec 1 := Scalar.andi (Scalar.cmpi .ne v9 v14) (Scalar.cmpi .ne (Scalar.remsi v3 B) 0#32)
  let v4 : BitVec 32 := Scalar.divsi v3 B
  let v20 : BitVec 32 := Scalar.select v18 (Scalar.subi v4 1#32) v4
  Scalar.minsi r (Scalar.maxsi (Scalar.subi v20 1#32) 0#32)

/-- A small non-negative word's signed reading. -/
theorem toInt_small (k : Nat) (h : k < 2147483648) : (BitVec.ofNat 32 k).toInt = (k : Int) := by
  rw [BitVec.toInt_eq_toNat_cond, BitVec.toNat_ofNat]; omega

/-- The signed minimum with a word that is not negative stays below the other operand. -/
theorem min_max_le (k : Nat) (hk : k < 2147483648) (y : BitVec 32) :
    (Scalar.minsi (BitVec.ofNat 32 k) (Scalar.maxsi y 0#32)).toNat ≤ k := by
  have hk' : (BitVec.ofNat 32 k).toNat = k := by rw [BitVec.toNat_ofNat]; omega
  have h0 : 0 ≤ (Scalar.maxsi y 0#32).toInt := by
    unfold Scalar.maxsi IntOp.maxsi
    split
    · next h => rw [BitVec.slt_iff_toInt_lt] at h; have : (0#32 : BitVec 32).toInt = 0 := by decide
                omega
    · decide
  generalize Scalar.maxsi y 0#32 = z at h0
  unfold Scalar.minsi IntOp.minsi
  split
  · omega
  · next h =>
    rw [BitVec.slt_iff_toInt_lt, toInt_small k hk] at h
    have hz : (z.toNat : Int) = z.toInt := by
      rw [BitVec.toInt_eq_toNat_cond] at h0 ⊢; have := z.isLt; split at h0 <;> split <;> omega
    omega

/-- The held index never exceeds the index itself. -/
theorem clampW_le (B n : BitVec 32) (k : Nat) (hk : k < 2147483648) : (clampW B n (BitVec.ofNat 32 k)).toNat ≤ k := by
  unfold clampW; exact min_max_le k hk _

/-- Where the block at index `k` holds a live row, and the count plus a block does not overflow, the held index is
    the index itself. -/
theorem clampW_eq (b : Nat) (hb : 0 < b) (hb' : b < 65536) (n : BitVec 32) (k : Nat) (hk : k < 1024)
    (hlive : ((k * b : Nat) : Int) < n.toInt) (hn : n.toInt + b ≤ 2147483648) :
    (clampW (BitVec.ofNat 32 b) n (BitVec.ofNat 32 k)).toNat = k := by
  have hB : (BitVec.ofNat 32 b).toInt = b := toInt_small b (by omega)
  have hnn : 0 < n.toInt := Int.lt_of_le_of_lt (Int.natCast_nonneg _) hlive
  have h3 : (Scalar.subi (Scalar.addi n (BitVec.ofNat 32 b)) 1#32).toInt = n.toInt + b - 1 := by
    unfold Scalar.subi Scalar.addi IntOp.subi IntOp.addi
    have h1 : (1#32 : BitVec 32).toInt = 1 := by decide
    rw [BitVec.toInt_sub, BitVec.toInt_add, hB, h1]
    have : (n.toInt + (b : Int)).bmod (2 ^ 32) - 1 = (n.toInt + (b : Int)).bmod (2 ^ 32) + (-1) := by omega
    rw [this, Int.bmod_add_bmod]
    have h4 : n.toInt + (b : Int) + -1 = n.toInt + b - 1 := by omega
    rw [h4]
    exact Int.bmod_eq_of_le (by omega) (by omega)
  unfold clampW
  simp only
  generalize Scalar.subi (Scalar.addi n (BitVec.ofNat 32 b)) 1#32 = x at h3
  have hz : (0#32 : BitVec 32).toInt = 0 := by decide
  have s1 : Scalar.cmpi .sgt x 0#32 = 1#1 := by
    unfold Scalar.cmpi; rw [WordCmp.cmpi_sgt_eq, hz]; rw [decide_eq_true (by omega)]; rfl
  have s2 : Scalar.cmpi .slt x 0#32 = 0#1 := by
    unfold Scalar.cmpi; rw [WordCmp.cmpi_slt_eq, hz]; rw [decide_eq_false (by omega)]; rfl
  have s3 : Scalar.cmpi .sgt (BitVec.ofNat 32 b) 0#32 = 1#1 := by
    unfold Scalar.cmpi; rw [WordCmp.cmpi_sgt_eq, hz, hB]; rw [decide_eq_true (by omega)]; rfl
  have s4 : Scalar.cmpi .slt (BitVec.ofNat 32 b) 0#32 = 0#1 := by
    unfold Scalar.cmpi; rw [WordCmp.cmpi_slt_eq, hz, hB]; rw [decide_eq_false (by omega)]; rfl
  rw [s1, s2, s3, s4]
  have s5 : ∀ y, Scalar.andi (Scalar.cmpi .ne (Scalar.subi (Scalar.extui 1#1) (Scalar.extui 0#1)) (Scalar.subi (Scalar.extui 1#1) (Scalar.extui 0#1))) y = 0#1 := by
    intro y
    have : Scalar.cmpi .ne (Scalar.subi (Scalar.extui 1#1) (Scalar.extui 0#1)) (Scalar.subi (Scalar.extui 1#1) (Scalar.extui 0#1)) = 0#1 := by decide
    rw [this]; unfold Scalar.andi IntOp.andi; exact BitVec.zero_and
  rw [s5]
  have s6 : Scalar.select (0#1) (Scalar.subi (Scalar.divsi x (BitVec.ofNat 32 b)) 1#32) (Scalar.divsi x (BitVec.ofNat 32 b)) = Scalar.divsi x (BitVec.ofNat 32 b) := by
    unfold Scalar.select; rw [if_neg (by decide)]
  rw [s6]
  have hq : (Scalar.divsi x (BitVec.ofNat 32 b)).toInt = (n.toInt + b - 1) / b := by
    have := Affine.unique (Affine.divsi (Affine.word x) (Affine.word (BitVec.ofNat 32 b)) (e := x.toInt / (BitVec.ofNat 32 b).toInt)
      ⟨rfl, by rw [h3]; omega, by rw [hB]; omega⟩) (Affine.word _)
    rw [← this, h3, hB]
  have hge : (k : Int) + 1 ≤ (n.toInt + b - 1) / b := by
    rw [Int.le_ediv_iff_mul_le (by omega)]
    have e : ((k : Int) + 1) * b = ((k * b : Nat) : Int) + b := by push_cast; rw [Int.add_mul, Int.one_mul]
    omega
  have hub : (n.toInt + b - 1) / b < 2147483648 := by
    exact Int.lt_of_le_of_lt (Int.ediv_le_self _ (by omega)) (by omega)
  generalize Scalar.divsi x (BitVec.ofNat 32 b) = q at hq
  rw [← hq] at hge hub
  have hs : (Scalar.subi q 1#32).toInt = q.toInt - 1 := by
    unfold Scalar.subi IntOp.subi
    have h1 : (1#32 : BitVec 32).toInt = 1 := by decide
    rw [BitVec.toInt_sub, h1]
    exact Int.bmod_eq_of_le (by omega) (by omega)
  generalize Scalar.subi q 1#32 = p at hs
  unfold Scalar.minsi IntOp.minsi Scalar.maxsi IntOp.maxsi
  have hk' : (BitVec.ofNat 32 k).toNat = k := by rw [BitVec.toNat_ofNat]; omega
  have hkI := toInt_small k (by omega)
  by_cases hp : (0#32 : BitVec 32).slt p
  · rw [if_pos hp]
    split
    · exact hk'
    · next h =>
      rw [BitVec.slt_iff_toInt_lt, hkI] at h
      have : p.toInt = k := by omega
      have e : p = BitVec.ofNat 32 k := BitVec.eq_of_toInt_eq (by rw [this, hkI])
      rw [e]; exact hk'
  · rw [if_neg hp]
    rw [BitVec.slt_iff_toInt_lt, hz] at hp
    have : k = 0 := by omega
    subst this
    split <;> rfl

end Cert.Words
-- ==== Proof.K.Ok.lean ====
/-
  Every table of sequence lengths gives block indices inside the arrays: a row-block index is held between zero and
  the grid's own index, whatever the lengths are.
-/
module

public import proofs.«01_k».proof.Proof.Gen.Kernel.Launch
public import proofs.«01_k».proof.Proof.Words

@[expose] public section

set_option maxRecDepth 16384

noncomputable section

namespace Cert.Kernel.Hand

open Idealize.ShloMosaic Cert.Kernel.Gen Cert.Words

variable {F : FTy → Type} [FloatOps F]

/-- The length the quantising index map reads. -/
abbrev at0 (pf : pre0.Contents (Elt F)) (i : grid0.Coords) : BitVec 32 :=
  pf.at 0 (Rect.unit (s := S4) (k0_off1 i) S1.size (k0_off1_inb i)) numel1_S1
/-- The length the input-gradient index maps read. -/
abbrev at1 (pf : pre1.Contents (Elt F)) (i : grid1.Coords) : BitVec 32 :=
  pf.at 0 (Rect.unit (s := S4) (k1_off1 i) S1.size (k1_off1_inb i)) numel1_S1
/-- The length the weight-gradient index maps read. -/
abbrev at2 (pf : pre2.Contents (Elt F)) (i : grid2.Coords) : BitVec 32 :=
  pf.at 0 (Rect.unit (s := S4) (k2_off1 i) S1.size (k2_off1_inb i)) numel1_S1

theorem at0_atD (pf : pre0.Contents (Elt F)) (i : grid0.Coords) : at0 pf i = pf.atD 0 (k0_off1 i) := by
  refine Eq.trans ?_ (dif_pos (show ∀ a : Fin 1, k0_off1 i a + 1 ≤ S4.size a from fun a => by fin_cases a; exact k0_off1_inb i 0)).symm
  exact congrArg (pf 0) (funext fun a => Fin.ext (by show k0_off1 i a + _ = k0_off1 i a; first | rfl | omega))
theorem at1_atD (pf : pre1.Contents (Elt F)) (i : grid1.Coords) : at1 pf i = pf.atD 0 (k1_off1 i) := by
  refine Eq.trans ?_ (dif_pos (show ∀ a : Fin 1, k1_off1 i a + 1 ≤ S4.size a from fun a => by fin_cases a; exact k1_off1_inb i 0)).symm
  exact congrArg (pf 0) (funext fun a => Fin.ext (by show k1_off1 i a + _ = k1_off1 i a; first | rfl | omega))

theorem toNat_axis (k : Nat) (h : k < 4096) : (BitVec.ofNat 32 k).toNat = k := by rw [BitVec.toNat_ofNat]; omega

/-- The quantiser's block of gradients: batch, held row block, all columns. -/
theorem ix0_1 (pf : pre0.Contents (Elt F)) (i : grid0.Coords) :
    cc0_transform_1 k0_off1_inb numel1_S1 pf i = ![(i 0).val, (clampW 256#32 (at0 pf i) (BitVec.ofNat 32 (i 1).val)).toNat, 0] := by
  have h : cc0_transform_1 k0_off1_inb numel1_S1 pf i = ![(BitVec.ofNat 32 (i 0).val).toNat, (clampW 256#32 (at0 pf i) (BitVec.ofNat 32 (i 1).val)).toNat, (0#32 : BitVec 32).toNat] := rfl
  rw [h, toNat_axis _ (by have : (i 0).val < 4 := (i 0).isLt; omega)]; rfl

theorem ix1_1 (pf : pre1.Contents (Elt F)) (i : grid1.Coords) :
    cc1_transform_1 k1_off1_inb numel1_S1 pf i = ![(i 0).val, (clampW 1024#32 (at1 pf i) (BitVec.ofNat 32 (i 1).val)).toNat, 0] := by
  have h : cc1_transform_1 k1_off1_inb numel1_S1 pf i = ![(BitVec.ofNat 32 (i 0).val).toNat, (clampW 1024#32 (at1 pf i) (BitVec.ofNat 32 (i 1).val)).toNat, (0#32 : BitVec 32).toNat] := rfl
  rw [h, toNat_axis _ (by have : (i 0).val < 4 := (i 0).isLt; omega)]; rfl

/-- The weights' column block: the grid's own where the row block is live, the first otherwise. -/
def wcol (i : grid1.Coords) (n : BitVec 32) : Nat :=
  if Scalar.cmpi .slt (Scalar.muli (BitVec.ofNat 32 (i 1).val) 1024#32) n = 1#1 then (i 2).val else 0

theorem ix1_2 (pf : pre1.Contents (Elt F)) (i : grid1.Coords) :
    cc1_transform_2 k1_off1_inb numel1_S1 pf i = ![0, wcol i (at1 pf i)] := by
  have h : cc1_transform_2 k1_off1_inb numel1_S1 pf i = ![(0#32 : BitVec 32).toNat, (Scalar.select (Scalar.cmpi .slt (Scalar.muli (BitVec.ofNat 32 (i 1).val) 1024#32) (at1 pf i)) (BitVec.ofNat 32 (i 2).val) 0#32).toNat] := rfl
  rw [h]; unfold wcol Scalar.select
  have e : (1 : BitVec 1) = 1#1 := rfl
  rw [e]
  split
  · exact congrArg (fun z => (![0, z] : Fin 2 → Nat)) (toNat_axis _ (by have : (i 2).val < 16 := (i 2).isLt; omega))
  · rfl

theorem ix2_1 (pf : pre2.Contents (Elt F)) (i : grid2.Coords) :
    cc2_transform_1 k2_off1_inb numel1_S1 pf i = ![(i 2).val, (clampW 1024#32 (at2 pf i) (BitVec.ofNat 32 (i 3).val)).toNat, (i 0).val] := by
  have h : cc2_transform_1 k2_off1_inb numel1_S1 pf i = ![(BitVec.ofNat 32 (i 2).val).toNat, (clampW 1024#32 (at2 pf i) (BitVec.ofNat 32 (i 3).val)).toNat, (BitVec.ofNat 32 (i 0).val).toNat] := rfl
  rw [h, toNat_axis (i 2).val (by have : (i 2).val < 4 := (i 2).isLt; omega), toNat_axis (i 0).val (by have : (i 0).val < 10 := (i 0).isLt; omega)]

theorem ix2_2 (pf : pre2.Contents (Elt F)) (i : grid2.Coords) :
    cc2_transform_2 k2_off1_inb numel1_S1 pf i = ![(i 2).val, (clampW 1024#32 (at2 pf i) (BitVec.ofNat 32 (i 3).val)).toNat, (i 1).val] := by
  have h : cc2_transform_2 k2_off1_inb numel1_S1 pf i = ![(BitVec.ofNat 32 (i 2).val).toNat, (clampW 1024#32 (at2 pf i) (BitVec.ofNat 32 (i 3).val)).toNat, (BitVec.ofNat 32 (i 1).val).toNat] := rfl
  rw [h, toNat_axis (i 2).val (by have : (i 2).val < 4 := (i 2).isLt; omega), toNat_axis (i 1).val (by have : (i 1).val < 8 := (i 1).isLt; omega)]

/-- A block of three axes is inside its array when each index is. -/
theorem blk3 {a b c p q r P Q R : Nat} (h0 : (a + 1) * p ≤ P) (h1 : (b + 1) * q ≤ Q) (h2 : (c + 1) * r ≤ R) :
    ∀ x : Fin 3, ((![a, b, c] : Fin 3 → Nat) x + 1) * (![p, q, r] : Fin 3 → Nat) x ≤ (![P, Q, R] : Fin 3 → Nat) x := by
  intro x; fin_cases x
  exacts [h0, h1, h2]
theorem blk2 {a b p q P Q : Nat} (h0 : (a + 1) * p ≤ P) (h1 : (b + 1) * q ≤ Q) :
    ∀ x : Fin 2, ((![a, b] : Fin 2 → Nat) x + 1) * (![p, q] : Fin 2 → Nat) x ≤ (![P, Q] : Fin 2 → Nat) x := by
  intro x; fin_cases x
  exacts [h0, h1]

/-- Every table is admissible for the quantiser. -/
theorem ok0_all (pf : pre0.Contents (Elt F)) : ok0 pf := by
  intro i
  have hinb : ∀ a, (cc0_transform_1 k0_off1_inb numel1_S1 pf i a + 1) * S1x256x10240.size a ≤ S4x3072x10240.size a := by
    rw [ix0_1]
    have h0 : (i 0).val < 4 := (i 0).isLt
    have h1 : (i 1).val < 12 := (i 1).isLt
    have := clampW_le 256#32 (at0 pf i) (i 1).val (by omega)
    exact blk3 (by omega) (by omega) (by omega)
  exact ⟨hinb, Or.inr (Affine.block_words_dvd (by decide) (by decide))⟩

/-- Every table is admissible for the input gradient. -/
theorem ok1_all (pf : pre1.Contents (Elt F)) : ok1 pf := by
  refine ⟨fun i => ?_, fun i => ?_⟩
  · have hinb : ∀ a, (cc1_transform_1 k1_off1_inb numel1_S1 pf i a + 1) * S1x1024x10240.size a ≤ S4x3072x10240.size a := by
      rw [ix1_1]
      have h0 : (i 0).val < 4 := (i 0).isLt
      have h1 : (i 1).val < 3 := (i 1).isLt
      have := clampW_le 1024#32 (at1 pf i) (i 1).val (by omega)
      exact blk3 (by omega) (by omega) (by omega)
    exact ⟨hinb, Or.inr (Affine.block_words_dvd (by decide) (by decide))⟩
  · have hinb : ∀ a, (cc1_transform_2 k1_off1_inb numel1_S1 pf i a + 1) * S10240x512.size a ≤ S10240x8192.size a := by
      rw [ix1_2]
      have h1 : (i 2).val < 16 := (i 2).isLt
      have : wcol i (at1 pf i) < 16 := by unfold wcol; split <;> omega
      exact blk2 (by omega) (by omega)
    exact ⟨hinb, Or.inr (Affine.block_words_dvd (by decide) (by decide))⟩

/-- Every table is admissible for the weight gradient. -/
theorem ok2_all (pf : pre2.Contents (Elt F)) : ok2 pf := by
  refine ⟨fun i => ?_, fun i => ?_⟩
  · have hinb : ∀ a, (cc2_transform_1 k2_off1_inb numel1_S1 pf i a + 1) * S1x1024x1024.size a ≤ S4x3072x10240.size a := by
      rw [ix2_1]
      have h0 : (i 2).val < 4 := (i 2).isLt
      have h1 : (i 3).val < 3 := (i 3).isLt
      have h2 : (i 0).val < 10 := (i 0).isLt
      have := clampW_le 1024#32 (at2 pf i) (i 3).val (by omega)
      exact blk3 (by omega) (by omega) (by omega)
    exact ⟨hinb, Or.inr (Affine.block_words_dvd (by decide) (by decide))⟩
  · have hinb : ∀ a, (cc2_transform_2 k2_off1_inb numel1_S1 pf i a + 1) * S1x1024x1024.size a ≤ S4x3072x8192.size a := by
      rw [ix2_2]
      have h0 : (i 2).val < 4 := (i 2).isLt
      have h1 : (i 3).val < 3 := (i 3).isLt
      have h2 : (i 1).val < 8 := (i 1).isLt
      have := clampW_le 1024#32 (at2 pf i) (i 3).val (by omega)
      exact blk3 (by omega) (by omega) (by omega)
    exact ⟨hinb, Or.inr (Affine.block_words_dvd (by decide) (by decide))⟩

end Cert.Kernel.Hand
-- ==== Proof.K.Reg0.lean ====
/-
  The quantising call over its grid, for any float interpretation: what each point leaves in its staging buffers, and
  the body's obligation at every point. The running maximum is carried from point to point.
-/
module

public import proofs.«01_k».proof.Proof.K.Body0
public import proofs.«01_k».proof.Proof.K.Ok
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the quantising call reads at entry, -/
def tbl0 : pre0.Contents (Elt F) := fun j => W (0 : Dev nD) (Proc.devRef .tc (pre0.ref j))
/-- admissible as every table is, -/
abbrev adm0 : (pcfg0 (F := F)).Adm := ⟨tbl0 W, ok0_all _⟩
/-- and the pipeline at it. -/
abbrev cf0 : Pipeline.Cfg sig Λ₀ := cfg0 (adm0 W)

/-- Window `w`'s block at point `t`, read off its array at entry. -/
def iblk0 (c : Dev nD) (w : Fin (cf0 W).W) (t : Fin (cf0 W).N) : (((cf0 W).win w).xblock ((cf0 W).grid.coords t)).Idx → Elt F ((cf0 W).win w).elt :=
  (((cf0 W).win w).blk t).view.read (Elt F) (W c (Proc.devRef .tc (Pipeline.arrRef spec0 w)))

/-- The scale and the gradient block at a point, at their vector types; the table at its buffer's. -/
def sb0 (c : Dev nD) (t : Fin (cf0 W).N) : Vec F S1 .f32 := iblk0 W c 0 t
def gb0 (c : Dev nD) (t : Fin (cf0 W).N) : Vec F S1x256x10240 .bf16 := iblk0 W c 1 t
def tb0 (c : Dev nD) : TbBuf (F := F) c := tbl0 W 0

/-- The length read at a point. -/
abbrev ln0 (c : Dev nD) (t : Fin (cf0 W).N) : BitVec 32 := len0 (F := F) c (grid0.coords t) (tb0 W c)

/-- The running maximum after each point. -/
def acc0 (c : Dev nD) : (n : ℕ) → n < (cf0 W).N → Vec F S1x1 .f32
  | 0, h => accOut0 (grid0.coords ⟨0, h⟩) (ln0 W c ⟨0, h⟩) (gb0 W c ⟨0, h⟩) (k0_pay1 (F := F))
  | n + 1, h => accOut0 (grid0.coords ⟨n + 1, h⟩) (ln0 W c ⟨n + 1, h⟩) (gb0 W c ⟨n + 1, h⟩) (acc0 c n (Nat.lt_of_succ_lt h))

/-- The block of codes each point leaves. -/
def cod0 (c : Dev nD) (t : Fin (cf0 W).N) : Vec F S1x256x10240 .fp8e5m2 :=
  codes0 (grid0.coords t) (ln0 W c t) (gb0 W c t) (word1 (sb0 W c t)) (k0_pay5 (F := F))

/-- The proof data of the quantising call. -/
def dat0 (c : Dev nD) : Dat τ (Elt F) ℕ ℕ (UR sig nD τ) ℕ (cf0 W) c where
  A w := W c (Proc.devRef .tc (Pipeline.arrRef spec0 w))
  after w t := match w with
    | ⟨0, _⟩ => sb0 W c t
    | ⟨1, _⟩ => gb0 W c t
    | ⟨2, _⟩ => cod0 W c t
    | ⟨3, _⟩ => acc0 W c t.val t.isLt
  Φ _ := iprop(iprop(Pipeline.scopedRest spec0 c ∗ emp) ∗ Pipeline.prefHeld pre0 c (fun _ => fullShare) (tbl0 W))
  q _ := fullShare
  owed _ := 0

theorem A0_eq (c : Dev nD) (w : Fin (cf0 W).W) : (dat0 W c).A w = W c (Proc.devRef .tc (Pipeline.arrRef spec0 w)) := by
  dsimp only [dat0]
theorem after0_0 (c : Dev nD) (t : Fin (cf0 W).N) : (dat0 W c).after 0 t = sb0 W c t := by dsimp only [dat0]; try rfl
theorem after0_1 (c : Dev nD) (t : Fin (cf0 W).N) : (dat0 W c).after 1 t = gb0 W c t := by dsimp only [dat0]; try rfl
theorem after0_2 (c : Dev nD) (t : Fin (cf0 W).N) : (dat0 W c).after 2 t = cod0 W c t := by dsimp only [dat0]; try rfl
theorem after0_3 (c : Dev nD) (t : Fin (cf0 W).N) : (dat0 W c).after 3 t = acc0 W c t.val t.isLt := by dsimp only [dat0]; try rfl

theorem before0_0 (c : Dev nD) (t : Fin (cf0 W).N) (d) : (dat0 W c).before 0 t d = sb0 W c t :=
  ((dat0 W c).before_in_eq_fetched 0 rfl (fun _ => rfl) (fun _ _ _ => rfl) (fun t => by rw [after0_0]; unfold Dat.blockOf sb0 iblk0; rw [A0_eq]; try rfl) t d).trans
    (by unfold Dat.fetched Dat.blockOf sb0 iblk0; rw [A0_eq]; try rfl)
theorem before0_1 (c : Dev nD) (t : Fin (cf0 W).N) (d) : (dat0 W c).before 1 t d = gb0 W c t :=
  ((dat0 W c).before_in_eq_fetched 1 rfl (fun _ => rfl) (fun _ _ _ => rfl) (fun t => by rw [after0_1]; unfold Dat.blockOf gb0 iblk0; rw [A0_eq]; try rfl) t d).trans
    (by unfold Dat.fetched Dat.blockOf gb0 iblk0; rw [A0_eq]; try rfl)

/-- A point either holds a live row or holds none. -/
theorem cond0_or (i : grid0.Coords) (n : BitVec 32) : k0_cond2 i n = 1#1 ∨ k0_cond3 i n = 1#1 := by
  unfold k0_cond2 k0_cond3
  simp only
  generalize Scalar.muli (BitVec.ofNat 32 (i 1).val) 256#32 = x
  unfold Scalar.cmpi
  rw [WordCmp.cmpi_slt_eq, WordCmp.cmpi_sge_eq]
  by_cases h : x.toInt < n.toInt
  · left; rw [decide_eq_true h]; rfl
  · right; rw [decide_eq_true (by omega : n.toInt ≤ x.toInt)]; rfl

/-- The first point resets the running maximum. -/
theorem cond0_first (t : Fin grid0.N) (h : t.val = 0) : k0_cond1 (grid0.coords t) = 1#1 := by
  have e : t = ⟨0, by decide⟩ := Fin.ext h
  subst e; decide

theorem len0_at (c : Dev nD) (i : grid0.Coords) (T : pre0.Contents (Elt F)) : len0 (F := F) c i (T 0) = at0 T i := rfl
theorem len0_atD (c : Dev nD) (i : grid0.Coords) (T : pre0.Contents (Elt F)) : T.atD 0 (k0_off1 i) = len0 (F := F) c i (T 0) :=
  ((len0_at c i T).trans (at0_atD T i)).symm

/-- The code block's window is stored at every point. -/
theorem live0_2 (t : Fin (cf0 W).N) : (cf0 W).idle 2 (grid0.coords t) = false := by
  show (!(k0_cond2 (grid0.coords t) ((tbl0 W).atD 0 (k0_off1 (grid0.coords t))) == 1#1) && !(k0_cond3 (grid0.coords t) ((tbl0 W).atD 0 (k0_off1 (grid0.coords t))) == 1#1)) = false
  rcases cond0_or (grid0.coords t) ((tbl0 W).atD 0 (k0_off1 (grid0.coords t))) with h | h <;> rw [h] <;> simp

/-- The running maximum's window is stored where the point resets it or holds a live row. -/
theorem idle0_3 (c : Dev nD) (t : Fin (cf0 W).N) : (cf0 W).idle 3 (grid0.coords t) = (!(k0_cond1 (grid0.coords t) == 1#1) && !(k0_cond2 (grid0.coords t) (ln0 W c t) == 1#1)) := by
  unfold ln0; rw [show len0 (F := F) c (grid0.coords t) (tb0 W c) = (tbl0 W).atD 0 (k0_off1 (grid0.coords t)) from (len0_atD c _ _).symm]; rfl

theorem flush0_3 (t : Fin (cf0 W).N) (h : t.val + 1 ≠ (cf0 W).N) : ((cf0 W).win 3).flush t = false := by
  unfold Pipeline.Window.flush
  have h1 : (decide (t.val + 1 = (cf0 W).grid.N)) = false := decide_eq_false h
  have h2 : (decide (∃ h : t.val + 1 < (cf0 W).grid.N, ((cf0 W).win 3).index ⟨t.val + 1, h⟩ ≠ ((cf0 W).win 3).index t)) = false :=
    decide_eq_false (fun ⟨_, hne⟩ => hne rfl)
  rw [h1, h2]; simp

theorem fresh0_3 (c : Dev nD) : ∀ (n : ℕ) (_ : n < (cf0 W).N), (cf0 W).fresh 3 n = decide (n = 0)
  | 0, _ => rfl
  | n + 1, h => by
    rw [(cf0 W).fresh_succ 3 n (Nat.lt_of_succ_lt h), flush0_3 W ⟨n, Nat.lt_of_succ_lt h⟩ (Nat.ne_of_lt h), fresh0_3 c n (Nat.lt_of_succ_lt h)]
    by_cases hn : n = 0
    · have := cond0_first ⟨n, Nat.lt_of_succ_lt h⟩ hn
      have hi : (cf0 W).idle 3 (grid0.coords ⟨n, Nat.lt_of_succ_lt h⟩) = false := by rw [idle0_3 W c, this]; simp
      rw [show (cf0 W).grid.coords ⟨n, Nat.lt_of_succ_lt h⟩ = grid0.coords ⟨n, Nat.lt_of_succ_lt h⟩ from rfl, hi]; simp
    · simp [hn]

/-- At a point that neither resets nor holds a live row the running maximum stays. -/
theorem accOut0_idle (i : grid0.Coords) (n : BitVec 32) (d : Vec F S1x256x10240 .bf16) (acc : Vec F S1x1 .f32)
    (h : (!(k0_cond1 i == 1#1) && !(k0_cond2 i n == 1#1)) = true) : accOut0 i n d acc = acc := by
  simp only [Bool.and_eq_true, Bool.not_eq_true', beq_eq_false_iff_ne, ne_eq] at h
  unfold accOut0 accIn0
  rw [if_neg h.2, if_neg h.1]

theorem acc0_pos (c : Dev nD) (t : Fin (cf0 W).N) (h : t.val ≠ 0) :
    acc0 W c t.val t.isLt = accOut0 (grid0.coords t) (ln0 W c t) (gb0 W c t) (acc0 W c (t.val - 1) (by omega)) := by
  obtain ⟨n, hn⟩ := t
  cases n with
  | zero => exact absurd rfl h
  | succ n => rfl

theorem acc0_zero (c : Dev nD) (t : Fin (cf0 W).N) (h : t.val = 0) (old : Vec F S1x1 .f32) :
    acc0 W c t.val t.isLt = accOut0 (grid0.coords t) (ln0 W c t) (gb0 W c t) old := by
  obtain ⟨n, hn⟩ := t
  simp only at h; subst h
  have e : ∀ x y, accOut0 (F := F) (grid0.coords ⟨0, hn⟩) (ln0 W c ⟨0, hn⟩) (gb0 W c ⟨0, hn⟩) x = accOut0 (grid0.coords ⟨0, hn⟩) (ln0 W c ⟨0, hn⟩) (gb0 W c ⟨0, hn⟩) y := by
    intro x y; unfold accOut0 accIn0; rw [if_pos (cond0_first ⟨0, hn⟩ rfl), if_pos (cond0_first ⟨0, hn⟩ rfl)]
  exact e _ _

/-- What the running maximum's buffer holds when the body runs. -/
theorem before0_3 (c : Dev nD) (t : Fin (cf0 W).N) (d) :
    (dat0 W c).before 3 t d = if t.val = 0 then d else acc0 W c (t.val - 1) (by omega) := by
  rw [(dat0 W c).before_out_traj 3 rfl (fun _ _ => rfl) (fun t ht hi _ => by
    rw [after0_3, after0_3, acc0_pos W c t ht]
    rw [show (cf0 W).grid.coords t = grid0.coords t from rfl, idle0_3 W c] at hi
    exact accOut0_idle _ _ _ _ hi) t.val t rfl d, fresh0_3 W c t.val t.isLt, after0_3]
  by_cases h : t.val = 0
  · simp only [h, decide_true, if_true]
  · exact (if_neg (by simp [h])).trans (if_neg h).symm

/-- The same at its vector type. -/
def mx0 (c : Dev nD) (t : Fin (cf0 W).N) (d : ((cf0 W).win 3).block.Idx → Elt F ((cf0 W).win 3).elt) : Vec F S1x1 .f32 := (dat0 W c).before 3 t d
def od0 (c : Dev nD) (t : Fin (cf0 W).N) (d : ((cf0 W).win 2).block.Idx → Elt F ((cf0 W).win 2).elt) : Vec F S1x256x10240 .fp8e5m2 := (dat0 W c).before 2 t d

theorem mx0_pos (c : Dev nD) (t : Fin (cf0 W).N) (d) (h : t.val ≠ 0) : mx0 W c t d = acc0 W c (t.val - 1) (by omega) :=
  (before0_3 W c t d).trans (if_neg h)

/-- So the point's update of what it finds is the running maximum after it. -/
theorem accOut0_before (c : Dev nD) (t : Fin (cf0 W).N) (d) :
    accOut0 (grid0.coords t) (ln0 W c t) (gb0 W c t) (mx0 W c t d) = acc0 W c t.val t.isLt := by
  by_cases h : t.val = 0
  · exact (acc0_zero W c t h _).symm
  · rw [mx0_pos W c t d h, acc0_pos W c t h]

theorem codes0_old (i : grid0.Coords) (n : BitVec 32) (d : Vec F S1x256x10240 .bf16) (s : Elt F .f32) (x y : Vec F S1x256x10240 .fp8e5m2) :
    codes0 i n d s x = codes0 i n d s y := by
  unfold codes0
  by_cases h3 : k0_cond3 i n = 1#1
  · rw [if_pos h3, if_pos h3]
  · have h2 := (cond0_or i n).resolve_right h3
    rw [if_neg h3, if_neg h3, if_pos h2, if_pos h2]

/-- The table held whole, as the body is handed it. -/
theorem pref0_eq (c : Dev nD) : (Pipeline.prefHeld pre0 c (fun _ => fullShare) (tbl0 W) : sProp 𝕄) = tbPt c (tb0 W c) := by
  unfold Pipeline.prefHeld
  rw [show (Finset.univ : Finset (Fin 1)) = {(0 : Fin 1)} from by decide, bigSep_singleton]
  rfl

/-- Each window's staging memref at a point. -/
abbrev ms0_0 (t : Fin (cf0 W).N) : Memref sig .tc .smem S1 .f32 := spec0_0.stage ((cf0 W).slots t 0)
abbrev ms0_1 (t : Fin (cf0 W).N) : Memref sig .tc .vmem S1x256x10240 .bf16 := spec0_1.stage ((cf0 W).slots t 1)
abbrev ms0_2 (t : Fin (cf0 W).N) : Memref sig .tc .vmem S1x256x10240 .fp8e5m2 := spec0_2.stage ((cf0 W).slots t 2)
abbrev ms0_3 (t : Fin (cf0 W).N) : Memref sig .tc .vmem S1x1 .f32 := spec0_3.stage ((cf0 W).slots t 3)

/-- The body at a point, as the pipeline calls it. -/
abbrev bodyAt0 (t : Fin (cf0 W).N) : Prog (TpuEff nD τ sig (Elt F) Λ₀ .tc) PUnit :=
  cc0_quant (grid0.coords t) (Memref.whole main_arg7) (Memref.isWhole_whole _) (ms0_0 W t) (hstage0_0 (((cf0 W).slots t 0).cast nbuf0_0)) (ms0_1 W t) (hstage0_1 (((cf0 W).slots t 1).cast nbuf0_1)) (ms0_2 W t) (hstage0_2 (((cf0 W).slots t 2).cast nbuf0_2)) (ms0_3 W t) (hstage0_3 (((cf0 W).slots t 3).cast nbuf0_3))

/-- What the body is called with at a point, -/
def bodyPre0 (c : Dev nD) (t : Fin (cf0 W).N) : sProp 𝕄 :=
  iprop((dat0 W c).Φ t.castSucc ∗ (dat0 W c).owesAt 0 t.castSucc
    ∗ (∃ d, owns (c : Thread nD τ) (ms0_0 W t) fullShare ((dat0 W c).before 0 t d))
    ∗ (∃ d, owns (c : Thread nD τ) (ms0_1 W t) fullShare ((dat0 W c).before 1 t d))
    ∗ (∃ d, owns (c : Thread nD τ) (ms0_2 W t) fullShare ((dat0 W c).before 2 t d))
    ∗ (∃ d, owns (c : Thread nD τ) (ms0_3 W t) fullShare ((dat0 W c).before 3 t d)))

/-- and what it returns. -/
def bodyPost0 (c : Dev nD) (t : Fin (cf0 W).N) : sProp 𝕄 :=
  iprop((dat0 W c).Φ t.succ ∗ (dat0 W c).owesAt 0 t.succ
    ∗ (dat0 W c).leavesExact 0 t
    ∗ (dat0 W c).leavesExact 1 t
    ∗ (dat0 W c).leavesExact 2 t
    ∗ (dat0 W c).leavesExact 3 t)

/-- The running maximum's buffer at the point's contents is what the point hands back, stored or not. -/
theorem leaves0_3 (c : Dev nD) (t : Fin (cf0 W).N) (d) :
    (owns (c : Thread nD τ) (ms0_3 W t) fullShare (accOut0 (grid0.coords t) (ln0 W c t) (gb0 W c t) (mx0 W c t d)) : sProp 𝕄)
      ⊢ (dat0 W c).leavesExact 3 t := by
  by_cases hi : (cf0 W).idle 3 (grid0.coords t) = true
  · by_cases hf : ((cf0 W).win 3).flush t = true
    · rw [accOut0_before]
      rw [show (dat0 W c).leavesExact 3 t = owns (c : Thread nD τ) (ms0_3 W t) fullShare ((dat0 W c).after 3 t) from by
        unfold Dat.leavesExact; rw [show (cf0 W).idle 3 ((cf0 W).grid.coords t) = true from hi, hf]; rfl, after0_3]
    · rw [Dat.leavesExact_idle _ 3 t hi (Bool.eq_false_iff.mpr hf)]
      rw [idle0_3 W c] at hi
      rw [accOut0_idle _ _ _ _ hi]
      iintro H; iexists d; iexact H
  · rw [accOut0_before]
    rw [show (dat0 W c).leavesExact 3 t = owns (c : Thread nD τ) (ms0_3 W t) fullShare ((dat0 W c).after 3 t) from by
        unfold Dat.leavesExact; rw [show (cf0 W).idle 3 ((cf0 W).grid.coords t) = false from Bool.eq_false_iff.mpr hi]; rfl, after0_3]

/-- The body at any point. -/
theorem sound_body0 (c : Dev nD) (t : Fin (cf0 W).N) :
    bodyPre0 W c t ⊢ wp frame (wpE (defs₀ (F := F)) Variants.none c none) Set.univ (bodyAt0 W t) (fun _ => bodyPost0 W c t) := by
  unfold bodyPre0 bodyPost0 bodyAt0
  simp only [before0_0, before0_1]
  rw [show (dat0 W c).owesAt 0 t.succ = (dat0 W c).owesAt 0 t.castSucc from rfl]
  rw [show (dat0 W c).Φ t.succ = (dat0 W c).Φ t.castSucc from rfl]
  rw [show (dat0 W c).Φ t.castSucc = iprop(iprop(Pipeline.scopedRest spec0 c ∗ emp) ∗ Pipeline.prefHeld pre0 c (fun _ => fullShare) (tbl0 W)) from rfl, pref0_eq]
  rw [show (dat0 W c).leavesExact 0 t = owns (c : Thread nD τ) (ms0_0 W t) fullShare ((dat0 W c).after 0 t) from by
      unfold Dat.leavesExact; rw [show (cf0 W).idle 0 ((cf0 W).grid.coords t) = false from rfl]; try rfl, after0_0]
  rw [show (dat0 W c).leavesExact 1 t = owns (c : Thread nD τ) (ms0_1 W t) fullShare ((dat0 W c).after 1 t) from by
      unfold Dat.leavesExact; rw [show (cf0 W).idle 1 ((cf0 W).grid.coords t) = false from rfl]; try rfl, after0_1]
  rw [show (dat0 W c).leavesExact 2 t = owns (c : Thread nD τ) (ms0_2 W t) fullShare ((dat0 W c).after 2 t) from by
      unfold Dat.leavesExact; rw [show (cf0 W).idle 2 ((cf0 W).grid.coords t) = false from live0_2 W t]; try rfl, after0_2]
  iintro ⟨⟨HR, HT⟩, Ho, ⟨%d0, H0⟩, ⟨%d1, H1⟩, ⟨%d2, H2⟩, ⟨%d3, H3⟩⟩
  iapply (run0 c (grid0.coords t) _ _ _ _ _ _ _ _ (sb0 W c t) (gb0 W c t) (od0 W c t d2) (mx0 W c t d3) (tb0 W c) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HR HT]
  · isplitl [HR]; · iexact HR
    iexact HT
  isplitl [Ho]; · iexact Ho
  isplitl [H0]; · iexact H0
  isplitl [H1]; · iexact H1
  isplitl [H2]
  · unfold cod0
    rw [codes0_old _ _ _ _ (k0_pay5 (F := F)) (od0 W c t d2)]
    iexact H2
  iapply (leaves0_3 W c t d3)
  iexact H3

theorem defs₀_row0 (t : Fin (cf0 W).N) : defs₀ (F := F) .tc (cf0 W).body ((cf0 W).bodyArgs t ((cf0 W).slots t)) = bodyAt0 W t := by
  unfold defs₀; rw [Defs.onTc_tc]

/-- The body's obligation at every point. -/
theorem obl0 (c : Dev nD) : BodyObligation (dat0 W c) (defs₀ (F := F)) Variants.none 0 Set.univ := fun t => by
  rw [bigSep_W0, bigSep_W0, defs₀_row0 W]
  exact triple_restated (sound_body0 W c t) rfl .rfl fun _ => .rfl

end Cert.Kernel.Hand
-- ==== Proof.K.Body1.lean ====
/-
  The input-gradient kernel's body at one grid point, for any float interpretation: what it leaves in the output block,
  as a plain function of the block of codes, the block of weights, the scale and the sequence length.
-/
module

public import proofs.«01_k».proof.Proof.K.Body0

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig ℕ (Elt F) ℕ (UR sig nD τ) ℕ

/-- The sequence length the body reads at grid point `i`. -/
abbrev len1 (c : Dev nD) (i : grid1.Coords) (T : TbBuf (F := F) c) : BitVec 32 :=
  tbM.view.readAt (Elt F) (Rect.unit (s := S4) (k1_off1 i) S1.size (k1_off1_inb i)).toLoadRect T (Shape.Idx.first (numel1_S1.symm ▸ Nat.one_pos))

/-- The output block the point leaves: the scaled product where the tile holds a live row, zeros where it holds none. -/
def out1 (i : grid1.Coords) (n : BitVec 32) (s : Elt F .f32) (q : Vec F S1x1024x10240 .fp8e5m2) (w : Vec F S10240x512 .fp8e4m3)
    (old : Vec F S1x1024x512 .bf16) : Vec F S1x1024x512 .bf16 :=
  if k1_cond2 i n = 1#1 then k1_pay2 (F := F) else if k1_cond1 i n = 1#1 then k1_pay1 q w s else old

theorem k1_pay1_congr {q q' : Vec F S1x1024x10240 .fp8e5m2} {w w' : Vec F S10240x512 .fp8e4m3} {x x' : Elt F .f32}
    (hq : q = q') (hw : w = w') (hx : x = x') : k1_pay1 q w x = k1_pay1 q' w' x' := by subst hq hw hx; rfl

set_option maxHeartbeats 4000000 in
/-- The input-gradient body, run on any staging buffers. -/
theorem run1 (c : Dev nD) (i : grid1.Coords)
    (arg4 : Memref sig .tc .smem S1 .f32) (harg4 : arg4.IsWhole) (arg5 : Memref sig .tc .vmem S1x1024x10240 .fp8e5m2) (harg5 : arg5.IsWhole)
    (arg6 : Memref sig .tc .vmem S10240x512 .fp8e4m3) (harg6 : arg6.IsWhole) (arg7 : Memref sig .tc .vmem S1x1024x512 .bf16) (harg7 : arg7.IsWhole)
    (s : Vec F S1 .f32) (q : Vec F S1x1024x10240 .fp8e5m2) (w : Vec F S10240x512 .fp8e4m3) (o : Vec F S1x1024x512 .bf16) (T : TbBuf (F := F) c)
    (E : Set ℕ) (K : PUnit → sProp 𝕄) :
    iprop(owns (c : Thread nD τ) arg4 fullShare s ∗ owns (c : Thread nD τ) arg5 fullShare q ∗ owns (c : Thread nD τ) arg6 fullShare w
        ∗ owns (c : Thread nD τ) arg7 fullShare o ∗ tbPt c T
        ∗ (iprop(owns (c : Thread nD τ) arg4 fullShare s ∗ owns (c : Thread nD τ) arg5 fullShare q ∗ owns (c : Thread nD τ) arg6 fullShare w
            ∗ owns (c : Thread nD τ) arg7 fullShare (out1 i (len1 c i T) (word1 s) q w o) ∗ tbPt c T) -∗ K ⟨⟩))
      ⊢ wp frame (wpE (defs₀ (F := F)) Variants.none c none) E
          (cc1_dgrad i tbM (Memref.isWhole_whole _) arg4 harg4 arg5 harg5 arg6 harg6 arg7 harg7) K := by
  simp only [cc1_dgrad_eq_skeleton]; unfold cc1_dgrad_skel
  unfold out1
  by_cases hc1 : k1_cond1 i (len1 c i T) = 1#1 <;> by_cases hc2 : k1_cond2 i (len1 c i T) = 1#1
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact rfl
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact k1_pay1_congr (View.readAt_rep_full (s := S1x1024x10240) arg5.view q inb_S1x1024x10240_S1x1024x10240_0_0_0) (View.readAt_rep_full (s := S10240x512) arg6.view w inb_S10240x512_S10240x512_0_0) (congrFun (View.readAt_rep_full (s := S1) arg4.view s inb_S1_S1_0) _)
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact rfl
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iexact H7
    iexact HT

end Cert.Kernel.Hand

end
-- ==== Proof.K.Reg1.lean ====
/-
  The input-gradient call over its grid, for any float interpretation: what each point leaves in its output block, and
  the body's obligation at every point.
-/
module

public import proofs.«01_k».proof.Proof.K.Body1
public import proofs.«01_k».proof.Proof.K.Ok
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the call reads at entry, -/
def tbl1 : pre1.Contents (Elt F) := fun j => W (0 : Dev nD) (Proc.devRef .tc (pre1.ref j))
/-- admissible as every table is, -/
abbrev adm1 : (pcfg1 (F := F)).Adm := ⟨tbl1 W, ok1_all _⟩
/-- and the pipeline at it. -/
abbrev cf1 : Pipeline.Cfg sig Λ₀ := cfg1 (adm1 W)

/-- Window `w`'s block at point `t`, read off its array at entry. -/
def iblk1 (c : Dev nD) (w : Fin (cf1 W).W) (t : Fin (cf1 W).N) : (((cf1 W).win w).xblock ((cf1 W).grid.coords t)).Idx → Elt F ((cf1 W).win w).elt :=
  (((cf1 W).win w).blk t).view.read (Elt F) (W c (Proc.devRef .tc (Pipeline.arrRef spec1 w)))

/-- The table at its buffer's type, and the length read at a point. -/
def tb1 (c : Dev nD) : TbBuf (F := F) c := tbl1 W 0
abbrev ln1 (c : Dev nD) (t : Fin (cf1 W).N) : BitVec 32 := len1 (F := F) c (grid1.coords t) (tb1 W c)

/-- Input window 0's block at a point, at its vector type. -/
def sb1 (c : Dev nD) (t : Fin (cf1 W).N) : Vec F S1 .f32 := iblk1 W c 0 t
/-- Input window 1's block at a point, at its vector type. -/
def qb1 (c : Dev nD) (t : Fin (cf1 W).N) : Vec F S1x1024x10240 .fp8e5m2 := iblk1 W c 1 t
/-- Input window 2's block at a point, at its vector type. -/
def wb1 (c : Dev nD) (t : Fin (cf1 W).N) : Vec F S10240x512 .fp8e4m3 := iblk1 W c 2 t

/-- The output block each point leaves. -/
def ob1 (c : Dev nD) (t : Fin (cf1 W).N) : Vec F S1x1024x512 .bf16 :=
  out1 (grid1.coords t) (ln1 W c t) (word1 (sb1 W c t)) (qb1 W c t) (wb1 W c t) (k1_pay2 (F := F))

/-- The proof data of the input-gradient call. -/
def dat1 (c : Dev nD) : Dat τ (Elt F) ℕ ℕ (UR sig nD τ) ℕ (cf1 W) c where
  A w := W c (Proc.devRef .tc (Pipeline.arrRef spec1 w))
  after w t := match w with
    | ⟨0, _⟩ => sb1 W c t
    | ⟨1, _⟩ => qb1 W c t
    | ⟨2, _⟩ => wb1 W c t
    | ⟨3, _⟩ => ob1 W c t
  Φ _ := iprop(iprop(Pipeline.scopedRest spec1 c ∗ emp) ∗ Pipeline.prefHeld pre1 c (fun _ => fullShare) (tbl1 W))
  q _ := fullShare
  owed _ := 0

theorem A1_eq (c : Dev nD) (w : Fin (cf1 W).W) : (dat1 W c).A w = W c (Proc.devRef .tc (Pipeline.arrRef spec1 w)) := by
  dsimp only [dat1]
theorem after1_0 (c : Dev nD) (t : Fin (cf1 W).N) : (dat1 W c).after 0 t = sb1 W c t := by dsimp only [dat1]; try rfl
theorem after1_1 (c : Dev nD) (t : Fin (cf1 W).N) : (dat1 W c).after 1 t = qb1 W c t := by dsimp only [dat1]; try rfl
theorem after1_2 (c : Dev nD) (t : Fin (cf1 W).N) : (dat1 W c).after 2 t = wb1 W c t := by dsimp only [dat1]; try rfl
theorem after1_3 (c : Dev nD) (t : Fin (cf1 W).N) : (dat1 W c).after 3 t = ob1 W c t := by dsimp only [dat1]; try rfl

theorem before1_0 (c : Dev nD) (t : Fin (cf1 W).N) (d) : (dat1 W c).before 0 t d = sb1 W c t :=
  ((dat1 W c).before_in_eq_fetched 0 rfl (fun _ => rfl) (fun _ _ _ => rfl) (fun t => by rw [after1_0]; unfold Dat.blockOf sb1 iblk1; rw [A1_eq]; try rfl) t d).trans
    (by unfold Dat.fetched Dat.blockOf sb1 iblk1; rw [A1_eq]; try rfl)
theorem before1_1 (c : Dev nD) (t : Fin (cf1 W).N) (d) : (dat1 W c).before 1 t d = qb1 W c t :=
  ((dat1 W c).before_in_eq_fetched 1 rfl (fun _ => rfl) (fun _ _ _ => rfl) (fun t => by rw [after1_1]; unfold Dat.blockOf qb1 iblk1; rw [A1_eq]; try rfl) t d).trans
    (by unfold Dat.fetched Dat.blockOf qb1 iblk1; rw [A1_eq]; try rfl)
theorem before1_2 (c : Dev nD) (t : Fin (cf1 W).N) (d) : (dat1 W c).before 2 t d = wb1 W c t :=
  ((dat1 W c).before_in_eq_fetched 2 rfl (fun _ => rfl) (fun _ _ _ => rfl) (fun t => by rw [after1_2]; unfold Dat.blockOf wb1 iblk1; rw [A1_eq]; try rfl) t d).trans
    (by unfold Dat.fetched Dat.blockOf wb1 iblk1; rw [A1_eq]; try rfl)

/-- The table held whole, as the body is handed it. -/
theorem pref1_eq (c : Dev nD) : (Pipeline.prefHeld pre1 c (fun _ => fullShare) (tbl1 W) : sProp 𝕄) = tbPt c (tb1 W c) := by
  unfold Pipeline.prefHeld
  rw [show (Finset.univ : Finset (Fin 1)) = {(0 : Fin 1)} from by decide, bigSep_singleton]
  rfl

abbrev ms1_0 (t : Fin (cf1 W).N) : Memref sig .tc .smem S1 .f32 := spec1_0.stage ((cf1 W).slots t 0)
abbrev ms1_1 (t : Fin (cf1 W).N) : Memref sig .tc .vmem S1x1024x10240 .fp8e5m2 := spec1_1.stage ((cf1 W).slots t 1)
abbrev ms1_2 (t : Fin (cf1 W).N) : Memref sig .tc .vmem S10240x512 .fp8e4m3 := spec1_2.stage ((cf1 W).slots t 2)
abbrev ms1_3 (t : Fin (cf1 W).N) : Memref sig .tc .vmem S1x1024x512 .bf16 := spec1_3.stage ((cf1 W).slots t 3)

/-- A tile either holds a live row or holds none. -/
theorem cond1_or (i : grid1.Coords) (n : BitVec 32) : k1_cond1 i n = 1#1 ∨ k1_cond2 i n = 1#1 := by
  unfold k1_cond1 k1_cond2
  simp only
  generalize Scalar.muli (BitVec.ofNat 32 (i 1).val) 1024#32 = x
  unfold Scalar.cmpi
  rw [WordCmp.cmpi_slt_eq]
  by_cases h : x.toInt < n.toInt
  · left; rw [decide_eq_true h]; rfl
  · right; rw [decide_eq_false h]; rfl

/-- The output block's window is stored at every point. -/
theorem live1_3 (t : Fin (cf1 W).N) : (cf1 W).idle 3 (grid1.coords t) = false := by
  show (!(k1_cond1 (grid1.coords t) ((tbl1 W).atD 0 (k1_off1 (grid1.coords t))) == 1#1) && !(k1_cond2 (grid1.coords t) ((tbl1 W).atD 0 (k1_off1 (grid1.coords t))) == 1#1)) = false
  rcases cond1_or (grid1.coords t) ((tbl1 W).atD 0 (k1_off1 (grid1.coords t))) with h | h <;> rw [h] <;> simp

theorem out1_old (i : grid1.Coords) (n : BitVec 32) (s : Elt F .f32) (q : Vec F S1x1024x10240 .fp8e5m2) (w : Vec F S10240x512 .fp8e4m3) (x y : Vec F S1x1024x512 .bf16) :
    out1 i n s q w x = out1 i n s q w y := by
  unfold out1
  by_cases h3 : k1_cond2 i n = 1#1
  · rw [if_pos h3, if_pos h3]
  · have h2 := (cond1_or i n).resolve_right h3
    rw [if_neg h3, if_neg h3, if_pos h2, if_pos h2]

/-- What the output block's buffer holds when the body runs, at its vector type. -/
def od1 (c : Dev nD) (t : Fin (cf1 W).N) (d : ((cf1 W).win 3).block.Idx → Elt F ((cf1 W).win 3).elt) : Vec F S1x1024x512 .bf16 := (dat1 W c).before 3 t d

/-- The body at a point, as the pipeline calls it. -/
abbrev bodyAt1 (t : Fin (cf1 W).N) : Prog (TpuEff nD τ sig (Elt F) Λ₀ .tc) PUnit :=
  cc1_dgrad (grid1.coords t) (Memref.whole main_arg7) (Memref.isWhole_whole _) (ms1_0 W t) (hstage1_0 (((cf1 W).slots t 0).cast nbuf1_0)) (ms1_1 W t) (hstage1_1 (((cf1 W).slots t 1).cast nbuf1_1)) (ms1_2 W t) (hstage1_2 (((cf1 W).slots t 2).cast nbuf1_2)) (ms1_3 W t) (hstage1_3 (((cf1 W).slots t 3).cast nbuf1_3))

/-- What the body is called with at a point, -/
def bodyPre1 (c : Dev nD) (t : Fin (cf1 W).N) : sProp 𝕄 :=
  iprop((dat1 W c).Φ t.castSucc ∗ (dat1 W c).owesAt 0 t.castSucc
    ∗ (∃ d, owns (c : Thread nD τ) (ms1_0 W t) fullShare ((dat1 W c).before 0 t d))
    ∗ (∃ d, owns (c : Thread nD τ) (ms1_1 W t) fullShare ((dat1 W c).before 1 t d))
    ∗ (∃ d, owns (c : Thread nD τ) (ms1_2 W t) fullShare ((dat1 W c).before 2 t d))
    ∗ (∃ d, owns (c : Thread nD τ) (ms1_3 W t) fullShare ((dat1 W c).before 3 t d)))

/-- and what it returns. -/
def bodyPost1 (c : Dev nD) (t : Fin (cf1 W).N) : sProp 𝕄 :=
  iprop((dat1 W c).Φ t.succ ∗ (dat1 W c).owesAt 0 t.succ
    ∗ (dat1 W c).leavesExact 0 t
    ∗ (dat1 W c).leavesExact 1 t
    ∗ (dat1 W c).leavesExact 2 t
    ∗ (dat1 W c).leavesExact 3 t)

/-- The body at any point. -/
theorem sound_body1 (c : Dev nD) (t : Fin (cf1 W).N) :
    bodyPre1 W c t ⊢ wp frame (wpE (defs₀ (F := F)) Variants.none c none) Set.univ (bodyAt1 W t) (fun _ => bodyPost1 W c t) := by
  unfold bodyPre1 bodyPost1 bodyAt1
  simp only [before1_0, before1_1, before1_2]
  rw [show (dat1 W c).owesAt 0 t.succ = (dat1 W c).owesAt 0 t.castSucc from rfl]
  rw [show (dat1 W c).Φ t.succ = (dat1 W c).Φ t.castSucc from rfl]
  rw [show (dat1 W c).Φ t.castSucc = iprop(iprop(Pipeline.scopedRest spec1 c ∗ emp) ∗ Pipeline.prefHeld pre1 c (fun _ => fullShare) (tbl1 W)) from rfl, pref1_eq]
  rw [show (dat1 W c).leavesExact 0 t = owns (c : Thread nD τ) (ms1_0 W t) fullShare ((dat1 W c).after 0 t) from by
      unfold Dat.leavesExact; rw [show (cf1 W).idle 0 ((cf1 W).grid.coords t) = false from rfl]; try rfl, after1_0]
  rw [show (dat1 W c).leavesExact 1 t = owns (c : Thread nD τ) (ms1_1 W t) fullShare ((dat1 W c).after 1 t) from by
      unfold Dat.leavesExact; rw [show (cf1 W).idle 1 ((cf1 W).grid.coords t) = false from rfl]; try rfl, after1_1]
  rw [show (dat1 W c).leavesExact 2 t = owns (c : Thread nD τ) (ms1_2 W t) fullShare ((dat1 W c).after 2 t) from by
      unfold Dat.leavesExact; rw [show (cf1 W).idle 2 ((cf1 W).grid.coords t) = false from rfl]; try rfl, after1_2]
  rw [show (dat1 W c).leavesExact 3 t = owns (c : Thread nD τ) (ms1_3 W t) fullShare ((dat1 W c).after 3 t) from by
      unfold Dat.leavesExact; rw [show (cf1 W).idle 3 ((cf1 W).grid.coords t) = false from live1_3 W t]; try rfl, after1_3]
  iintro ⟨⟨HR, HT⟩, Ho, ⟨%d0, H0⟩, ⟨%d1, H1⟩, ⟨%d2, H2⟩, ⟨%d3, H3⟩⟩
  iapply (run1 c (grid1.coords t) _ _ _ _ _ _ _ _ (sb1 W c t) (qb1 W c t) (wb1 W c t) (od1 W c t d3) (tb1 W c) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HR HT]
  · isplitl [HR]; · iexact HR
    iexact HT
  isplitl [Ho]; · iexact Ho
  isplitl [H0]; · iexact H0
  isplitl [H1]; · iexact H1
  isplitl [H2]; · iexact H2
  unfold ob1
  rw [out1_old _ _ _ _ _ (k1_pay2 (F := F)) (od1 W c t d3)]
  iexact H3

theorem defs₀_row1 (t : Fin (cf1 W).N) : defs₀ (F := F) .tc (cf1 W).body ((cf1 W).bodyArgs t ((cf1 W).slots t)) = bodyAt1 W t := by
  unfold defs₀; rw [Defs.onTc_tc]

/-- The body's obligation at every point. -/
theorem obl1 (c : Dev nD) : BodyObligation (dat1 W c) (defs₀ (F := F)) Variants.none 0 Set.univ := fun t => by
  rw [bigSep_W1, bigSep_W1, defs₀_row1 W]
  exact triple_restated (sound_body1 W c t) rfl .rfl fun _ => .rfl

end Cert.Kernel.Hand
-- ==== Proof.K.Body2.lean ====
/-
  The weight-gradient kernel's body at one grid point, for any float interpretation: what it leaves in the accumulator
  and in the output block, as plain functions of the blocks it reads, the scale and the sequence length.
-/
module

public import proofs.«01_k».proof.Proof.K.Body0

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig ℕ (Elt F) ℕ (UR sig nD τ) ℕ

/-- The sequence length the body reads at grid point `i`. -/
abbrev len2 (c : Dev nD) (i : grid2.Coords) (T : TbBuf (F := F) c) : BitVec 32 :=
  tbM.view.readAt (Elt F) (Rect.unit (s := S4) (k2_off1 i) S1.size (k2_off1_inb i)).toLoadRect T (Shape.Idx.first (numel1_S1.symm ▸ Nat.one_pos))

/-- The point is the first of its output block. -/
abbrev first2 (i : grid2.Coords) : Prop :=
  (Scalar.cmpi .ne (Scalar.extui (Scalar.andi (Scalar.cmpi .eq (BitVec.ofNat 32 (i 2).val) 0#32) (Scalar.cmpi .eq (BitVec.ofNat 32 (i 3).val) 0#32))) 0#32) = 1#1

/-- The tile holds a live row, the sequence length being `n`. -/
abbrev live2 (i : grid2.Coords) (n : BitVec 32) : Prop :=
  (Scalar.cmpi .ne (Scalar.extui (Scalar.cmpi .slt (Scalar.muli (BitVec.ofNat 32 (i 3).val) 1024#32) n)) 0#32) = 1#1

/-- The accumulator as the point's update finds it: cleared at the block's first point. -/
def accIn2 (i : grid2.Coords) (acc : Vec F S1024x1024 .f32) : Vec F S1024x1024 .f32 :=
  if first2 i then k2_pay1 (F := F) else acc

/-- The accumulator the point leaves: the tile's product added where the tile holds a live row. -/
def accOut2 (i : grid2.Coords) (n : BitVec 32) (q : Vec F S1x1024x1024 .fp8e5m2) (x : Vec F S1x1024x1024 .fp8e4m3) (acc : Vec F S1024x1024 .f32) :
    Vec F S1024x1024 .f32 :=
  if live2 i n then k2_pay2 (accIn2 i acc) q x else accIn2 i acc

/-- The output block the point leaves: at the block's last point the accumulator scaled and added to the gradient so far. -/
def out2 (i : grid2.Coords) (g : Vec F S1024x1024 .f32) (acc : Vec F S1024x1024 .f32) (s : Elt F .f32) (old : Vec F S1024x1024 .f32) : Vec F S1024x1024 .f32 :=
  if k2_cond3 i = 1#1 then k2_pay3 g acc s else old

theorem k2_pay2_congr {a a' : Vec F S1024x1024 .f32} {q q' : Vec F S1x1024x1024 .fp8e5m2} {x x' : Vec F S1x1024x1024 .fp8e4m3}
    (ha : a = a') (hq : q = q') (hx : x = x') : k2_pay2 a q x = k2_pay2 a' q' x' := by subst ha hq hx; rfl

theorem k2_pay3_congr {a a' b b' : Vec F S1024x1024 .f32} {x x' : Elt F .f32}
    (ha : a = a') (hb : b = b') (hx : x = x') : k2_pay3 a b x = k2_pay3 a' b' x' := by subst ha hb hx; rfl

set_option maxHeartbeats 4000000 in
/-- The weight-gradient body, run on any staging buffers and accumulator. -/
theorem run2 (c : Dev nD) (i : grid2.Coords)
    (arg5 : Memref sig .tc .smem S1 .f32) (harg5 : arg5.IsWhole) (arg6 : Memref sig .tc .vmem S1x1024x1024 .fp8e5m2) (harg6 : arg6.IsWhole)
    (arg7 : Memref sig .tc .vmem S1x1024x1024 .fp8e4m3) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x1024 .f32) (harg10 : arg10.IsWhole)
    (s : Vec F S1 .f32) (q : Vec F S1x1024x1024 .fp8e5m2) (x : Vec F S1x1024x1024 .fp8e4m3) (g o acc : Vec F S1024x1024 .f32) (T : TbBuf (F := F) c)
    (E : Set ℕ) (K : PUnit → sProp 𝕄) :
    iprop(owns (c : Thread nD τ) arg5 fullShare s ∗ owns (c : Thread nD τ) arg6 fullShare q ∗ owns (c : Thread nD τ) arg7 fullShare x
        ∗ owns (c : Thread nD τ) arg8 fullShare g ∗ owns (c : Thread nD τ) arg9 fullShare o ∗ owns (c : Thread nD τ) arg10 fullShare acc ∗ tbPt c T
        ∗ (iprop(owns (c : Thread nD τ) arg5 fullShare s ∗ owns (c : Thread nD τ) arg6 fullShare q ∗ owns (c : Thread nD τ) arg7 fullShare x
            ∗ owns (c : Thread nD τ) arg8 fullShare g
            ∗ owns (c : Thread nD τ) arg9 fullShare (out2 i g (accOut2 i (len2 c i T) q x acc) (word1 s) o)
            ∗ owns (c : Thread nD τ) arg10 fullShare (accOut2 i (len2 c i T) q x acc) ∗ tbPt c T) -∗ K ⟨⟩))
      ⊢ wp frame (wpE (defs₀ (F := F)) Variants.none c none) E
          (cc2_wgrad i tbM (Memref.isWhole_whole _) arg5 harg5 arg6 harg6 arg7 harg7 arg8 harg8 arg9 harg9 arg10 harg10) K := by
  simp only [cc2_wgrad_eq_skeleton]; unfold cc2_wgrad_skel
  unfold out2 accOut2 accIn2
  by_cases hc1 : first2 i <;> by_cases hc2 : live2 i (len2 c i T) <;> by_cases hc3 : k2_cond3 i = 1#1
  · simp only [if_pos hc1, if_pos hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) ((View.readCov_full (s := S1024x1024) arg10.view inb_S1024x1024_S1024x1024_0_0 inb_S1024x1024_S1024x1024_0_0 _ _).trans (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_pos hc1, if_pos hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_pos hc1, if_neg hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) (View.readCov_full (s := S1024x1024) arg10.view inb_S1024x1024_S1024x1024_0_0 inb_S1024x1024_S1024x1024_0_0 _ _) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact rfl
    iexact HT
  · simp only [if_pos hc1, if_neg hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact rfl
    iexact HT
  · simp only [if_neg hc1, if_pos hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) ((View.readCov_full (s := S1024x1024) arg10.view inb_S1024x1024_S1024x1024_0_0 inb_S1024x1024_S1024x1024_0_0 _ _).trans (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_neg hc1, if_pos hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_neg hc1, if_neg hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) (View.readAt_rep_full (s := S1024x1024) arg10.view acc inb_S1024x1024_S1024x1024_0_0) (congrFun (View.readAt_rep_full (s := S1) arg5.view s inb_S1_S1_0) _)
    isplitl [H10]
    · iexact H10
    iexact HT
  · simp only [if_neg hc1, if_neg hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iexact H10
    iexact HT

end Cert.Kernel.Hand

end
-- ==== Proof.K.Reg2.lean ====
/-
  The weight-gradient call over its grid, for any float interpretation: the accumulator after each point, the block the
  last point of each output block leaves, and the body's obligation at every point.
-/
module

public import proofs.«01_k».proof.Proof.K.Body2
public import proofs.«01_k».proof.Proof.K.Ok
public import Idealize.ShloMosaic.Lib.Pipeline.FrameBody

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the call reads at entry, -/
def tbl2 : pre2.Contents (Elt F) := fun j => W (0 : Dev nD) (Proc.devRef .tc (pre2.ref j))
/-- admissible as every table is, -/
abbrev adm2 : (pcfg2 (F := F)).Adm := ⟨tbl2 W, ok2_all _⟩
/-- and the pipeline at it. -/
abbrev cf2 : Pipeline.Cfg sig Λ₀ := cfg2 (adm2 W)

/-- Window `w`'s block at point `t`, read off its array at entry. -/
def iblk2 (c : Dev nD) (w : Fin (cf2 W).W) (t : Fin (cf2 W).N) : (((cf2 W).win w).xblock ((cf2 W).grid.coords t)).Idx → Elt F ((cf2 W).win w).elt :=
  (((cf2 W).win w).blk t).view.read (Elt F) (W c (Proc.devRef .tc (Pipeline.arrRef spec2 w)))

/-- The table at its buffer's type, and the length read at a point. -/
def tb2 (c : Dev nD) : TbBuf (F := F) c := tbl2 W 0
abbrev ln2 (c : Dev nD) (t : Fin (cf2 W).N) : BitVec 32 := len2 (F := F) c (grid2.coords t) (tb2 W c)

/-- Input window 0's block at a point, at its vector type. -/
def sb2 (c : Dev nD) (t : Fin (cf2 W).N) : Vec F S1 .f32 := iblk2 W c 0 t
/-- Input window 1's block at a point, at its vector type. -/
def qb2 (c : Dev nD) (t : Fin (cf2 W).N) : Vec F S1x1024x1024 .fp8e5m2 := iblk2 W c 1 t
/-- Input window 2's block at a point, at its vector type. -/
def xb2 (c : Dev nD) (t : Fin (cf2 W).N) : Vec F S1x1024x1024 .fp8e4m3 := iblk2 W c 2 t
/-- Input window 3's block at a point, at its vector type. -/
def mb2 (c : Dev nD) (t : Fin (cf2 W).N) : Vec F S1024x1024 .f32 := iblk2 W c 3 t

/-- The accumulator after each point. -/
def acc2 (c : Dev nD) : (n : ℕ) → n < (cf2 W).N → Vec F S1024x1024 .f32
  | 0, h => accOut2 (grid2.coords ⟨0, h⟩) (ln2 W c ⟨0, h⟩) (qb2 W c ⟨0, h⟩) (xb2 W c ⟨0, h⟩) (k2_pay1 (F := F))
  | n + 1, h => accOut2 (grid2.coords ⟨n + 1, h⟩) (ln2 W c ⟨n + 1, h⟩) (qb2 W c ⟨n + 1, h⟩) (xb2 W c ⟨n + 1, h⟩) (acc2 c n (Nat.lt_of_succ_lt h))

/-- The output block the last point of its run leaves. -/
def fb2 (c : Dev nD) (t : Fin (cf2 W).N) : Vec F S1024x1024 .f32 :=
  k2_pay3 (mb2 W c t) (acc2 W c t.val t.isLt) (word1 (sb2 W c t))

/-- The accumulator's memref. -/
abbrev scM : Memref sig .tc .vmem S1024x1024 .f32 := Memref.whole cc2_scratch0

/-- The scoped buffers the call does not use. -/
def rest2 (c : Dev nD) : sProp 𝕄 :=
  Idealize.SL.BI.bigSepL [cc0_stg1_0, cc0_stg1_1, cc0_stg2_0, cc0_stg2_1, cc0_stg3_0, cc1_stg1_0, cc1_stg1_1, cc1_stg2_0, cc1_stg2_1, cc1_stg3_0, cc1_stg3_1, cc0_stg0_0, cc1_stg0_0] fun b => iprop(∃ f : Buf (Elt F) ((c.tc : Thread nD τ).loc b), ((c.tc : Thread nD τ).loc b) ↦{fullShare} f)

/-- The scoped buffers beside the staging buffers: the accumulator's and the unused ones. -/
theorem scoped2_eq (c : Dev nD) :
    (Pipeline.scopedRest spec2 c : sProp 𝕄) = iprop((∃ d, owns (c : Thread nD τ) scM fullShare d) ∗ rest2 c) := by
  rw [Pipeline.scopedRest_eq_of_list spec2 c [cc2_scratch0, cc0_stg1_0, cc0_stg1_1, cc0_stg2_0, cc0_stg2_1, cc0_stg3_0, cc1_stg1_0, cc1_stg1_1, cc1_stg2_0, cc1_stg2_1, cc1_stg3_0, cc1_stg3_1, cc0_stg0_0, cc1_stg0_0] (by decide) (by decide)]
  simp only [owns_whole]
  unfold rest2
  rfl

/-- The invariant before position `n`: the accumulator at what the point before left, at anything before the first. -/
def PhiS (c : Dev nD) (n : ℕ) (_ : n ≤ (cf2 W).N) : sProp 𝕄 :=
  iprop(iprop(iprop((∃ d, ⌜∀ h : n - 1 < (cf2 W).N, n ≠ 0 → d = acc2 W c (n - 1) h⌝ ∗ owns (c : Thread nD τ) scM fullShare d) ∗ rest2 c) ∗ emp)
    ∗ Pipeline.prefHeld pre2 c (fun _ => fullShare) (tbl2 W))

/-- The proof data of the weight-gradient call. -/
def dat2 (c : Dev nD) : Dat τ (Elt F) ℕ ℕ (UR sig nD τ) ℕ (cf2 W) c where
  A w := W c (Proc.devRef .tc (Pipeline.arrRef spec2 w))
  after w t := match w with
    | ⟨0, _⟩ => sb2 W c t
    | ⟨1, _⟩ => qb2 W c t
    | ⟨2, _⟩ => xb2 W c t
    | ⟨3, _⟩ => mb2 W c t
    | ⟨4, _⟩ => fb2 W c t
  Φ t := PhiS W c t.val (Nat.le_of_lt_succ t.isLt)
  q _ := fullShare
  owed _ := 0

theorem Phi2_castSucc (c : Dev nD) (t : Fin (cf2 W).N) : (dat2 W c).Φ t.castSucc = PhiS W c t.val (Nat.le_of_lt t.isLt) := by
  dsimp only [dat2]; exact Pipeline.Dat.Φ_castSucc (PhiS W c) t

theorem A2_eq (c : Dev nD) (w : Fin (cf2 W).W) : (dat2 W c).A w = W c (Proc.devRef .tc (Pipeline.arrRef spec2 w)) := by
  dsimp only [dat2]
theorem after2_0 (c : Dev nD) (t : Fin (cf2 W).N) : (dat2 W c).after 0 t = sb2 W c t := by dsimp only [dat2]; try rfl
theorem after2_1 (c : Dev nD) (t : Fin (cf2 W).N) : (dat2 W c).after 1 t = qb2 W c t := by dsimp only [dat2]; try rfl
theorem after2_2 (c : Dev nD) (t : Fin (cf2 W).N) : (dat2 W c).after 2 t = xb2 W c t := by dsimp only [dat2]; try rfl
theorem after2_3 (c : Dev nD) (t : Fin (cf2 W).N) : (dat2 W c).after 3 t = mb2 W c t := by dsimp only [dat2]; try rfl
theorem after2_4 (c : Dev nD) (t : Fin (cf2 W).N) : (dat2 W c).after 4 t = fb2 W c t := by dsimp only [dat2]; try rfl

theorem before2_0 (c : Dev nD) (t : Fin (cf2 W).N) (d) : (dat2 W c).before 0 t d = sb2 W c t :=
  ((dat2 W c).before_in_eq_fetched 0 rfl (fun _ => rfl) (fun _ _ _ => rfl) (fun t => by rw [after2_0]; unfold Dat.blockOf sb2 iblk2; rw [A2_eq]; try rfl) t d).trans
    (by unfold Dat.fetched Dat.blockOf sb2 iblk2; rw [A2_eq]; try rfl)
theorem before2_1 (c : Dev nD) (t : Fin (cf2 W).N) (d) : (dat2 W c).before 1 t d = qb2 W c t :=
  ((dat2 W c).before_in_eq_fetched 1 rfl (fun _ => rfl) (fun _ _ _ => rfl) (fun t => by rw [after2_1]; unfold Dat.blockOf qb2 iblk2; rw [A2_eq]; try rfl) t d).trans
    (by unfold Dat.fetched Dat.blockOf qb2 iblk2; rw [A2_eq]; try rfl)
theorem before2_2 (c : Dev nD) (t : Fin (cf2 W).N) (d) : (dat2 W c).before 2 t d = xb2 W c t :=
  ((dat2 W c).before_in_eq_fetched 2 rfl (fun _ => rfl) (fun _ _ _ => rfl) (fun t => by rw [after2_2]; unfold Dat.blockOf xb2 iblk2; rw [A2_eq]; try rfl) t d).trans
    (by unfold Dat.fetched Dat.blockOf xb2 iblk2; rw [A2_eq]; try rfl)
theorem before2_3 (c : Dev nD) (t : Fin (cf2 W).N) (d) : (dat2 W c).before 3 t d = mb2 W c t :=
  ((dat2 W c).before_in_eq_fetched 3 rfl (fun _ => rfl) (fun _ _ _ => rfl) (fun t => by rw [after2_3]; unfold Dat.blockOf mb2 iblk2; rw [A2_eq]; try rfl) t d).trans
    (by unfold Dat.fetched Dat.blockOf mb2 iblk2; rw [A2_eq]; try rfl)

/-- The table held whole, as the body is handed it. -/
theorem pref2_eq (c : Dev nD) : (Pipeline.prefHeld pre2 c (fun _ => fullShare) (tbl2 W) : sProp 𝕄) = tbPt c (tb2 W c) := by
  unfold Pipeline.prefHeld
  rw [show (Finset.univ : Finset (Fin 1)) = {(0 : Fin 1)} from by decide, bigSep_singleton]
  rfl

abbrev ms2_0 (t : Fin (cf2 W).N) : Memref sig .tc .smem S1 .f32 := spec2_0.stage ((cf2 W).slots t 0)
abbrev ms2_1 (t : Fin (cf2 W).N) : Memref sig .tc .vmem S1x1024x1024 .fp8e5m2 := spec2_1.stage ((cf2 W).slots t 1)
abbrev ms2_2 (t : Fin (cf2 W).N) : Memref sig .tc .vmem S1x1024x1024 .fp8e4m3 := spec2_2.stage ((cf2 W).slots t 2)
abbrev ms2_3 (t : Fin (cf2 W).N) : Memref sig .tc .vmem S1024x1024 .f32 := spec2_3.stage ((cf2 W).slots t 3)
abbrev ms2_4 (t : Fin (cf2 W).N) : Memref sig .tc .vmem S1024x1024 .f32 := spec2_4.stage ((cf2 W).slots t 4)

theorem coords2 (t : Fin grid2.N) : (grid2.coords t 0).val = t.val / 96 % 10 ∧ (grid2.coords t 1).val = t.val / 12 % 8
    ∧ (grid2.coords t 2).val = t.val / 3 % 4 ∧ (grid2.coords t 3).val = t.val / 1 % 3 :=
  ⟨Pipeline.Grid.coords_val t 0 (by decide) rfl, Pipeline.Grid.coords_val t 1 (by decide) rfl,
    Pipeline.Grid.coords_val t 2 (by decide) rfl, Pipeline.Grid.coords_val t 3 (by decide) rfl⟩

/-- The first point of an output block, by its position. -/
theorem first2_iff (t : Fin grid2.N) : first2 (grid2.coords t) ↔ t.val % 12 = 0 := by
  have hN : t.val < 960 := Nat.lt_of_lt_of_eq t.isLt N_2
  obtain ⟨e0, e1, e2, e3⟩ := coords2 t
  simp only [first2, e0, e1, e2, e3]
  word_cmp

/-- The last point of an output block, by its position. -/
theorem last2_iff (t : Fin grid2.N) : k2_cond3 (grid2.coords t) = 1#1 ↔ t.val % 12 = 11 := by
  have hN : t.val < 960 := Nat.lt_of_lt_of_eq t.isLt N_2
  obtain ⟨e0, e1, e2, e3⟩ := coords2 t
  simp only [k2_cond3, e0, e1, e2, e3]
  word_cmp

theorem idle2_4 (t : Fin (cf2 W).N) : (cf2 W).idle 4 (grid2.coords t) = !(k2_cond3 (grid2.coords t) == 1#1) := rfl

/-- The output block's window: batch of rows and of columns. -/
theorem ix2_4 (i : grid2.Coords) : cc2_transform_4 i = ![(i 0).val, (i 1).val] := by
  have h : cc2_transform_4 i = ![(BitVec.ofNat 32 (i 0).val).toNat, (BitVec.ofNat 32 (i 1).val).toNat] := rfl
  rw [h, toNat_axis (i 0).val (by have : (i 0).val < 10 := (i 0).isLt; omega), toNat_axis (i 1).val (by have : (i 1).val < 8 := (i 1).isLt; omega)]

/-- The output block is written back only after its last point. -/
theorem flush2_4 (t : Fin (cf2 W).N) (h : ¬t.val % 12 = 11) : ((cf2 W).win 4).flush t = false := by
  have hN : t.val < 960 := Nat.lt_of_lt_of_eq t.isLt N_2
  have hN' : (cf2 W).grid.N = 960 := N_2
  unfold Pipeline.Window.flush
  have h1 : (decide (t.val + 1 = (cf2 W).grid.N)) = false := decide_eq_false (by rw [hN']; omega)
  have h2 : (decide (∃ h : t.val + 1 < (cf2 W).grid.N, ((cf2 W).win 4).index ⟨t.val + 1, h⟩ ≠ ((cf2 W).win 4).index t)) = false :=
    decide_eq_false (fun ⟨hl, hne⟩ => hne (by
      show cc2_transform_4 (grid2.coords ⟨t.val + 1, hl⟩) = cc2_transform_4 (grid2.coords t)
      rw [ix2_4, ix2_4, (coords2 ⟨t.val + 1, hl⟩).1, (coords2 ⟨t.val + 1, hl⟩).2.1, (coords2 t).1, (coords2 t).2.1]
      have a0 : (t.val + 1) / 96 % 10 = t.val / 96 % 10 := by omega
      have a1 : (t.val + 1) / 12 % 8 = t.val / 12 % 8 := by omega
      show ![(t.val + 1) / 96 % 10, (t.val + 1) / 12 % 8] = _
      rw [a0, a1]))
  rw [h1, h2]; simp

/-- The point's update of the accumulator it finds is the accumulator after it. -/
theorem acc2_step (c : Dev nD) (t : Fin (cf2 W).N) (d : Vec F S1024x1024 .f32) (hd : ∀ h : t.val - 1 < (cf2 W).N, t.val ≠ 0 → d = acc2 W c (t.val - 1) h) :
    accOut2 (grid2.coords t) (ln2 W c t) (qb2 W c t) (xb2 W c t) d = acc2 W c t.val t.isLt := by
  obtain ⟨n, hn⟩ := t
  cases n with
  | zero =>
    have e : ∀ x y, accOut2 (F := F) (grid2.coords ⟨0, hn⟩) (ln2 W c ⟨0, hn⟩) (qb2 W c ⟨0, hn⟩) (xb2 W c ⟨0, hn⟩) x = accOut2 (grid2.coords ⟨0, hn⟩) (ln2 W c ⟨0, hn⟩) (qb2 W c ⟨0, hn⟩) (xb2 W c ⟨0, hn⟩) y := by
      intro x y; unfold accOut2 accIn2
      have hf := (first2_iff ⟨0, hn⟩).mpr rfl
      rw [if_pos hf, if_pos hf]
    exact e _ _
  | succ n =>
    rw [hd (Nat.lt_of_succ_lt hn) (Nat.succ_ne_zero n)]; rfl

/-- What the output block's buffer holds when the body runs, at its vector type. -/
def od2 (c : Dev nD) (t : Fin (cf2 W).N) (d : ((cf2 W).win 4).block.Idx → Elt F ((cf2 W).win 4).elt) : Vec F S1024x1024 .f32 := (dat2 W c).before 4 t d

/-- The body at a point, as the pipeline calls it. -/
abbrev bodyAt2 (t : Fin (cf2 W).N) : Prog (TpuEff nD τ sig (Elt F) Λ₀ .tc) PUnit :=
  cc2_wgrad (grid2.coords t) (Memref.whole main_arg7) (Memref.isWhole_whole _) (ms2_0 W t) (hstage2_0 (((cf2 W).slots t 0).cast nbuf2_0)) (ms2_1 W t) (hstage2_1 (((cf2 W).slots t 1).cast nbuf2_1)) (ms2_2 W t) (hstage2_2 (((cf2 W).slots t 2).cast nbuf2_2)) (ms2_3 W t) (hstage2_3 (((cf2 W).slots t 3).cast nbuf2_3)) (ms2_4 W t) (hstage2_4 (((cf2 W).slots t 4).cast nbuf2_4)) (Memref.whole cc2_scratch0) (Memref.isWhole_whole _)

/-- What the body is called with at a point, -/
def bodyPre2 (c : Dev nD) (t : Fin (cf2 W).N) : sProp 𝕄 :=
  iprop((dat2 W c).Φ t.castSucc ∗ (dat2 W c).owesAt 0 t.castSucc
    ∗ (∃ d, owns (c : Thread nD τ) (ms2_0 W t) fullShare ((dat2 W c).before 0 t d))
    ∗ (∃ d, owns (c : Thread nD τ) (ms2_1 W t) fullShare ((dat2 W c).before 1 t d))
    ∗ (∃ d, owns (c : Thread nD τ) (ms2_2 W t) fullShare ((dat2 W c).before 2 t d))
    ∗ (∃ d, owns (c : Thread nD τ) (ms2_3 W t) fullShare ((dat2 W c).before 3 t d))
    ∗ (∃ d, owns (c : Thread nD τ) (ms2_4 W t) fullShare ((dat2 W c).before 4 t d)))

/-- and what it returns. -/
def bodyPost2 (c : Dev nD) (t : Fin (cf2 W).N) : sProp 𝕄 :=
  iprop((dat2 W c).Φ t.succ ∗ (dat2 W c).owesAt 0 t.succ
    ∗ (dat2 W c).leavesExact 0 t
    ∗ (dat2 W c).leavesExact 1 t
    ∗ (dat2 W c).leavesExact 2 t
    ∗ (dat2 W c).leavesExact 3 t
    ∗ (dat2 W c).leavesExact 4 t)

/-- The output block's buffer after the body is what the point hands back, stored or not. -/
theorem leaves2_4 (c : Dev nD) (t : Fin (cf2 W).N) (d) :
    (owns (c : Thread nD τ) (ms2_4 W t) fullShare (out2 (grid2.coords t) (mb2 W c t) (acc2 W c t.val t.isLt) (word1 (sb2 W c t)) (od2 W c t d)) : sProp 𝕄)
      ⊢ (dat2 W c).leavesExact 4 t := by
  by_cases h : k2_cond3 (grid2.coords t) = 1#1
  · rw [show (dat2 W c).leavesExact 4 t = owns (c : Thread nD τ) (ms2_4 W t) fullShare ((dat2 W c).after 4 t) from by
        unfold Dat.leavesExact; rw [show (cf2 W).idle 4 ((cf2 W).grid.coords t) = false from by rw [show (cf2 W).grid.coords t = grid2.coords t from rfl, idle2_4, h]; rfl]; rfl, after2_4]
    unfold out2 fb2; rw [if_pos h]
  · rw [Dat.leavesExact_idle _ 4 t (by rw [show (cf2 W).grid.coords t = grid2.coords t from rfl, idle2_4]; simp [h]) (flush2_4 W t (fun e => h ((last2_iff t).mpr e)))]
    unfold out2; rw [if_neg h]
    iintro H; iexists d; iexact H

/-- The body at any point. -/
theorem sound_body2 (c : Dev nD) (t : Fin (cf2 W).N) :
    bodyPre2 W c t ⊢ wp frame (wpE (defs₀ (F := F)) Variants.none c none) Set.univ (bodyAt2 W t) (fun _ => bodyPost2 W c t) := by
  unfold bodyPre2 bodyPost2 bodyAt2
  simp only [before2_0, before2_1, before2_2, before2_3]
  rw [show (dat2 W c).owesAt 0 t.succ = (dat2 W c).owesAt 0 t.castSucc from rfl]
  rw [show (dat2 W c).Φ t.succ = PhiS W c (t.val + 1) t.isLt from rfl, Phi2_castSucc]
  unfold PhiS
  rw [pref2_eq]
  rw [show (dat2 W c).leavesExact 0 t = owns (c : Thread nD τ) (ms2_0 W t) fullShare ((dat2 W c).after 0 t) from by
      unfold Dat.leavesExact; rw [show (cf2 W).idle 0 ((cf2 W).grid.coords t) = false from rfl]; try rfl, after2_0]
  rw [show (dat2 W c).leavesExact 1 t = owns (c : Thread nD τ) (ms2_1 W t) fullShare ((dat2 W c).after 1 t) from by
      unfold Dat.leavesExact; rw [show (cf2 W).idle 1 ((cf2 W).grid.coords t) = false from rfl]; try rfl, after2_1]
  rw [show (dat2 W c).leavesExact 2 t = owns (c : Thread nD τ) (ms2_2 W t) fullShare ((dat2 W c).after 2 t) from by
      unfold Dat.leavesExact; rw [show (cf2 W).idle 2 ((cf2 W).grid.coords t) = false from rfl]; try rfl, after2_2]
  rw [show (dat2 W c).leavesExact 3 t = owns (c : Thread nD τ) (ms2_3 W t) fullShare ((dat2 W c).after 3 t) from by
      unfold Dat.leavesExact; rw [show (cf2 W).idle 3 ((cf2 W).grid.coords t) = false from rfl]; try rfl, after2_3]
  iintro ⟨⟨⟨⟨⟨%a, %ha, Hs⟩, HR⟩, He⟩, HT⟩, Ho, ⟨%d0, H0⟩, ⟨%d1, H1⟩, ⟨%d2, H2⟩, ⟨%d3, H3⟩, ⟨%d4, H4⟩⟩
  iapply (run2 c (grid2.coords t) _ _ _ _ _ _ _ _ _ _ _ _ (sb2 W c t) (qb2 W c t) (xb2 W c t) (mb2 W c t) (od2 W c t d4) a (tb2 W c) Set.univ _)
  isplitl [H0]; · iexact H0
  isplitl [H1]; · iexact H1
  isplitl [H2]; · iexact H2
  isplitl [H3]; · iexact H3
  isplitl [H4]; · iexact H4
  isplitl [Hs]; · iexact Hs
  isplitl [HT]; · iexact HT
  rw [acc2_step W c t a ha]
  iintro ⟨H0, H1, H2, H3, H4, Hs, HT⟩
  isplitl [HR He Hs HT]
  · isplitl [HR He Hs]
    · isplitl [HR Hs]
      · isplitl [Hs]
        · iexists (acc2 W c t.val t.isLt)
          isplitr
          · ipureintro; intro h _; rfl
          iexact Hs
        iexact HR
      iexact He
    iexact HT
  isplitl [Ho]; · iexact Ho
  isplitl [H0]; · iexact H0
  isplitl [H1]; · iexact H1
  isplitl [H2]; · iexact H2
  isplitl [H3]; · iexact H3
  iapply (leaves2_4 W c t d4)
  iexact H4

theorem defs₀_row2 (t : Fin (cf2 W).N) : defs₀ (F := F) .tc (cf2 W).body ((cf2 W).bodyArgs t ((cf2 W).slots t)) = bodyAt2 W t := by
  unfold defs₀; rw [Defs.onTc_tc]

/-- The body's obligation at every point. -/
theorem obl2 (c : Dev nD) : BodyObligation (dat2 W c) (defs₀ (F := F)) Variants.none 0 Set.univ := fun t => by
  rw [bigSep_W2, bigSep_W2, defs₀_row2 W]
  exact triple_restated (sound_body2 W c t) rfl .rfl fun _ => .rfl

end Cert.Kernel.Hand
-- ==== Proof.K.Run.lean ====
/-
  The whole run, for any float interpretation: the three calls between the host stretches, every buffer's contents at the
  end, and every counter at zero.
-/
module

public import proofs.«01_k».proof.Proof.K.Reg0
public import proofs.«01_k».proof.Proof.K.Reg1
public import proofs.«01_k».proof.Proof.K.Reg2
public import proofs.«01_k».proof.Proof.Gen.Kernel.Regions
public import Idealize.ShloMosaic.Lib.Pipeline.RegionArraysTS
public import Idealize.ShloMosaic.Lib.Pipeline.SiteBlocks

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Rounds
open Idealize.ShloMosaic.Pipeline (Dat BodyObligation Seg HostSeg RegionSeg)

variable {F : FTy → Type} [FloatOps F]

local notation "𝕄" => MT nD τ sig ℕ (Elt F) ℕ (UR sig nD τ) ℕ

variable (m : (ℓ : Loc nD τ sig) → Buf (Elt F) ℓ)

/-! ## The contents between items -/

/-- The buffers at launch. -/
abbrev U0 (c : Dev nD) : Valuation τ sig (Elt F) := fun b => m (c, b)
/-- After the first host stretch. -/
def U1 (c : Dev nD) : Valuation τ sig (Elt F) := StableHlo.after hostOps0 (U0 m c)
/-- After the quantiser call. -/
def U2 (c : Dev nD) : Valuation τ sig (Elt F) := Pipeline.afterRegion (dat0 (U1 m) c) (U1 m c)
/-- After the second host stretch. -/
def U3 (c : Dev nD) : Valuation τ sig (Elt F) := StableHlo.after hostOps1 (U2 m c)
/-- After the input-gradient call. -/
def U4 (c : Dev nD) : Valuation τ sig (Elt F) := Pipeline.afterRegion (dat1 (U3 m) c) (U3 m c)
/-- After the third host stretch. -/
def U5 (c : Dev nD) : Valuation τ sig (Elt F) := StableHlo.after hostOps2 (U4 m c)
/-- After the weight-gradient call. -/
def U6 (c : Dev nD) : Valuation τ sig (Elt F) := Pipeline.afterRegion (dat2 (U5 m) c) (U5 m c)
/-- At the end. -/
def U7 (c : Dev nD) : Valuation τ sig (Elt F) := StableHlo.after hostOps3 (U6 m c)

/-- The tables the calls read. -/
def adms : (p : Fin 3) → (pcfgs (F := F) p).Adm
  | ⟨0, _⟩ => adm0 (U1 m)
  | ⟨1, _⟩ => adm1 (U3 m)
  | ⟨2, _⟩ => adm2 (U5 m)

/-- The calls' proof data. -/
def pdats : (p : Fin 3) → (c : Dev nD) → Dat τ (Elt F) ℕ ℕ (UR sig nD τ) ℕ (Pipeline.pin (pcfgs (F := F)) (adms m) p) c
  | ⟨0, _⟩ => dat0 (U1 m)
  | ⟨1, _⟩ => dat1 (U3 m)
  | ⟨2, _⟩ => dat2 (U5 m)

/-- What rides along beside the buffers: the core owes nothing. -/
def Er (c : Dev nD) : sProp 𝕄 := iprop((∃ Wd, owes (c : Thread nD τ) (0 : CellTallies nD τ sig ℕ) Wd) ∗ emp ∗ emp)

local notation "LL" => SiteBlocks.L (nD := nD) (τ := τ) (sig := sig) 1
local notation "lvl" => SiteBlocks.lv (nD := nD) (τ := τ) (sig := sig)

/-- A host stretch as a segment from a valuation. -/
def hseg (ops : List (HloOp τ sig (Elt F))) (hs : ops.Forall fun op => op.bufs ⊆ StableHlo.tcRefs τ sig) (hf : ops.Forall fun op => op.fresh = ∅)
    (V : Dev nD → Valuation τ sig (Elt F)) :
    HostSeg (Ix := ℕ) (Name := ℕ) (U := UR sig nD τ) (Lvl := ℕ) (pcfgs (F := F)) defs₀ Variants.none LL lvl :=
  HostSeg.ofOps _ _ _ _ _ (Pipeline.ucRefs τ sig) ops
    (fun op h => Pipeline.sub_ucRefs op ((List.forall_iff_forall_mem.mp hs) op h))
    (fun op h => (List.forall_iff_forall_mem.mp hf) op h) V Er

theorem one_core (c : Dev nD) : c = 0 := Subsingleton.elim _ _

theorem hin0 (W : Dev nD → Valuation τ sig (Elt F)) (c : Dev nD) :
    iprop(iprop(Pipeline.scopedRest spec0 c ∗ emp) ∗ Pipeline.prefHeld pre0 c (fun _ => fullShare) (tbl0 W)) ⊢ ((dat0 W c).Φ 0 : sProp 𝕄) := by
  dsimp only [dat0]; exact .rfl
theorem hout0 (W : Dev nD → Valuation τ sig (Elt F)) (c : Dev nD) :
    ((dat0 W c).Φ (Fin.last (cf0 W).N) : sProp 𝕄) ⊢ iprop(iprop(Pipeline.scopedRest spec0 c ∗ emp) ∗ Pipeline.prefHeld pre0 c (fun _ => fullShare) (tbl0 W)) := by
  dsimp only [dat0]; exact .rfl

/-- The quantiser call as a segment. -/
def rseg0 : RegionSeg (pcfgs (F := F)) (adms m) (pdats m) 0 defs₀ Variants.none LL lvl 0 :=
  RegionSeg.ofHeldInT pcfgs (adms m) (pdats m) 0 defs₀ Variants.none LL lvl 0 (fun _ => 0) (Pipeline.ucRefs τ sig) (fun _ => iprop(emp)) (fun _ => iprop(emp))
    (launch0 (F := F)) (fun c => (obl0 (U1 m) c).loose) (fun _ _ => rfl) (fun _ => rfl) (fun c => (dat0 (U1 m) c).share_full fun _ => rfl)
    (hin0 (U1 m)) (hout0 (U1 m)) (fun _ => 0) (SiteBlocks.Above.levelCut pcfgs (adms m) 0 (N := 1) (b := 1) (by decide) (by decide) (SiteBlocks.above_zero 1 1))
    (fun _ => iprop(emp)) (U1 m) (fun c w => A0_eq (U1 m) c w) (fun c k => by rw [one_core c]; rfl)

theorem hin1 (W : Dev nD → Valuation τ sig (Elt F)) (c : Dev nD) :
    iprop(iprop(Pipeline.scopedRest spec1 c ∗ emp) ∗ Pipeline.prefHeld pre1 c (fun _ => fullShare) (tbl1 W)) ⊢ ((dat1 W c).Φ 0 : sProp 𝕄) := by
  dsimp only [dat1]; exact .rfl
theorem hout1 (W : Dev nD → Valuation τ sig (Elt F)) (c : Dev nD) :
    ((dat1 W c).Φ (Fin.last (cf1 W).N) : sProp 𝕄) ⊢ iprop(iprop(Pipeline.scopedRest spec1 c ∗ emp) ∗ Pipeline.prefHeld pre1 c (fun _ => fullShare) (tbl1 W)) := by
  dsimp only [dat1]; exact .rfl

/-- The input-gradient call as a segment. -/
def rseg1 : RegionSeg (pcfgs (F := F)) (adms m) (pdats m) 0 defs₀ Variants.none LL lvl 1 :=
  RegionSeg.ofHeldInT pcfgs (adms m) (pdats m) 0 defs₀ Variants.none LL lvl 1 (fun _ => 0) (Pipeline.ucRefs τ sig) (fun _ => iprop(emp)) (fun _ => iprop(emp))
    (launch1 (F := F)) (fun c => (obl1 (U3 m) c).loose) (fun _ _ => rfl) (fun _ => rfl) (fun c => (dat1 (U3 m) c).share_full fun _ => rfl)
    (hin1 (U3 m)) (hout1 (U3 m)) (fun _ => 0) (SiteBlocks.Above.levelCut pcfgs (adms m) 1 (N := 1) (b := 1) (by decide) (by decide) (SiteBlocks.above_zero 1 1))
    (fun _ => iprop(emp)) (U3 m) (fun c w => A1_eq (U3 m) c w) (fun c k => by rw [one_core c]; rfl)

theorem hin2 (W : Dev nD → Valuation τ sig (Elt F)) (c : Dev nD) :
    iprop(iprop(Pipeline.scopedRest spec2 c ∗ emp) ∗ Pipeline.prefHeld pre2 c (fun _ => fullShare) (tbl2 W)) ⊢ (PhiS W c 0 (Nat.zero_le _) : sProp 𝕄) := by
  unfold PhiS; rw [scoped2_eq]
  iintro ⟨⟨⟨⟨%d, Hs⟩, HR⟩, He⟩, HT⟩
  isplitl [Hs HR He]
  · isplitl [Hs HR]
    · isplitl [Hs]
      · iexists d
        isplitr
        · ipureintro; intro _ h; exact absurd rfl h
        iexact Hs
      iexact HR
    iexact He
  iexact HT

theorem hout2 (W : Dev nD → Valuation τ sig (Elt F)) (c : Dev nD) (n : ℕ) (h : n ≤ (cf2 W).N) :
    (PhiS W c n h : sProp 𝕄) ⊢ iprop(iprop(Pipeline.scopedRest spec2 c ∗ emp) ∗ Pipeline.prefHeld pre2 c (fun _ => fullShare) (tbl2 W)) := by
  unfold PhiS; rw [scoped2_eq]
  iintro ⟨⟨⟨⟨%d, -, Hs⟩, HR⟩, He⟩, HT⟩
  isplitl [Hs HR He]
  · isplitl [Hs HR]
    · isplitl [Hs]
      · iexists d; iexact Hs
      iexact HR
    iexact He
  iexact HT

/-- The weight-gradient call as a segment. -/
def rseg2 : RegionSeg (pcfgs (F := F)) (adms m) (pdats m) 0 defs₀ Variants.none LL lvl 2 :=
  RegionSeg.ofHeldInT pcfgs (adms m) (pdats m) 0 defs₀ Variants.none LL lvl 2 (fun _ => 0) (Pipeline.ucRefs τ sig) (fun _ => iprop(emp)) (fun _ => iprop(emp))
    (launch2 (F := F)) (fun c => (obl2 (U5 m) c).loose) (fun _ _ => rfl) (fun _ => rfl) (fun c => (dat2 (U5 m) c).share_full fun _ => rfl)
    (fun c => hin2 (U5 m) c) (fun c => hout2 (U5 m) c (cf2 (U5 m)).N (Nat.le_refl _)) (fun _ => 0) (SiteBlocks.Above.levelCut pcfgs (adms m) 2 (N := 1) (b := 1) (by decide) (by decide) (SiteBlocks.above_zero 1 1))
    (fun _ => iprop(emp)) (U5 m) (fun c w => A2_eq (U5 m) c w) (fun c k => by rw [one_core c]; rfl)

/-- The program's items. -/
abbrev segsK : List (Seg (pcfgs (F := F)) (adms m) (pdats m) 0 defs₀ Variants.none LL lvl) :=
  [.host (hseg hostOps0 hostOps0_sub hostOps0_fresh (U0 m)), .region (rseg0 m), .host (hseg hostOps1 hostOps1_sub hostOps1_fresh (U2 m)), .region (rseg1 m),
    .host (hseg hostOps2 hostOps2_sub hostOps2_fresh (U4 m)), .region (rseg2 m), .host (hseg hostOps3 hostOps3_sub hostOps3_fresh (U6 m))]

theorem arr0_sub : Pipeline.arrRefs (τ := τ) spec0 ⊆ Pipeline.ucRefs τ sig := by decide
theorem arr1_sub : Pipeline.arrRefs (τ := τ) spec1 ⊆ Pipeline.ucRefs τ sig := by decide
theorem arr2_sub : Pipeline.arrRefs (τ := τ) spec2 ⊆ Pipeline.ucRefs τ sig := by decide
theorem pre0_sub : Pipeline.tblRefs (τ := τ) pre0 ⊆ Pipeline.ucRefs τ sig := by decide
theorem pre1_sub : Pipeline.tblRefs (τ := τ) pre1 ⊆ Pipeline.ucRefs τ sig := by decide
theorem pre2_sub : Pipeline.tblRefs (τ := τ) pre2 ⊆ Pipeline.ucRefs τ sig := by decide

theorem seg_pre0 (c : Dev nD) : iprop(StableHlo.held (c.tc : Thread nD τ) (Pipeline.ucRefs τ sig) (U1 m c) ∗ Er c) ⊢ (rseg0 m).pre c := by
  unfold rseg0 Er
  exact RegionSeg.ofHeldInT_pre (pcs := pcfgs) (a := adms m) (pdats := pdats m) (p := 0) (D := fun _ => 0) (S := Pipeline.ucRefs τ sig) (X := fun _ => iprop(emp)) (Y := fun _ => iprop(emp)) (kit := launch0 (F := F)) (R := fun _ => iprop(emp)) (W := U1 m) (b := fun _ => 0) (by exact arr0_sub) (by exact pre0_sub) c
theorem seg_post0 (c : Dev nD) : (rseg0 m).post c ⊢ iprop(StableHlo.held (c.tc : Thread nD τ) (Pipeline.ucRefs τ sig) (U2 m c) ∗ Er c) := by
  unfold rseg0 Er U2
  exact RegionSeg.ofHeldInT_post (by exact arr0_sub) (by exact pre0_sub) c
theorem seg_pre1 (c : Dev nD) : iprop(StableHlo.held (c.tc : Thread nD τ) (Pipeline.ucRefs τ sig) (U3 m c) ∗ Er c) ⊢ (rseg1 m).pre c := by
  unfold rseg1 Er
  exact RegionSeg.ofHeldInT_pre (pcs := pcfgs) (a := adms m) (pdats := pdats m) (p := 1) (D := fun _ => 0) (S := Pipeline.ucRefs τ sig) (X := fun _ => iprop(emp)) (Y := fun _ => iprop(emp)) (kit := launch1 (F := F)) (R := fun _ => iprop(emp)) (W := U3 m) (b := fun _ => 0) (by exact arr1_sub) (by exact pre1_sub) c
theorem seg_post1 (c : Dev nD) : (rseg1 m).post c ⊢ iprop(StableHlo.held (c.tc : Thread nD τ) (Pipeline.ucRefs τ sig) (U4 m c) ∗ Er c) := by
  unfold rseg1 Er U4
  exact RegionSeg.ofHeldInT_post (by exact arr1_sub) (by exact pre1_sub) c
theorem seg_pre2 (c : Dev nD) : iprop(StableHlo.held (c.tc : Thread nD τ) (Pipeline.ucRefs τ sig) (U5 m c) ∗ Er c) ⊢ (rseg2 m).pre c := by
  unfold rseg2 Er
  exact RegionSeg.ofHeldInT_pre (pcs := pcfgs) (a := adms m) (pdats := pdats m) (p := 2) (D := fun _ => 0) (S := Pipeline.ucRefs τ sig) (X := fun _ => iprop(emp)) (Y := fun _ => iprop(emp)) (kit := launch2 (F := F)) (R := fun _ => iprop(emp)) (W := U5 m) (b := fun _ => 0) (by exact arr2_sub) (by exact pre2_sub) c
theorem seg_post2 (c : Dev nD) : (rseg2 m).post c ⊢ iprop(StableHlo.held (c.tc : Thread nD τ) (Pipeline.ucRefs τ sig) (U6 m c) ∗ Er c) := by
  unfold rseg2 Er U6
  exact RegionSeg.ofHeldInT_post (by exact arr2_sub) (by exact pre2_sub) c

set_option backward.isDefEq.respectTransparency.types false in
/-- Every run from memory `m` ends, with every buffer outside the calls' scopes at its last contents and every counter
    at zero. -/
theorem run_all (ρ : Dev nD → PrngReg) :
    θ_run defs (onTc (τ := τ) (main (F := F))) ⟨m, fun _ => 0, ρ⟩
      (fun r => (∀ c : Dev nD, ∀ b ∈ Pipeline.ucRefs τ sig, r.2.mem (c, b) = U7 m c b) ∧ r.2.sem = fun _ => 0) := by
  refine Pipeline.θ_run_regions_kit_dev_sems (pcfgs (F := F)) (adms m) (pdats m) 0 (cellOf_inj (adms m)) emb₁ defs₀ Variants.none LL lvl m ρ main
    (fun _ => segsK m)
    (fun c Q => by
      rewrite [main_chain c, Seg.run_eq_chain,
        show (segsK m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segsK, Seg.pipes_host, Seg.pipes_region, Seg.pipes_nil]; decide) (fun _ => 0) (SiteBlocks.hL 1) (fun _ => iprop(emp))
    (initOf (Pipeline.cells (Pipeline.pin (pcfgs (F := F)) (adms m)) (cellOf_inj (adms m))) (Pipeline.launchToks (Pipeline.pin (pcfgs (F := F)) (adms m)) (cellOf_inj (adms m))))
    (hu₀ := ?_)
    (T₀ := fun c => iprop(StableHlo.held (c : Thread nD τ) (Pipeline.ucRefs τ sig) (U0 m c) ∗ Er c))
    (Tₙ := fun c => StableHlo.held (c : Thread nD τ) (Pipeline.ucRefs τ sig) (U7 m c))
    (hch := fun c => ⟨.rfl, seg_pre0 m c, seg_post0 m c,
      seg_pre1 m c, seg_post1 m c,
      seg_pre2 m c, seg_post2 m c, sep_mono .rfl ?_⟩)
    (hinit := ?_) (QY := fun c s => ∀ b ∈ Pipeline.ucRefs τ sig, s.mem (c, b) = U7 m c b)
    (hfin := fun c s' => ?_) (hQ := fun _ h hz => ⟨h, funext fun g => hz g (.inr (regions_no_unscoped g.2))⟩)
  · rw [ownU_emb₁]
    iintro H
    imodintro
    isplitl [H]; · iexact H
    iapply (show (iprop(emp) : sProp 𝕄) ⊢ bigSep Finset.univ fun _ : Dev nD => (iprop(emp) : sProp 𝕄) from by rw [show (Finset.univ : Finset (Dev nD)) = {(0 : Dev nD)} from by decide, bigSep_singleton])
    iempintro
  · unfold Er; iintro ⟨H, -, -⟩; iexact H
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig ℕ) ∅ ∗ Pipeline.launchCred (fun _ => 0) c ∗ prngReg c (ρ c) ∗ emp) : sProp 𝕄)
        ⊢ bigSep Finset.univ fun c : Dev nD => iprop(StableHlo.held (c : Thread nD τ) (Pipeline.ucRefs τ sig) (U0 m c) ∗ Er c) from
      bigSep_mono fun c _ => by
        rw [← Pipeline.unscopedBufs_held (Ix := ℕ) (Name := ℕ) (U := UR sig nD τ) (Lvl := ℕ) c (U0 m c)]
        unfold Er
        show iprop(unscopedBufs c (fun b => m ((c.tc : Thread nD τ).loc b)) ∗ unscopedSems0 c ∗ owes (c.tc : Thread nD τ) (0 : CellTallies nD τ sig ℕ) ∅ ∗ Pipeline.launchCred (fun _ => 0) c ∗ prngReg c (ρ c) ∗ emp) ⊢ (iprop(unscopedBufs c (fun b => m ((c.tc : Thread nD τ).loc b)) ∗ (∃ Wd, owes (c.tc : Thread nD τ) (0 : CellTallies nD τ sig ℕ) Wd) ∗ emp ∗ emp) : sProp 𝕄)
        iintro ⟨H, -, HO, -, -, -⟩
        isplitl [H]; · iexact H
        isplitl [HO]; · iexists ∅; iexact HO
        isplitr <;> iempintro)
    iexact H
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact h
    · iexact HSI

end Cert.Kernel.Hand
-- ==== Proof.K.Frame.lean ====
/-
  What the run leaves, read off the last contents: every argument as launched, each result as the call that makes it
  leaves it, and what each call finds at entry.
-/
module

public import proofs.«01_k».proof.Proof.K.Run
public import Idealize.ShloMosaic.Lib.StableHlo.RunHlo

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen
open Idealize.ShloMosaic.Pipeline (Dat)

variable {F : FTy → Type} [FloatOps F]
variable (m : (ℓ : Loc nD τ sig) → Buf (Elt F) ℓ)

theorem U1_of (c : Dev nD) (r : Ref sig .tc) (h : r ∉ hostOps0_W) : U1 m c (Proc.devRef .tc r) = m (c, Proc.devRef .tc r) :=
  StableHlo.after_of_writes_sub hostOps0 _ hostOps0_writes h
theorem U2_of (c : Dev nD) (r : Ref sig .tc) (h2 : r ≠ main_v2_0) (h3 : r ≠ main_v2_1) : U2 m c (Proc.devRef .tc r) = U1 m c (Proc.devRef .tc r) :=
  Pipeline.afterRegion_keeps (dat0 (U1 m) c) (U1 m c) (launch0 (F := F)).win.arr_inj (A0_eq (U1 m) c) r
    (fun w => match w with
      | ⟨0, _⟩ => fun _ => rfl
      | ⟨1, _⟩ => fun _ => rfl
      | ⟨2, _⟩ => fun e => absurd e.symm h2
      | ⟨3, _⟩ => fun e => absurd e.symm h3)
theorem U3_of (c : Dev nD) (r : Ref sig .tc) (h : r ∉ hostOps1_W) : U3 m c (Proc.devRef .tc r) = U2 m c (Proc.devRef .tc r) :=
  StableHlo.after_of_writes_sub hostOps1 _ hostOps1_writes h
theorem U4_of (c : Dev nD) (r : Ref sig .tc) (h3 : r ≠ main_v5) : U4 m c (Proc.devRef .tc r) = U3 m c (Proc.devRef .tc r) :=
  Pipeline.afterRegion_keeps (dat1 (U3 m) c) (U3 m c) (launch1 (F := F)).win.arr_inj (A1_eq (U3 m) c) r
    (fun w => match w with
      | ⟨0, _⟩ => fun _ => rfl
      | ⟨1, _⟩ => fun _ => rfl
      | ⟨2, _⟩ => fun _ => rfl
      | ⟨3, _⟩ => fun e => absurd e.symm h3)
theorem U5_of (c : Dev nD) (r : Ref sig .tc) (h : r ∉ hostOps2_W) : U5 m c (Proc.devRef .tc r) = U4 m c (Proc.devRef .tc r) :=
  StableHlo.after_of_writes_sub hostOps2 _ hostOps2_writes h
theorem U6_of (c : Dev nD) (r : Ref sig .tc) (h4 : r ≠ main_v8) : U6 m c (Proc.devRef .tc r) = U5 m c (Proc.devRef .tc r) :=
  Pipeline.afterRegion_keeps (dat2 (U5 m) c) (U5 m c) (launch2 (F := F)).win.arr_inj (A2_eq (U5 m) c) r
    (fun w => match w with
      | ⟨0, _⟩ => fun _ => rfl
      | ⟨1, _⟩ => fun _ => rfl
      | ⟨2, _⟩ => fun _ => rfl
      | ⟨3, _⟩ => fun _ => rfl
      | ⟨4, _⟩ => fun e => absurd e.symm h4)
theorem U7_of (c : Dev nD) (r : Ref sig .tc) (h : r ∉ hostOps3_W) : U7 m c (Proc.devRef .tc r) = U6 m c (Proc.devRef .tc r) :=
  StableHlo.after_of_writes_sub hostOps3 _ hostOps3_writes h

/-- The buffers some item writes. -/
abbrev written : List (Ref sig .tc) := [main_cst, main_v0, main_v1, main_v2_0, main_v2_1, main_v3, main_v4, main_v5, main_v6, main_v7, main_v8, main_v9]

/-- A buffer no item writes is as launched when the second call starts, -/
theorem U3_keep (c : Dev nD) (r : Ref sig .tc) (h : r ∉ written) : U3 m c (Proc.devRef .tc r) = m (c, Proc.devRef .tc r) := by
  simp only [written, List.mem_cons, not_or] at h
  obtain ⟨a1, a2, a3, a4, a5, a6, a7, a8, a9, a10, a11, a12, -⟩ := h
  exact (U3_of m c r (by simp [hostOps1_W, a6, a7])).trans ((U2_of m c r a4 a5).trans (U1_of m c r (by simp [hostOps0_W, a1, a2, a3])))
/-- when the third starts, -/
theorem U5_keep (c : Dev nD) (r : Ref sig .tc) (h : r ∉ written) : U5 m c (Proc.devRef .tc r) = m (c, Proc.devRef .tc r) := by
  have h' := h
  simp only [written, List.mem_cons, not_or] at h
  obtain ⟨a1, a2, a3, a4, a5, a6, a7, a8, a9, a10, a11, a12, -⟩ := h
  exact (U5_of m c r (by simp [hostOps2_W, a9, a10])).trans ((U4_of m c r a8).trans (U3_keep m c r h'))
/-- and at the end. -/
theorem U7_keep (c : Dev nD) (r : Ref sig .tc) (h : r ∉ written) : U7 m c (Proc.devRef .tc r) = m (c, Proc.devRef .tc r) := by
  have h' := h
  simp only [written, List.mem_cons, not_or] at h
  obtain ⟨a1, a2, a3, a4, a5, a6, a7, a8, a9, a10, a11, a12, -⟩ := h
  exact (U7_of m c r (by simp [hostOps3_W, a12])).trans ((U6_of m c r a11).trans (U5_keep m c r h'))

/-- The codes the quantiser call leaves are what the later calls read and what the run returns. -/
theorem U2_codes (c : Dev nD) : U2 m c (Proc.devRef .tc main_v2_0) = (dat0 (U1 m) c).arrAt 2 (cf0 (U1 m)).N :=
  Pipeline.afterRegion_arr (dat0 (U1 m) c) (U1 m c) (launch0 (F := F)).win.arr_inj 2
theorem U2_amax (c : Dev nD) : U2 m c (Proc.devRef .tc main_v2_1) = (dat0 (U1 m) c).arrAt 3 (cf0 (U1 m)).N :=
  Pipeline.afterRegion_arr (dat0 (U1 m) c) (U1 m c) (launch0 (F := F)).win.arr_inj 3
theorem U3_codes (c : Dev nD) : U3 m c (Proc.devRef .tc main_v2_0) = (dat0 (U1 m) c).arrAt 2 (cf0 (U1 m)).N :=
  (U3_of m c main_v2_0 (by decide)).trans (U2_codes m c)
theorem U5_codes (c : Dev nD) : U5 m c (Proc.devRef .tc main_v2_0) = (dat0 (U1 m) c).arrAt 2 (cf0 (U1 m)).N :=
  (U5_of m c main_v2_0 (by decide)).trans ((U4_of m c main_v2_0 (by decide)).trans (U3_codes m c))
theorem U7_codes (c : Dev nD) : U7 m c (Proc.devRef .tc main_v2_0) = (dat0 (U1 m) c).arrAt 2 (cf0 (U1 m)).N :=
  (U7_of m c main_v2_0 (by decide)).trans ((U6_of m c main_v2_0 (by decide)).trans (U5_codes m c))
/-- The input gradient returned. -/
theorem U7_dx (c : Dev nD) : U7 m c (Proc.devRef .tc main_v5) = (dat1 (U3 m) c).arrAt 3 (cf1 (U3 m)).N :=
  (U7_of m c main_v5 (by decide)).trans ((U6_of m c main_v5 (by decide)).trans ((U5_of m c main_v5 (by decide)).trans
    (Pipeline.afterRegion_arr (dat1 (U3 m) c) (U3 m c) (launch1 (F := F)).win.arr_inj 3)))
/-- The weight gradient returned. -/
theorem U7_dw (c : Dev nD) : U7 m c (Proc.devRef .tc main_v8) = (dat2 (U5 m) c).arrAt 4 (cf2 (U5 m)).N :=
  (U7_of m c main_v8 (by decide)).trans (Pipeline.afterRegion_arr (dat2 (U5 m) c) (U5 m c) (launch2 (F := F)).win.arr_inj 4)
/-- The largest magnitude returned. -/
theorem U7_amax (c : Dev nD) : U7 m c (Proc.devRef .tc main_v9) = shapeCast S_ ((dat0 (U1 m) c).arrAt 3 (cf0 (U1 m)).N : Vec F S1x1 .f32) shapeCasts_S1x1_S_ := by
  rw [show ((dat0 (U1 m) c).arrAt 3 (cf0 (U1 m)).N : Vec F S1x1 .f32) = U6 m c (Proc.devRef .tc main_v2_1) from
    ((U6_of m c main_v2_1 (by decide)).trans ((U5_of m c main_v2_1 (by decide)).trans ((U4_of m c main_v2_1 (by decide)).trans
      ((U3_of m c main_v2_1 (by decide)).trans (U2_amax m c))))).symm]
  unfold U7
  simp only [StableHlo.after_cons, StableHlo.after_nil]
  rw [StableHlo.reshape_result]
  rfl

/-- The reciprocal of the scale, as the first call finds it. -/
theorem U1_v1 (c : Dev nD) : U1 m c (Proc.devRef .tc main_v1) =
    shapeCast S1 (Host.divf (constant S_ .f32 0x3F800000#32 : Vec F S_ .f32) (m (c, Proc.devRef .tc main_arg1) : Vec F S_ .f32)) shapeCasts_S_S1 := by
  unfold U1
  after_results
  try rfl
/-- The product of the scales, as the second call finds it. -/
theorem U3_v4 (c : Dev nD) : U3 m c (Proc.devRef .tc main_v4) =
    shapeCast S1 (mulf (m (c, Proc.devRef .tc main_arg1) : Vec F S_ .f32) (m (c, Proc.devRef .tc main_arg5) : Vec F S_ .f32)) shapeCasts_S_S1 := by
  rw [← (U2_of m c main_arg1 (by decide) (by decide)).trans (U1_of m c main_arg1 (by decide)), ← (U2_of m c main_arg5 (by decide) (by decide)).trans (U1_of m c main_arg5 (by decide))]
  unfold U3
  after_results
  try rfl

/-- The product of the scales, as the third call finds it. -/
theorem U5_v7 (c : Dev nD) : U5 m c (Proc.devRef .tc main_v7) =
    shapeCast S1 (mulf (m (c, Proc.devRef .tc main_arg1) : Vec F S_ .f32) (m (c, Proc.devRef .tc main_arg3) : Vec F S_ .f32)) shapeCasts_S_S1 := by
  rw [← (U4_of m c main_arg1 (by decide)).trans (U3_keep m c main_arg1 (by decide)), ← (U4_of m c main_arg3 (by decide)).trans (U3_keep m c main_arg3 (by decide))]
  unfold U5
  after_results
  try rfl

/-- Every run ends with every argument as launched and every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have hu : ∀ r : Ref sig .tc, ¬(Proc.devRef .tc r : DevRef τ sig).isScoped = true → (Proc.devRef .tc r : DevRef τ sig) ∈ Pipeline.ucRefs τ sig :=
    fun r h => Finset.mem_filter.mpr ⟨StableHlo.devRef_mem_tcRefs r, h⟩
  exact θ_run_mono (run_all m ρ) fun r h => ⟨fun c => ⟨(h.1 c _ (hu main_arg0 (by decide))).trans (U7_keep m c main_arg0 (by decide)),
    (h.1 c _ (hu main_arg1 (by decide))).trans (U7_keep m c main_arg1 (by decide)),
    (h.1 c _ (hu main_arg2 (by decide))).trans (U7_keep m c main_arg2 (by decide)),
    (h.1 c _ (hu main_arg3 (by decide))).trans (U7_keep m c main_arg3 (by decide)),
    (h.1 c _ (hu main_arg4 (by decide))).trans (U7_keep m c main_arg4 (by decide)),
    (h.1 c _ (hu main_arg5 (by decide))).trans (U7_keep m c main_arg5 (by decide)),
    (h.1 c _ (hu main_arg6 (by decide))).trans (U7_keep m c main_arg6 (by decide)),
    (h.1 c _ (hu main_arg7 (by decide))).trans (U7_keep m c main_arg7 (by decide))⟩, h.2⟩

end Cert.Kernel.Hand
-- ==== Proof.KI.Body0.lean ====
/-
  The quantising kernel's body at one grid point, for any float interpretation: what it leaves in the block of codes
  and in the running maximum, as plain functions of the gradient block, the scale, the sequence length and what the
  running maximum held before.
-/
module

public import proofs.«01_k».proof.Proof.Gen.KernelIdeal.Launch
public import proofs.«01_k».proof.Proof.Gen.KernelIdeal.Skeleton
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ (UR sig nD τ) ℕ

/-- The table of sequence lengths as the bodies are handed it. -/
abbrev tbM : Memref sig .tc .smem S4 .i32 := Memref.whole main_arg7
/-- The table's contents on core `c`. -/
abbrev TbBuf (c : Dev nD) : Type := Buf (Elt F) (tbM.view.loc (c : Thread nD τ))
/-- The table held on core `c` at contents `f`. -/
abbrev tbPt (c : Dev nD) (f : TbBuf (F := F) c) : sProp 𝕄 := tbM.view.loc (c : Thread nD τ) ↦{fullShare} f

/-- The one word of a one-element array. -/
abbrev word1 {e : EltTy} (s : Vec F S1 e) : Elt F e := s (Shape.Idx.first (numel1_S1.symm ▸ Nat.one_pos))

/-- The sequence length the quantising body reads at grid point `i`. -/
abbrev len0 (c : Dev nD) (i : grid0.Coords) (T : TbBuf (F := F) c) : BitVec 32 :=
  tbM.view.readAt (Elt F) (Rect.unit (s := S4) (k0_off1 i) S1.size (k0_off1_inb i)).toLoadRect T (Shape.Idx.first (numel1_S1.symm ▸ Nat.one_pos))

/-- The running maximum as the point's update finds it: reset at the first point. -/
def accIn0 (i : grid0.Coords) (acc : Vec F S1x1 .f32) : Vec F S1x1 .f32 :=
  if k0_cond1 i = 1#1 then k0_pay1 (F := F) else acc

/-- The running maximum the point leaves: raised by the block's largest magnitude where the block holds a live row. -/
def accOut0 (i : grid0.Coords) (n : BitVec 32) (d : Vec F S1x256x10240 .bf16) (acc : Vec F S1x1 .f32) : Vec F S1x1 .f32 :=
  if k0_cond2 i n = 1#1 then k0_pay3 i n d (accIn0 i acc) else accIn0 i acc

/-- The block of codes the point leaves: quantised where it holds a live row, zeros where it holds none. -/
def codes0 (i : grid0.Coords) (n : BitVec 32) (d : Vec F S1x256x10240 .bf16) (s : Elt F .f32) (old : Vec F S1x256x10240 .fp8e5m2) :
    Vec F S1x256x10240 .fp8e5m2 :=
  if k0_cond3 i n = 1#1 then k0_pay5 (F := F) else if k0_cond2 i n = 1#1 then k0_pay4 i n d s else old

theorem pay3_congr (i : grid0.Coords) {n n' : BitVec 32} {d d' : Vec F S1x256x10240 .bf16} {x x' : Vec F S1x1 .f32}
    (hn : n = n') (hd : d = d') (hx : x = x') : k0_pay3 i n d x = k0_pay3 i n' d' x' := by subst hn hd hx; rfl

theorem pay4_congr (i : grid0.Coords) {n n' : BitVec 32} {d d' : Vec F S1x256x10240 .bf16} {x x' : Elt F .f32}
    (hn : n = n') (hd : d = d') (hx : x = x') : k0_pay4 i n d x = k0_pay4 i n' d' x' := by subst hn hd hx; rfl

set_option maxHeartbeats 4000000 in
/-- The quantising body, run on any staging buffers. -/
theorem run0 (c : Dev nD) (i : grid0.Coords)
    (arg3 : Memref sig .tc .smem S1 .f32) (harg3 : arg3.IsWhole) (arg4 : Memref sig .tc .vmem S1x256x10240 .bf16) (harg4 : arg4.IsWhole)
    (arg5 : Memref sig .tc .vmem S1x256x10240 .fp8e5m2) (harg5 : arg5.IsWhole) (arg6 : Memref sig .tc .vmem S1x1 .f32) (harg6 : arg6.IsWhole)
    (s : Vec F S1 .f32) (d : Vec F S1x256x10240 .bf16) (q : Vec F S1x256x10240 .fp8e5m2) (acc : Vec F S1x1 .f32) (T : TbBuf (F := F) c)
    (E : Set ℕ) (K : PUnit → sProp 𝕄) :
    iprop(owns (c : Thread nD τ) arg3 fullShare s ∗ owns (c : Thread nD τ) arg4 fullShare d ∗ owns (c : Thread nD τ) arg5 fullShare q
        ∗ owns (c : Thread nD τ) arg6 fullShare acc ∗ tbPt c T
        ∗ (iprop(owns (c : Thread nD τ) arg3 fullShare s ∗ owns (c : Thread nD τ) arg4 fullShare d
            ∗ owns (c : Thread nD τ) arg5 fullShare (codes0 i (len0 c i T) d (word1 s) q)
            ∗ owns (c : Thread nD τ) arg6 fullShare (accOut0 i (len0 c i T) d acc) ∗ tbPt c T) -∗ K ⟨⟩))
      ⊢ wp frame (wpE (defs₀ (F := F)) Variants.none c none) E
          (cc0_quant i tbM (Memref.isWhole_whole _) arg3 harg3 arg4 harg4 arg5 harg5 arg6 harg6) K := by
  simp only [cc0_quant_eq_skeleton]; unfold cc0_quant_skel
  unfold accOut0 accIn0 codes0
  by_cases hc1 : k0_cond1 i = 1#1 <;> by_cases hc2 : k0_cond2 i (len0 c i T) = 1#1 <;> by_cases hc3 : k0_cond3 i (len0 c i T) = 1#1
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readCov_full (s := S1x1) arg6.view inb_S1x1_S1x1_0_0 inb_S1x1_S1x1_0_0 _ _))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact (pay4_congr i rfl (View.readAt_rep_full (s := S1x256x10240) arg4.view d inb_S1x256x10240_S1x256x10240_0_0_0) (congrFun (View.readAt_rep_full (s := S1) arg3.view s inb_S1_S1_0) _))
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readCov_full (s := S1x1) arg6.view inb_S1x1_S1x1_0_0 inb_S1x1_S1x1_0_0 _ _))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact rfl
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]; · iexact H5
    isplitl [H6]
    · iapply rep_of_owns; unfold owns; iexists _; isplitr; swap; · iexact H6
      ipureintro
      refine (View.read_writes_full (s := S1x1) _ _ _ _ _).trans ?_
      exact rfl
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readAt_rep_full (s := S1x1) arg6.view acc inb_S1x1_S1x1_0_0))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact (pay4_congr i rfl (View.readAt_rep_full (s := S1x256x10240) arg4.view d inb_S1x256x10240_S1x256x10240_0_0_0) (congrFun (View.readAt_rep_full (s := S1) arg3.view s inb_S1_S1_0) _))
    isplitl [H6]
    · iapply rep_of_owns; unfold owns; iexists _; isplitr; swap; · iexact H6
      ipureintro
      refine (View.read_writes_full (s := S1x1) _ _ _ _ _).trans ?_
      exact (pay3_congr i rfl (View.readAt_rep_full (s := S1x256x10240) arg4.view d inb_S1x256x10240_S1x256x10240_0_0_0) (View.readAt_rep_full (s := S1x1) arg6.view acc inb_S1x1_S1x1_0_0))
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]
    · iapply rep_of_owns; unfold owns; iexists _; isplitr; swap; · iexact H5
      ipureintro
      refine (View.read_writes_full (s := S1x256x10240) _ _ _ _ _).trans ?_
      exact rfl
    isplitl [H6]; · iexact H6
    iexact HT
  · simp only [hc1, hc2, hc3, if_true, if_false, ↓reduceIte, owns_eq_rep]
    iintro ⟨H3, H4, H5, H6, HT, Hk⟩
    sl_exec (disch := first | sl_exact hc1 | sl_exact hc2 | sl_exact hc3)
    sl_step
    iapply Hk
    isplitl [H3]; · iexact H3
    isplitl [H4]; · iexact H4
    isplitl [H5]; · iexact H5
    isplitl [H6]; · iexact H6
    iexact HT

end Cert.KernelIdeal.Hand

end
-- ==== Proof.KI.Ok.lean ====
/-
  Every table of sequence lengths gives block indices inside the arrays: a row-block index is held between zero and
  the grid's own index, whatever the lengths are.
-/
module

public import proofs.«01_k».proof.Proof.Gen.KernelIdeal.Launch
public import proofs.«01_k».proof.Proof.Words

@[expose] public section

set_option maxRecDepth 16384

noncomputable section

namespace Cert.KernelIdeal.Hand

open Idealize.ShloMosaic Cert.KernelIdeal.Gen Cert.Words

variable {F : FTy → Type} [FloatOps F]

/-- The length the quantising index map reads. -/
abbrev at0 (pf : pre0.Contents (Elt F)) (i : grid0.Coords) : BitVec 32 :=
  pf.at 0 (Rect.unit (s := S4) (k0_off1 i) S1.size (k0_off1_inb i)) numel1_S1
/-- The length the input-gradient index maps read. -/
abbrev at1 (pf : pre1.Contents (Elt F)) (i : grid1.Coords) : BitVec 32 :=
  pf.at 0 (Rect.unit (s := S4) (k1_off1 i) S1.size (k1_off1_inb i)) numel1_S1
/-- The length the weight-gradient index maps read. -/
abbrev at2 (pf : pre2.Contents (Elt F)) (i : grid2.Coords) : BitVec 32 :=
  pf.at 0 (Rect.unit (s := S4) (k2_off1 i) S1.size (k2_off1_inb i)) numel1_S1

theorem at0_atD (pf : pre0.Contents (Elt F)) (i : grid0.Coords) : at0 pf i = pf.atD 0 (k0_off1 i) := by
  refine Eq.trans ?_ (dif_pos (show ∀ a : Fin 1, k0_off1 i a + 1 ≤ S4.size a from fun a => by fin_cases a; exact k0_off1_inb i 0)).symm
  exact congrArg (pf 0) (funext fun a => Fin.ext (by show k0_off1 i a + _ = k0_off1 i a; first | rfl | omega))
theorem at1_atD (pf : pre1.Contents (Elt F)) (i : grid1.Coords) : at1 pf i = pf.atD 0 (k1_off1 i) := by
  refine Eq.trans ?_ (dif_pos (show ∀ a : Fin 1, k1_off1 i a + 1 ≤ S4.size a from fun a => by fin_cases a; exact k1_off1_inb i 0)).symm
  exact congrArg (pf 0) (funext fun a => Fin.ext (by show k1_off1 i a + _ = k1_off1 i a; first | rfl | omega))

theorem toNat_axis (k : Nat) (h : k < 4096) : (BitVec.ofNat 32 k).toNat = k := by rw [BitVec.toNat_ofNat]; omega

/-- The quantiser's block of gradients: batch, held row block, all columns. -/
theorem ix0_1 (pf : pre0.Contents (Elt F)) (i : grid0.Coords) :
    cc0_transform_1 k0_off1_inb numel1_S1 pf i = ![(i 0).val, (clampW 256#32 (at0 pf i) (BitVec.ofNat 32 (i 1).val)).toNat, 0] := by
  have h : cc0_transform_1 k0_off1_inb numel1_S1 pf i = ![(BitVec.ofNat 32 (i 0).val).toNat, (clampW 256#32 (at0 pf i) (BitVec.ofNat 32 (i 1).val)).toNat, (0#32 : BitVec 32).toNat] := rfl
  rw [h, toNat_axis _ (by have : (i 0).val < 4 := (i 0).isLt; omega)]; rfl

theorem ix1_1 (pf : pre1.Contents (Elt F)) (i : grid1.Coords) :
    cc1_transform_1 k1_off1_inb numel1_S1 pf i = ![(i 0).val, (clampW 1024#32 (at1 pf i) (BitVec.ofNat 32 (i 1).val)).toNat, 0] := by
  have h : cc1_transform_1 k1_off1_inb numel1_S1 pf i = ![(BitVec.ofNat 32 (i 0).val).toNat, (clampW 1024#32 (at1 pf i) (BitVec.ofNat 32 (i 1).val)).toNat, (0#32 : BitVec 32).toNat] := rfl
  rw [h, toNat_axis _ (by have : (i 0).val < 4 := (i 0).isLt; omega)]; rfl

/-- The weights' column block: the grid's own where the row block is live, the first otherwise. -/
def wcol (i : grid1.Coords) (n : BitVec 32) : Nat :=
  if Scalar.cmpi .slt (Scalar.muli (BitVec.ofNat 32 (i 1).val) 1024#32) n = 1#1 then (i 2).val else 0

theorem ix1_2 (pf : pre1.Contents (Elt F)) (i : grid1.Coords) :
    cc1_transform_2 k1_off1_inb numel1_S1 pf i = ![0, wcol i (at1 pf i)] := by
  have h : cc1_transform_2 k1_off1_inb numel1_S1 pf i = ![(0#32 : BitVec 32).toNat, (Scalar.select (Scalar.cmpi .slt (Scalar.muli (BitVec.ofNat 32 (i 1).val) 1024#32) (at1 pf i)) (BitVec.ofNat 32 (i 2).val) 0#32).toNat] := rfl
  rw [h]; unfold wcol Scalar.select
  have e : (1 : BitVec 1) = 1#1 := rfl
  rw [e]
  split
  · exact congrArg (fun z => (![0, z] : Fin 2 → Nat)) (toNat_axis _ (by have : (i 2).val < 16 := (i 2).isLt; omega))
  · rfl

theorem ix2_1 (pf : pre2.Contents (Elt F)) (i : grid2.Coords) :
    cc2_transform_1 k2_off1_inb numel1_S1 pf i = ![(i 2).val, (clampW 1024#32 (at2 pf i) (BitVec.ofNat 32 (i 3).val)).toNat, (i 0).val] := by
  have h : cc2_transform_1 k2_off1_inb numel1_S1 pf i = ![(BitVec.ofNat 32 (i 2).val).toNat, (clampW 1024#32 (at2 pf i) (BitVec.ofNat 32 (i 3).val)).toNat, (BitVec.ofNat 32 (i 0).val).toNat] := rfl
  rw [h, toNat_axis (i 2).val (by have : (i 2).val < 4 := (i 2).isLt; omega), toNat_axis (i 0).val (by have : (i 0).val < 10 := (i 0).isLt; omega)]

theorem ix2_2 (pf : pre2.Contents (Elt F)) (i : grid2.Coords) :
    cc2_transform_2 k2_off1_inb numel1_S1 pf i = ![(i 2).val, (clampW 1024#32 (at2 pf i) (BitVec.ofNat 32 (i 3).val)).toNat, (i 1).val] := by
  have h : cc2_transform_2 k2_off1_inb numel1_S1 pf i = ![(BitVec.ofNat 32 (i 2).val).toNat, (clampW 1024#32 (at2 pf i) (BitVec.ofNat 32 (i 3).val)).toNat, (BitVec.ofNat 32 (i 1).val).toNat] := rfl
  rw [h, toNat_axis (i 2).val (by have : (i 2).val < 4 := (i 2).isLt; omega), toNat_axis (i 1).val (by have : (i 1).val < 8 := (i 1).isLt; omega)]

/-- A block of three axes is inside its array when each index is. -/
theorem blk3 {a b c p q r P Q R : Nat} (h0 : (a + 1) * p ≤ P) (h1 : (b + 1) * q ≤ Q) (h2 : (c + 1) * r ≤ R) :
    ∀ x : Fin 3, ((![a, b, c] : Fin 3 → Nat) x + 1) * (![p, q, r] : Fin 3 → Nat) x ≤ (![P, Q, R] : Fin 3 → Nat) x := by
  intro x; fin_cases x
  exacts [h0, h1, h2]
theorem blk2 {a b p q P Q : Nat} (h0 : (a + 1) * p ≤ P) (h1 : (b + 1) * q ≤ Q) :
    ∀ x : Fin 2, ((![a, b] : Fin 2 → Nat) x + 1) * (![p, q] : Fin 2 → Nat) x ≤ (![P, Q] : Fin 2 → Nat) x := by
  intro x; fin_cases x
  exacts [h0, h1]

/-- Every table is admissible for the quantiser. -/
theorem ok0_all (pf : pre0.Contents (Elt F)) : ok0 pf := by
  intro i
  have hinb : ∀ a, (cc0_transform_1 k0_off1_inb numel1_S1 pf i a + 1) * S1x256x10240.size a ≤ S4x3072x10240.size a := by
    rw [ix0_1]
    have h0 : (i 0).val < 4 := (i 0).isLt
    have h1 : (i 1).val < 12 := (i 1).isLt
    have := clampW_le 256#32 (at0 pf i) (i 1).val (by omega)
    exact blk3 (by omega) (by omega) (by omega)
  exact ⟨hinb, Or.inr (Affine.block_words_dvd (by decide) (by decide))⟩

/-- Every table is admissible for the input gradient. -/
theorem ok1_all (pf : pre1.Contents (Elt F)) : ok1 pf := by
  refine ⟨fun i => ?_, fun i => ?_⟩
  · have hinb : ∀ a, (cc1_transform_1 k1_off1_inb numel1_S1 pf i a + 1) * S1x1024x10240.size a ≤ S4x3072x10240.size a := by
      rw [ix1_1]
      have h0 : (i 0).val < 4 := (i 0).isLt
      have h1 : (i 1).val < 3 := (i 1).isLt
      have := clampW_le 1024#32 (at1 pf i) (i 1).val (by omega)
      exact blk3 (by omega) (by omega) (by omega)
    exact ⟨hinb, Or.inr (Affine.block_words_dvd (by decide) (by decide))⟩
  · have hinb : ∀ a, (cc1_transform_2 k1_off1_inb numel1_S1 pf i a + 1) * S10240x512.size a ≤ S10240x8192.size a := by
      rw [ix1_2]
      have h1 : (i 2).val < 16 := (i 2).isLt
      have : wcol i (at1 pf i) < 16 := by unfold wcol; split <;> omega
      exact blk2 (by omega) (by omega)
    exact ⟨hinb, Or.inr (Affine.block_words_dvd (by decide) (by decide))⟩

/-- Every table is admissible for the weight gradient. -/
theorem ok2_all (pf : pre2.Contents (Elt F)) : ok2 pf := by
  refine ⟨fun i => ?_, fun i => ?_⟩
  · have hinb : ∀ a, (cc2_transform_1 k2_off1_inb numel1_S1 pf i a + 1) * S1x1024x1024.size a ≤ S4x3072x10240.size a := by
      rw [ix2_1]
      have h0 : (i 2).val < 4 := (i 2).isLt
      have h1 : (i 3).val < 3 := (i 3).isLt
      have h2 : (i 0).val < 10 := (i 0).isLt
      have := clampW_le 1024#32 (at2 pf i) (i 3).val (by omega)
      exact blk3 (by omega) (by omega) (by omega)
    exact ⟨hinb, Or.inr (Affine.block_words_dvd (by decide) (by decide))⟩
  · have hinb : ∀ a, (cc2_transform_2 k2_off1_inb numel1_S1 pf i a + 1) * S1x1024x1024.size a ≤ S4x3072x8192.size a := by
      rw [ix2_2]
      have h0 : (i 2).val < 4 := (i 2).isLt
      have h1 : (i 3).val < 3 := (i 3).isLt
      have h2 : (i 1).val < 8 := (i 1).isLt
      have := clampW_le 1024#32 (at2 pf i) (i 3).val (by omega)
      exact blk3 (by omega) (by omega) (by omega)
    exact ⟨hinb, Or.inr (Affine.block_words_dvd (by decide) (by decide))⟩

end Cert.KernelIdeal.Hand
-- ==== Proof.KI.Reg0.lean ====
/-
  The quantising call over its grid, for any float interpretation: what each point leaves in its staging buffers, and
  the body's obligation at every point. The running maximum is carried from point to point.
-/
module

public import proofs.«01_k».proof.Proof.KI.Body0
public import proofs.«01_k».proof.Proof.KI.Ok
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the quantising call reads at entry, -/
def tbl0 : pre0.Contents (Elt F) := fun j => W (0 : Dev nD) (Proc.devRef .tc (pre0.ref j))
/-- admissible as every table is, -/
abbrev adm0 : (pcfg0 (F := F)).Adm := ⟨tbl0 W, ok0_all _⟩
/-- and the pipeline at it. -/
abbrev cf0 : Pipeline.Cfg sig Λ₀ := cfg0 (adm0 W)

/-- Window `w`'s block at point `t`, read off its array at entry. -/
def iblk0 (c : Dev nD) (w : Fin (cf0 W).W) (t : Fin (cf0 W).N) : (((cf0 W).win w).xblock ((cf0 W).grid.coords t)).Idx → Elt F ((cf0 W).win w).elt :=
  (((cf0 W).win w).blk t).view.read (Elt F) (W c (Proc.devRef .tc (Pipeline.arrRef spec0 w)))

/-- The scale and the gradient block at a point, at their vector types; the table at its buffer's. -/
def sb0 (c : Dev nD) (t : Fin (cf0 W).N) : Vec F S1 .f32 := iblk0 W c 0 t
def gb0 (c : Dev nD) (t : Fin (cf0 W).N) : Vec F S1x256x10240 .bf16 := iblk0 W c 1 t
def tb0 (c : Dev nD) : TbBuf (F := F) c := tbl0 W 0

/-- The length read at a point. -/
abbrev ln0 (c : Dev nD) (t : Fin (cf0 W).N) : BitVec 32 := len0 (F := F) c (grid0.coords t) (tb0 W c)

/-- The running maximum after each point. -/
def acc0 (c : Dev nD) : (n : ℕ) → n < (cf0 W).N → Vec F S1x1 .f32
  | 0, h => accOut0 (grid0.coords ⟨0, h⟩) (ln0 W c ⟨0, h⟩) (gb0 W c ⟨0, h⟩) (k0_pay1 (F := F))
  | n + 1, h => accOut0 (grid0.coords ⟨n + 1, h⟩) (ln0 W c ⟨n + 1, h⟩) (gb0 W c ⟨n + 1, h⟩) (acc0 c n (Nat.lt_of_succ_lt h))

/-- The block of codes each point leaves. -/
def cod0 (c : Dev nD) (t : Fin (cf0 W).N) : Vec F S1x256x10240 .fp8e5m2 :=
  codes0 (grid0.coords t) (ln0 W c t) (gb0 W c t) (word1 (sb0 W c t)) (k0_pay5 (F := F))

/-- The proof data of the quantising call. -/
def dat0 (c : Dev nD) : Dat τ (Elt F) ℕ ℕ (UR sig nD τ) ℕ (cf0 W) c where
  A w := W c (Proc.devRef .tc (Pipeline.arrRef spec0 w))
  after w t := match w with
    | ⟨0, _⟩ => sb0 W c t
    | ⟨1, _⟩ => gb0 W c t
    | ⟨2, _⟩ => cod0 W c t
    | ⟨3, _⟩ => acc0 W c t.val t.isLt
  Φ _ := iprop(iprop(Pipeline.scopedRest spec0 c ∗ emp) ∗ Pipeline.prefHeld pre0 c (fun _ => fullShare) (tbl0 W))
  q _ := fullShare
  owed _ := 0

theorem A0_eq (c : Dev nD) (w : Fin (cf0 W).W) : (dat0 W c).A w = W c (Proc.devRef .tc (Pipeline.arrRef spec0 w)) := by
  dsimp only [dat0]
theorem after0_0 (c : Dev nD) (t : Fin (cf0 W).N) : (dat0 W c).after 0 t = sb0 W c t := by dsimp only [dat0]; try rfl
theorem after0_1 (c : Dev nD) (t : Fin (cf0 W).N) : (dat0 W c).after 1 t = gb0 W c t := by dsimp only [dat0]; try rfl
theorem after0_2 (c : Dev nD) (t : Fin (cf0 W).N) : (dat0 W c).after 2 t = cod0 W c t := by dsimp only [dat0]; try rfl
theorem after0_3 (c : Dev nD) (t : Fin (cf0 W).N) : (dat0 W c).after 3 t = acc0 W c t.val t.isLt := by dsimp only [dat0]; try rfl

theorem before0_0 (c : Dev nD) (t : Fin (cf0 W).N) (d) : (dat0 W c).before 0 t d = sb0 W c t :=
  ((dat0 W c).before_in_eq_fetched 0 rfl (fun _ => rfl) (fun _ _ _ => rfl) (fun t => by rw [after0_0]; unfold Dat.blockOf sb0 iblk0; rw [A0_eq]; try rfl) t d).trans
    (by unfold Dat.fetched Dat.blockOf sb0 iblk0; rw [A0_eq]; try rfl)
theorem before0_1 (c : Dev nD) (t : Fin (cf0 W).N) (d) : (dat0 W c).before 1 t d = gb0 W c t :=
  ((dat0 W c).before_in_eq_fetched 1 rfl (fun _ => rfl) (fun _ _ _ => rfl) (fun t => by rw [after0_1]; unfold Dat.blockOf gb0 iblk0; rw [A0_eq]; try rfl) t d).trans
    (by unfold Dat.fetched Dat.blockOf gb0 iblk0; rw [A0_eq]; try rfl)

/-- A point either holds a live row or holds none. -/
theorem cond0_or (i : grid0.Coords) (n : BitVec 32) : k0_cond2 i n = 1#1 ∨ k0_cond3 i n = 1#1 := by
  unfold k0_cond2 k0_cond3
  simp only
  generalize Scalar.muli (BitVec.ofNat 32 (i 1).val) 256#32 = x
  unfold Scalar.cmpi
  rw [WordCmp.cmpi_slt_eq, WordCmp.cmpi_sge_eq]
  by_cases h : x.toInt < n.toInt
  · left; rw [decide_eq_true h]; rfl
  · right; rw [decide_eq_true (by omega : n.toInt ≤ x.toInt)]; rfl

/-- The first point resets the running maximum. -/
theorem cond0_first (t : Fin grid0.N) (h : t.val = 0) : k0_cond1 (grid0.coords t) = 1#1 := by
  have e : t = ⟨0, by decide⟩ := Fin.ext h
  subst e; decide

theorem len0_at (c : Dev nD) (i : grid0.Coords) (T : pre0.Contents (Elt F)) : len0 (F := F) c i (T 0) = at0 T i := rfl
theorem len0_atD (c : Dev nD) (i : grid0.Coords) (T : pre0.Contents (Elt F)) : T.atD 0 (k0_off1 i) = len0 (F := F) c i (T 0) :=
  ((len0_at c i T).trans (at0_atD T i)).symm

/-- The code block's window is stored at every point. -/
theorem live0_2 (t : Fin (cf0 W).N) : (cf0 W).idle 2 (grid0.coords t) = false := by
  show (!(k0_cond2 (grid0.coords t) ((tbl0 W).atD 0 (k0_off1 (grid0.coords t))) == 1#1) && !(k0_cond3 (grid0.coords t) ((tbl0 W).atD 0 (k0_off1 (grid0.coords t))) == 1#1)) = false
  rcases cond0_or (grid0.coords t) ((tbl0 W).atD 0 (k0_off1 (grid0.coords t))) with h | h <;> rw [h] <;> simp

/-- The running maximum's window is stored where the point resets it or holds a live row. -/
theorem idle0_3 (c : Dev nD) (t : Fin (cf0 W).N) : (cf0 W).idle 3 (grid0.coords t) = (!(k0_cond1 (grid0.coords t) == 1#1) && !(k0_cond2 (grid0.coords t) (ln0 W c t) == 1#1)) := by
  unfold ln0; rw [show len0 (F := F) c (grid0.coords t) (tb0 W c) = (tbl0 W).atD 0 (k0_off1 (grid0.coords t)) from (len0_atD c _ _).symm]; rfl

theorem flush0_3 (t : Fin (cf0 W).N) (h : t.val + 1 ≠ (cf0 W).N) : ((cf0 W).win 3).flush t = false := by
  unfold Pipeline.Window.flush
  have h1 : (decide (t.val + 1 = (cf0 W).grid.N)) = false := decide_eq_false h
  have h2 : (decide (∃ h : t.val + 1 < (cf0 W).grid.N, ((cf0 W).win 3).index ⟨t.val + 1, h⟩ ≠ ((cf0 W).win 3).index t)) = false :=
    decide_eq_false (fun ⟨_, hne⟩ => hne rfl)
  rw [h1, h2]; simp

theorem fresh0_3 (c : Dev nD) : ∀ (n : ℕ) (_ : n < (cf0 W).N), (cf0 W).fresh 3 n = decide (n = 0)
  | 0, _ => rfl
  | n + 1, h => by
    rw [(cf0 W).fresh_succ 3 n (Nat.lt_of_succ_lt h), flush0_3 W ⟨n, Nat.lt_of_succ_lt h⟩ (Nat.ne_of_lt h), fresh0_3 c n (Nat.lt_of_succ_lt h)]
    by_cases hn : n = 0
    · have := cond0_first ⟨n, Nat.lt_of_succ_lt h⟩ hn
      have hi : (cf0 W).idle 3 (grid0.coords ⟨n, Nat.lt_of_succ_lt h⟩) = false := by rw [idle0_3 W c, this]; simp
      rw [show (cf0 W).grid.coords ⟨n, Nat.lt_of_succ_lt h⟩ = grid0.coords ⟨n, Nat.lt_of_succ_lt h⟩ from rfl, hi]; simp
    · simp [hn]

/-- At a point that neither resets nor holds a live row the running maximum stays. -/
theorem accOut0_idle (i : grid0.Coords) (n : BitVec 32) (d : Vec F S1x256x10240 .bf16) (acc : Vec F S1x1 .f32)
    (h : (!(k0_cond1 i == 1#1) && !(k0_cond2 i n == 1#1)) = true) : accOut0 i n d acc = acc := by
  simp only [Bool.and_eq_true, Bool.not_eq_true', beq_eq_false_iff_ne, ne_eq] at h
  unfold accOut0 accIn0
  rw [if_neg h.2, if_neg h.1]

theorem acc0_pos (c : Dev nD) (t : Fin (cf0 W).N) (h : t.val ≠ 0) :
    acc0 W c t.val t.isLt = accOut0 (grid0.coords t) (ln0 W c t) (gb0 W c t) (acc0 W c (t.val - 1) (by omega)) := by
  obtain ⟨n, hn⟩ := t
  cases n with
  | zero => exact absurd rfl h
  | succ n => rfl

theorem acc0_zero (c : Dev nD) (t : Fin (cf0 W).N) (h : t.val = 0) (old : Vec F S1x1 .f32) :
    acc0 W c t.val t.isLt = accOut0 (grid0.coords t) (ln0 W c t) (gb0 W c t) old := by
  obtain ⟨n, hn⟩ := t
  simp only at h; subst h
  have e : ∀ x y, accOut0 (F := F) (grid0.coords ⟨0, hn⟩) (ln0 W c ⟨0, hn⟩) (gb0 W c ⟨0, hn⟩) x = accOut0 (grid0.coords ⟨0, hn⟩) (ln0 W c ⟨0, hn⟩) (gb0 W c ⟨0, hn⟩) y := by
    intro x y; unfold accOut0 accIn0; rw [if_pos (cond0_first ⟨0, hn⟩ rfl), if_pos (cond0_first ⟨0, hn⟩ rfl)]
  exact e _ _

/-- What the running maximum's buffer holds when the body runs. -/
theorem before0_3 (c : Dev nD) (t : Fin (cf0 W).N) (d) :
    (dat0 W c).before 3 t d = if t.val = 0 then d else acc0 W c (t.val - 1) (by omega) := by
  rw [(dat0 W c).before_out_traj 3 rfl (fun _ _ => rfl) (fun t ht hi _ => by
    rw [after0_3, after0_3, acc0_pos W c t ht]
    rw [show (cf0 W).grid.coords t = grid0.coords t from rfl, idle0_3 W c] at hi
    exact accOut0_idle _ _ _ _ hi) t.val t rfl d, fresh0_3 W c t.val t.isLt, after0_3]
  by_cases h : t.val = 0
  · simp only [h, decide_true, if_true]
  · exact (if_neg (by simp [h])).trans (if_neg h).symm

/-- The same at its vector type. -/
def mx0 (c : Dev nD) (t : Fin (cf0 W).N) (d : ((cf0 W).win 3).block.Idx → Elt F ((cf0 W).win 3).elt) : Vec F S1x1 .f32 := (dat0 W c).before 3 t d
def od0 (c : Dev nD) (t : Fin (cf0 W).N) (d : ((cf0 W).win 2).block.Idx → Elt F ((cf0 W).win 2).elt) : Vec F S1x256x10240 .fp8e5m2 := (dat0 W c).before 2 t d

theorem mx0_pos (c : Dev nD) (t : Fin (cf0 W).N) (d) (h : t.val ≠ 0) : mx0 W c t d = acc0 W c (t.val - 1) (by omega) :=
  (before0_3 W c t d).trans (if_neg h)

/-- So the point's update of what it finds is the running maximum after it. -/
theorem accOut0_before (c : Dev nD) (t : Fin (cf0 W).N) (d) :
    accOut0 (grid0.coords t) (ln0 W c t) (gb0 W c t) (mx0 W c t d) = acc0 W c t.val t.isLt := by
  by_cases h : t.val = 0
  · exact (acc0_zero W c t h _).symm
  · rw [mx0_pos W c t d h, acc0_pos W c t h]

theorem codes0_old (i : grid0.Coords) (n : BitVec 32) (d : Vec F S1x256x10240 .bf16) (s : Elt F .f32) (x y : Vec F S1x256x10240 .fp8e5m2) :
    codes0 i n d s x = codes0 i n d s y := by
  unfold codes0
  by_cases h3 : k0_cond3 i n = 1#1
  · rw [if_pos h3, if_pos h3]
  · have h2 := (cond0_or i n).resolve_right h3
    rw [if_neg h3, if_neg h3, if_pos h2, if_pos h2]

/-- The table held whole, as the body is handed it. -/
theorem pref0_eq (c : Dev nD) : (Pipeline.prefHeld pre0 c (fun _ => fullShare) (tbl0 W) : sProp 𝕄) = tbPt c (tb0 W c) := by
  unfold Pipeline.prefHeld
  rw [show (Finset.univ : Finset (Fin 1)) = {(0 : Fin 1)} from by decide, bigSep_singleton]
  rfl

/-- Each window's staging memref at a point. -/
abbrev ms0_0 (t : Fin (cf0 W).N) : Memref sig .tc .smem S1 .f32 := spec0_0.stage ((cf0 W).slots t 0)
abbrev ms0_1 (t : Fin (cf0 W).N) : Memref sig .tc .vmem S1x256x10240 .bf16 := spec0_1.stage ((cf0 W).slots t 1)
abbrev ms0_2 (t : Fin (cf0 W).N) : Memref sig .tc .vmem S1x256x10240 .fp8e5m2 := spec0_2.stage ((cf0 W).slots t 2)
abbrev ms0_3 (t : Fin (cf0 W).N) : Memref sig .tc .vmem S1x1 .f32 := spec0_3.stage ((cf0 W).slots t 3)

/-- The body at a point, as the pipeline calls it. -/
abbrev bodyAt0 (t : Fin (cf0 W).N) : Prog (TpuEff nD τ sig (Elt F) Λ₀ .tc) PUnit :=
  cc0_quant (grid0.coords t) (Memref.whole main_arg7) (Memref.isWhole_whole _) (ms0_0 W t) (hstage0_0 (((cf0 W).slots t 0).cast nbuf0_0)) (ms0_1 W t) (hstage0_1 (((cf0 W).slots t 1).cast nbuf0_1)) (ms0_2 W t) (hstage0_2 (((cf0 W).slots t 2).cast nbuf0_2)) (ms0_3 W t) (hstage0_3 (((cf0 W).slots t 3).cast nbuf0_3))

/-- What the body is called with at a point, -/
def bodyPre0 (c : Dev nD) (t : Fin (cf0 W).N) : sProp 𝕄 :=
  iprop((dat0 W c).Φ t.castSucc ∗ (dat0 W c).owesAt 0 t.castSucc
    ∗ (∃ d, owns (c : Thread nD τ) (ms0_0 W t) fullShare ((dat0 W c).before 0 t d))
    ∗ (∃ d, owns (c : Thread nD τ) (ms0_1 W t) fullShare ((dat0 W c).before 1 t d))
    ∗ (∃ d, owns (c : Thread nD τ) (ms0_2 W t) fullShare ((dat0 W c).before 2 t d))
    ∗ (∃ d, owns (c : Thread nD τ) (ms0_3 W t) fullShare ((dat0 W c).before 3 t d)))

/-- and what it returns. -/
def bodyPost0 (c : Dev nD) (t : Fin (cf0 W).N) : sProp 𝕄 :=
  iprop((dat0 W c).Φ t.succ ∗ (dat0 W c).owesAt 0 t.succ
    ∗ (dat0 W c).leavesExact 0 t
    ∗ (dat0 W c).leavesExact 1 t
    ∗ (dat0 W c).leavesExact 2 t
    ∗ (dat0 W c).leavesExact 3 t)

/-- The running maximum's buffer at the point's contents is what the point hands back, stored or not. -/
theorem leaves0_3 (c : Dev nD) (t : Fin (cf0 W).N) (d) :
    (owns (c : Thread nD τ) (ms0_3 W t) fullShare (accOut0 (grid0.coords t) (ln0 W c t) (gb0 W c t) (mx0 W c t d)) : sProp 𝕄)
      ⊢ (dat0 W c).leavesExact 3 t := by
  by_cases hi : (cf0 W).idle 3 (grid0.coords t) = true
  · by_cases hf : ((cf0 W).win 3).flush t = true
    · rw [accOut0_before]
      rw [show (dat0 W c).leavesExact 3 t = owns (c : Thread nD τ) (ms0_3 W t) fullShare ((dat0 W c).after 3 t) from by
        unfold Dat.leavesExact; rw [show (cf0 W).idle 3 ((cf0 W).grid.coords t) = true from hi, hf]; rfl, after0_3]
    · rw [Dat.leavesExact_idle _ 3 t hi (Bool.eq_false_iff.mpr hf)]
      rw [idle0_3 W c] at hi
      rw [accOut0_idle _ _ _ _ hi]
      iintro H; iexists d; iexact H
  · rw [accOut0_before]
    rw [show (dat0 W c).leavesExact 3 t = owns (c : Thread nD τ) (ms0_3 W t) fullShare ((dat0 W c).after 3 t) from by
        unfold Dat.leavesExact; rw [show (cf0 W).idle 3 ((cf0 W).grid.coords t) = false from Bool.eq_false_iff.mpr hi]; rfl, after0_3]

/-- The body at any point. -/
theorem sound_body0 (c : Dev nD) (t : Fin (cf0 W).N) :
    bodyPre0 W c t ⊢ wp frame (wpE (defs₀ (F := F)) Variants.none c none) Set.univ (bodyAt0 W t) (fun _ => bodyPost0 W c t) := by
  unfold bodyPre0 bodyPost0 bodyAt0
  simp only [before0_0, before0_1]
  rw [show (dat0 W c).owesAt 0 t.succ = (dat0 W c).owesAt 0 t.castSucc from rfl]
  rw [show (dat0 W c).Φ t.succ = (dat0 W c).Φ t.castSucc from rfl]
  rw [show (dat0 W c).Φ t.castSucc = iprop(iprop(Pipeline.scopedRest spec0 c ∗ emp) ∗ Pipeline.prefHeld pre0 c (fun _ => fullShare) (tbl0 W)) from rfl, pref0_eq]
  rw [show (dat0 W c).leavesExact 0 t = owns (c : Thread nD τ) (ms0_0 W t) fullShare ((dat0 W c).after 0 t) from by
      unfold Dat.leavesExact; rw [show (cf0 W).idle 0 ((cf0 W).grid.coords t) = false from rfl]; try rfl, after0_0]
  rw [show (dat0 W c).leavesExact 1 t = owns (c : Thread nD τ) (ms0_1 W t) fullShare ((dat0 W c).after 1 t) from by
      unfold Dat.leavesExact; rw [show (cf0 W).idle 1 ((cf0 W).grid.coords t) = false from rfl]; try rfl, after0_1]
  rw [show (dat0 W c).leavesExact 2 t = owns (c : Thread nD τ) (ms0_2 W t) fullShare ((dat0 W c).after 2 t) from by
      unfold Dat.leavesExact; rw [show (cf0 W).idle 2 ((cf0 W).grid.coords t) = false from live0_2 W t]; try rfl, after0_2]
  iintro ⟨⟨HR, HT⟩, Ho, ⟨%d0, H0⟩, ⟨%d1, H1⟩, ⟨%d2, H2⟩, ⟨%d3, H3⟩⟩
  iapply (run0 c (grid0.coords t) _ _ _ _ _ _ _ _ (sb0 W c t) (gb0 W c t) (od0 W c t d2) (mx0 W c t d3) (tb0 W c) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HR HT]
  · isplitl [HR]; · iexact HR
    iexact HT
  isplitl [Ho]; · iexact Ho
  isplitl [H0]; · iexact H0
  isplitl [H1]; · iexact H1
  isplitl [H2]
  · unfold cod0
    rw [codes0_old _ _ _ _ (k0_pay5 (F := F)) (od0 W c t d2)]
    iexact H2
  iapply (leaves0_3 W c t d3)
  iexact H3

theorem defs₀_row0 (t : Fin (cf0 W).N) : defs₀ (F := F) .tc (cf0 W).body ((cf0 W).bodyArgs t ((cf0 W).slots t)) = bodyAt0 W t := by
  unfold defs₀; rw [Defs.onTc_tc]

/-- The body's obligation at every point. -/
theorem obl0 (c : Dev nD) : BodyObligation (dat0 W c) (defs₀ (F := F)) Variants.none 0 Set.univ := fun t => by
  rw [bigSep_W0, bigSep_W0, defs₀_row0 W]
  exact triple_restated (sound_body0 W c t) rfl .rfl fun _ => .rfl

end Cert.KernelIdeal.Hand
-- ==== Proof.KI.Body1.lean ====
/-
  The input-gradient kernel's body at one grid point, for any float interpretation: what it leaves in the output block,
  as a plain function of the block of codes, the block of weights, the scale and the sequence length.
-/
module

public import proofs.«01_k».proof.Proof.KI.Body0

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ (UR sig nD τ) ℕ

/-- The sequence length the body reads at grid point `i`. -/
abbrev len1 (c : Dev nD) (i : grid1.Coords) (T : TbBuf (F := F) c) : BitVec 32 :=
  tbM.view.readAt (Elt F) (Rect.unit (s := S4) (k1_off1 i) S1.size (k1_off1_inb i)).toLoadRect T (Shape.Idx.first (numel1_S1.symm ▸ Nat.one_pos))

/-- The output block the point leaves: the scaled product where the tile holds a live row, zeros where it holds none. -/
def out1 (i : grid1.Coords) (n : BitVec 32) (s : Elt F .f32) (q : Vec F S1x1024x10240 .fp8e5m2) (w : Vec F S10240x512 .fp8e4m3)
    (old : Vec F S1x1024x512 .bf16) : Vec F S1x1024x512 .bf16 :=
  if k1_cond2 i n = 1#1 then k1_pay2 (F := F) else if k1_cond1 i n = 1#1 then k1_pay1 q w s else old

theorem k1_pay1_congr {q q' : Vec F S1x1024x10240 .fp8e5m2} {w w' : Vec F S10240x512 .fp8e4m3} {x x' : Elt F .f32}
    (hq : q = q') (hw : w = w') (hx : x = x') : k1_pay1 q w x = k1_pay1 q' w' x' := by subst hq hw hx; rfl

set_option maxHeartbeats 4000000 in
/-- The input-gradient body, run on any staging buffers. -/
theorem run1 (c : Dev nD) (i : grid1.Coords)
    (arg4 : Memref sig .tc .smem S1 .f32) (harg4 : arg4.IsWhole) (arg5 : Memref sig .tc .vmem S1x1024x10240 .fp8e5m2) (harg5 : arg5.IsWhole)
    (arg6 : Memref sig .tc .vmem S10240x512 .fp8e4m3) (harg6 : arg6.IsWhole) (arg7 : Memref sig .tc .vmem S1x1024x512 .bf16) (harg7 : arg7.IsWhole)
    (s : Vec F S1 .f32) (q : Vec F S1x1024x10240 .fp8e5m2) (w : Vec F S10240x512 .fp8e4m3) (o : Vec F S1x1024x512 .bf16) (T : TbBuf (F := F) c)
    (E : Set ℕ) (K : PUnit → sProp 𝕄) :
    iprop(owns (c : Thread nD τ) arg4 fullShare s ∗ owns (c : Thread nD τ) arg5 fullShare q ∗ owns (c : Thread nD τ) arg6 fullShare w
        ∗ owns (c : Thread nD τ) arg7 fullShare o ∗ tbPt c T
        ∗ (iprop(owns (c : Thread nD τ) arg4 fullShare s ∗ owns (c : Thread nD τ) arg5 fullShare q ∗ owns (c : Thread nD τ) arg6 fullShare w
            ∗ owns (c : Thread nD τ) arg7 fullShare (out1 i (len1 c i T) (word1 s) q w o) ∗ tbPt c T) -∗ K ⟨⟩))
      ⊢ wp frame (wpE (defs₀ (F := F)) Variants.none c none) E
          (cc1_dgrad i tbM (Memref.isWhole_whole _) arg4 harg4 arg5 harg5 arg6 harg6 arg7 harg7) K := by
  simp only [cc1_dgrad_eq_skeleton]; unfold cc1_dgrad_skel
  unfold out1
  by_cases hc1 : k1_cond1 i (len1 c i T) = 1#1 <;> by_cases hc2 : k1_cond2 i (len1 c i T) = 1#1
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact rfl
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact k1_pay1_congr (View.readAt_rep_full (s := S1x1024x10240) arg5.view q inb_S1x1024x10240_S1x1024x10240_0_0_0) (View.readAt_rep_full (s := S10240x512) arg6.view w inb_S10240x512_S10240x512_0_0) (congrFun (View.readAt_rep_full (s := S1) arg4.view s inb_S1_S1_0) _)
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iapply rep_of_owns; unfold owns; iexists _; isplitr; swap; · iexact H7
      ipureintro
      refine (View.read_writes_full (s := S1x1024x512) _ _ _ _ _).trans ?_
      exact rfl
    iexact HT
  · simp only [hc1, hc2, if_true, if_false, ↓reduceIte, owns_eq_rep]
    iintro ⟨H4, H5, H6, H7, HT, Hk⟩
    sl_exec (disch := first | sl_exact hc1 | sl_exact hc2)
    sl_step
    iapply Hk
    isplitl [H4]; · iexact H4
    isplitl [H5]; · iexact H5
    isplitl [H6]; · iexact H6
    isplitl [H7]
    · iexact H7
    iexact HT

end Cert.KernelIdeal.Hand

end
-- ==== Proof.KI.Reg1.lean ====
/-
  The input-gradient call over its grid, for any float interpretation: what each point leaves in its output block, and
  the body's obligation at every point.
-/
module

public import proofs.«01_k».proof.Proof.KI.Body1
public import proofs.«01_k».proof.Proof.KI.Ok
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the call reads at entry, -/
def tbl1 : pre1.Contents (Elt F) := fun j => W (0 : Dev nD) (Proc.devRef .tc (pre1.ref j))
/-- admissible as every table is, -/
abbrev adm1 : (pcfg1 (F := F)).Adm := ⟨tbl1 W, ok1_all _⟩
/-- and the pipeline at it. -/
abbrev cf1 : Pipeline.Cfg sig Λ₀ := cfg1 (adm1 W)

/-- Window `w`'s block at point `t`, read off its array at entry. -/
def iblk1 (c : Dev nD) (w : Fin (cf1 W).W) (t : Fin (cf1 W).N) : (((cf1 W).win w).xblock ((cf1 W).grid.coords t)).Idx → Elt F ((cf1 W).win w).elt :=
  (((cf1 W).win w).blk t).view.read (Elt F) (W c (Proc.devRef .tc (Pipeline.arrRef spec1 w)))

/-- The table at its buffer's type, and the length read at a point. -/
def tb1 (c : Dev nD) : TbBuf (F := F) c := tbl1 W 0
abbrev ln1 (c : Dev nD) (t : Fin (cf1 W).N) : BitVec 32 := len1 (F := F) c (grid1.coords t) (tb1 W c)

/-- Input window 0's block at a point, at its vector type. -/
def sb1 (c : Dev nD) (t : Fin (cf1 W).N) : Vec F S1 .f32 := iblk1 W c 0 t
/-- Input window 1's block at a point, at its vector type. -/
def qb1 (c : Dev nD) (t : Fin (cf1 W).N) : Vec F S1x1024x10240 .fp8e5m2 := iblk1 W c 1 t
/-- Input window 2's block at a point, at its vector type. -/
def wb1 (c : Dev nD) (t : Fin (cf1 W).N) : Vec F S10240x512 .fp8e4m3 := iblk1 W c 2 t

/-- The output block each point leaves. -/
def ob1 (c : Dev nD) (t : Fin (cf1 W).N) : Vec F S1x1024x512 .bf16 :=
  out1 (grid1.coords t) (ln1 W c t) (word1 (sb1 W c t)) (qb1 W c t) (wb1 W c t) (k1_pay2 (F := F))

/-- The proof data of the input-gradient call. -/
def dat1 (c : Dev nD) : Dat τ (Elt F) ℕ ℕ (UR sig nD τ) ℕ (cf1 W) c where
  A w := W c (Proc.devRef .tc (Pipeline.arrRef spec1 w))
  after w t := match w with
    | ⟨0, _⟩ => sb1 W c t
    | ⟨1, _⟩ => qb1 W c t
    | ⟨2, _⟩ => wb1 W c t
    | ⟨3, _⟩ => ob1 W c t
  Φ _ := iprop(iprop(Pipeline.scopedRest spec1 c ∗ emp) ∗ Pipeline.prefHeld pre1 c (fun _ => fullShare) (tbl1 W))
  q _ := fullShare
  owed _ := 0

theorem A1_eq (c : Dev nD) (w : Fin (cf1 W).W) : (dat1 W c).A w = W c (Proc.devRef .tc (Pipeline.arrRef spec1 w)) := by
  dsimp only [dat1]
theorem after1_0 (c : Dev nD) (t : Fin (cf1 W).N) : (dat1 W c).after 0 t = sb1 W c t := by dsimp only [dat1]; try rfl
theorem after1_1 (c : Dev nD) (t : Fin (cf1 W).N) : (dat1 W c).after 1 t = qb1 W c t := by dsimp only [dat1]; try rfl
theorem after1_2 (c : Dev nD) (t : Fin (cf1 W).N) : (dat1 W c).after 2 t = wb1 W c t := by dsimp only [dat1]; try rfl
theorem after1_3 (c : Dev nD) (t : Fin (cf1 W).N) : (dat1 W c).after 3 t = ob1 W c t := by dsimp only [dat1]; try rfl

theorem before1_0 (c : Dev nD) (t : Fin (cf1 W).N) (d) : (dat1 W c).before 0 t d = sb1 W c t :=
  ((dat1 W c).before_in_eq_fetched 0 rfl (fun _ => rfl) (fun _ _ _ => rfl) (fun t => by rw [after1_0]; unfold Dat.blockOf sb1 iblk1; rw [A1_eq]; try rfl) t d).trans
    (by unfold Dat.fetched Dat.blockOf sb1 iblk1; rw [A1_eq]; try rfl)
theorem before1_1 (c : Dev nD) (t : Fin (cf1 W).N) (d) : (dat1 W c).before 1 t d = qb1 W c t :=
  ((dat1 W c).before_in_eq_fetched 1 rfl (fun _ => rfl) (fun _ _ _ => rfl) (fun t => by rw [after1_1]; unfold Dat.blockOf qb1 iblk1; rw [A1_eq]; try rfl) t d).trans
    (by unfold Dat.fetched Dat.blockOf qb1 iblk1; rw [A1_eq]; try rfl)
theorem before1_2 (c : Dev nD) (t : Fin (cf1 W).N) (d) : (dat1 W c).before 2 t d = wb1 W c t :=
  ((dat1 W c).before_in_eq_fetched 2 rfl (fun _ => rfl) (fun _ _ _ => rfl) (fun t => by rw [after1_2]; unfold Dat.blockOf wb1 iblk1; rw [A1_eq]; try rfl) t d).trans
    (by unfold Dat.fetched Dat.blockOf wb1 iblk1; rw [A1_eq]; try rfl)

/-- The table held whole, as the body is handed it. -/
theorem pref1_eq (c : Dev nD) : (Pipeline.prefHeld pre1 c (fun _ => fullShare) (tbl1 W) : sProp 𝕄) = tbPt c (tb1 W c) := by
  unfold Pipeline.prefHeld
  rw [show (Finset.univ : Finset (Fin 1)) = {(0 : Fin 1)} from by decide, bigSep_singleton]
  rfl

abbrev ms1_0 (t : Fin (cf1 W).N) : Memref sig .tc .smem S1 .f32 := spec1_0.stage ((cf1 W).slots t 0)
abbrev ms1_1 (t : Fin (cf1 W).N) : Memref sig .tc .vmem S1x1024x10240 .fp8e5m2 := spec1_1.stage ((cf1 W).slots t 1)
abbrev ms1_2 (t : Fin (cf1 W).N) : Memref sig .tc .vmem S10240x512 .fp8e4m3 := spec1_2.stage ((cf1 W).slots t 2)
abbrev ms1_3 (t : Fin (cf1 W).N) : Memref sig .tc .vmem S1x1024x512 .bf16 := spec1_3.stage ((cf1 W).slots t 3)

/-- A tile either holds a live row or holds none. -/
theorem cond1_or (i : grid1.Coords) (n : BitVec 32) : k1_cond1 i n = 1#1 ∨ k1_cond2 i n = 1#1 := by
  unfold k1_cond1 k1_cond2
  simp only
  generalize Scalar.muli (BitVec.ofNat 32 (i 1).val) 1024#32 = x
  unfold Scalar.cmpi
  rw [WordCmp.cmpi_slt_eq]
  by_cases h : x.toInt < n.toInt
  · left; rw [decide_eq_true h]; rfl
  · right; rw [decide_eq_false h]; rfl

/-- The output block's window is stored at every point. -/
theorem live1_3 (t : Fin (cf1 W).N) : (cf1 W).idle 3 (grid1.coords t) = false := by
  show (!(k1_cond1 (grid1.coords t) ((tbl1 W).atD 0 (k1_off1 (grid1.coords t))) == 1#1) && !(k1_cond2 (grid1.coords t) ((tbl1 W).atD 0 (k1_off1 (grid1.coords t))) == 1#1)) = false
  rcases cond1_or (grid1.coords t) ((tbl1 W).atD 0 (k1_off1 (grid1.coords t))) with h | h <;> rw [h] <;> simp

theorem out1_old (i : grid1.Coords) (n : BitVec 32) (s : Elt F .f32) (q : Vec F S1x1024x10240 .fp8e5m2) (w : Vec F S10240x512 .fp8e4m3) (x y : Vec F S1x1024x512 .bf16) :
    out1 i n s q w x = out1 i n s q w y := by
  unfold out1
  by_cases h3 : k1_cond2 i n = 1#1
  · rw [if_pos h3, if_pos h3]
  · have h2 := (cond1_or i n).resolve_right h3
    rw [if_neg h3, if_neg h3, if_pos h2, if_pos h2]

/-- What the output block's buffer holds when the body runs, at its vector type. -/
def od1 (c : Dev nD) (t : Fin (cf1 W).N) (d : ((cf1 W).win 3).block.Idx → Elt F ((cf1 W).win 3).elt) : Vec F S1x1024x512 .bf16 := (dat1 W c).before 3 t d

/-- The body at a point, as the pipeline calls it. -/
abbrev bodyAt1 (t : Fin (cf1 W).N) : Prog (TpuEff nD τ sig (Elt F) Λ₀ .tc) PUnit :=
  cc1_dgrad (grid1.coords t) (Memref.whole main_arg7) (Memref.isWhole_whole _) (ms1_0 W t) (hstage1_0 (((cf1 W).slots t 0).cast nbuf1_0)) (ms1_1 W t) (hstage1_1 (((cf1 W).slots t 1).cast nbuf1_1)) (ms1_2 W t) (hstage1_2 (((cf1 W).slots t 2).cast nbuf1_2)) (ms1_3 W t) (hstage1_3 (((cf1 W).slots t 3).cast nbuf1_3))

/-- What the body is called with at a point, -/
def bodyPre1 (c : Dev nD) (t : Fin (cf1 W).N) : sProp 𝕄 :=
  iprop((dat1 W c).Φ t.castSucc ∗ (dat1 W c).owesAt 0 t.castSucc
    ∗ (∃ d, owns (c : Thread nD τ) (ms1_0 W t) fullShare ((dat1 W c).before 0 t d))
    ∗ (∃ d, owns (c : Thread nD τ) (ms1_1 W t) fullShare ((dat1 W c).before 1 t d))
    ∗ (∃ d, owns (c : Thread nD τ) (ms1_2 W t) fullShare ((dat1 W c).before 2 t d))
    ∗ (∃ d, owns (c : Thread nD τ) (ms1_3 W t) fullShare ((dat1 W c).before 3 t d)))

/-- and what it returns. -/
def bodyPost1 (c : Dev nD) (t : Fin (cf1 W).N) : sProp 𝕄 :=
  iprop((dat1 W c).Φ t.succ ∗ (dat1 W c).owesAt 0 t.succ
    ∗ (dat1 W c).leavesExact 0 t
    ∗ (dat1 W c).leavesExact 1 t
    ∗ (dat1 W c).leavesExact 2 t
    ∗ (dat1 W c).leavesExact 3 t)

/-- The body at any point. -/
theorem sound_body1 (c : Dev nD) (t : Fin (cf1 W).N) :
    bodyPre1 W c t ⊢ wp frame (wpE (defs₀ (F := F)) Variants.none c none) Set.univ (bodyAt1 W t) (fun _ => bodyPost1 W c t) := by
  unfold bodyPre1 bodyPost1 bodyAt1
  simp only [before1_0, before1_1, before1_2]
  rw [show (dat1 W c).owesAt 0 t.succ = (dat1 W c).owesAt 0 t.castSucc from rfl]
  rw [show (dat1 W c).Φ t.succ = (dat1 W c).Φ t.castSucc from rfl]
  rw [show (dat1 W c).Φ t.castSucc = iprop(iprop(Pipeline.scopedRest spec1 c ∗ emp) ∗ Pipeline.prefHeld pre1 c (fun _ => fullShare) (tbl1 W)) from rfl, pref1_eq]
  rw [show (dat1 W c).leavesExact 0 t = owns (c : Thread nD τ) (ms1_0 W t) fullShare ((dat1 W c).after 0 t) from by
      unfold Dat.leavesExact; rw [show (cf1 W).idle 0 ((cf1 W).grid.coords t) = false from rfl]; try rfl, after1_0]
  rw [show (dat1 W c).leavesExact 1 t = owns (c : Thread nD τ) (ms1_1 W t) fullShare ((dat1 W c).after 1 t) from by
      unfold Dat.leavesExact; rw [show (cf1 W).idle 1 ((cf1 W).grid.coords t) = false from rfl]; try rfl, after1_1]
  rw [show (dat1 W c).leavesExact 2 t = owns (c : Thread nD τ) (ms1_2 W t) fullShare ((dat1 W c).after 2 t) from by
      unfold Dat.leavesExact; rw [show (cf1 W).idle 2 ((cf1 W).grid.coords t) = false from rfl]; try rfl, after1_2]
  rw [show (dat1 W c).leavesExact 3 t = owns (c : Thread nD τ) (ms1_3 W t) fullShare ((dat1 W c).after 3 t) from by
      unfold Dat.leavesExact; rw [show (cf1 W).idle 3 ((cf1 W).grid.coords t) = false from live1_3 W t]; try rfl, after1_3]
  iintro ⟨⟨HR, HT⟩, Ho, ⟨%d0, H0⟩, ⟨%d1, H1⟩, ⟨%d2, H2⟩, ⟨%d3, H3⟩⟩
  iapply (run1 c (grid1.coords t) _ _ _ _ _ _ _ _ (sb1 W c t) (qb1 W c t) (wb1 W c t) (od1 W c t d3) (tb1 W c) Set.univ _)
  isplitl [H0]; · iexact H0
  isplitl [H1]; · iexact H1
  isplitl [H2]; · iexact H2
  isplitl [H3]; · iexact H3
  isplitl [HT]; · iexact HT
  iintro ⟨H0, H1, H2, H3, HT⟩
  isplitl [HR HT]
  · isplitl [HR]; · iexact HR
    iexact HT
  isplitl [Ho]; · iexact Ho
  isplitl [H0]; · iexact H0
  isplitl [H1]; · iexact H1
  isplitl [H2]; · iexact H2
  unfold ob1
  rw [out1_old _ _ _ _ _ (k1_pay2 (F := F)) (od1 W c t d3)]
  iexact H3

theorem defs₀_row1 (t : Fin (cf1 W).N) : defs₀ (F := F) .tc (cf1 W).body ((cf1 W).bodyArgs t ((cf1 W).slots t)) = bodyAt1 W t := by
  unfold defs₀; rw [Defs.onTc_tc]

/-- The body's obligation at every point. -/
theorem obl1 (c : Dev nD) : BodyObligation (dat1 W c) (defs₀ (F := F)) Variants.none 0 Set.univ := fun t => by
  rw [bigSep_W1, bigSep_W1, defs₀_row1 W]
  exact triple_restated (sound_body1 W c t) rfl .rfl fun _ => .rfl

end Cert.KernelIdeal.Hand
-- ==== Proof.KI.Body2.lean ====
/-
  The weight-gradient kernel's body at one grid point, for any float interpretation: what it leaves in the accumulator
  and in the output block, as plain functions of the blocks it reads, the scale and the sequence length.
-/
module

public import proofs.«01_k».proof.Proof.KI.Body0

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ (UR sig nD τ) ℕ

/-- The sequence length the body reads at grid point `i`. -/
abbrev len2 (c : Dev nD) (i : grid2.Coords) (T : TbBuf (F := F) c) : BitVec 32 :=
  tbM.view.readAt (Elt F) (Rect.unit (s := S4) (k2_off1 i) S1.size (k2_off1_inb i)).toLoadRect T (Shape.Idx.first (numel1_S1.symm ▸ Nat.one_pos))

/-- The point is the first of its output block. -/
abbrev first2 (i : grid2.Coords) : Prop :=
  (Scalar.cmpi .ne (Scalar.extui (Scalar.andi (Scalar.cmpi .eq (BitVec.ofNat 32 (i 2).val) 0#32) (Scalar.cmpi .eq (BitVec.ofNat 32 (i 3).val) 0#32))) 0#32) = 1#1

/-- The tile holds a live row, the sequence length being `n`. -/
abbrev live2 (i : grid2.Coords) (n : BitVec 32) : Prop :=
  (Scalar.cmpi .ne (Scalar.extui (Scalar.cmpi .slt (Scalar.muli (BitVec.ofNat 32 (i 3).val) 1024#32) n)) 0#32) = 1#1

/-- The accumulator as the point's update finds it: cleared at the block's first point. -/
def accIn2 (i : grid2.Coords) (acc : Vec F S1024x1024 .f32) : Vec F S1024x1024 .f32 :=
  if first2 i then k2_pay1 (F := F) else acc

/-- The accumulator the point leaves: the tile's product added where the tile holds a live row. -/
def accOut2 (i : grid2.Coords) (n : BitVec 32) (q : Vec F S1x1024x1024 .fp8e5m2) (x : Vec F S1x1024x1024 .fp8e4m3) (acc : Vec F S1024x1024 .f32) :
    Vec F S1024x1024 .f32 :=
  if live2 i n then k2_pay2 (accIn2 i acc) q x else accIn2 i acc

/-- The output block the point leaves: at the block's last point the accumulator scaled and added to the gradient so far. -/
def out2 (i : grid2.Coords) (g : Vec F S1024x1024 .f32) (acc : Vec F S1024x1024 .f32) (s : Elt F .f32) (old : Vec F S1024x1024 .f32) : Vec F S1024x1024 .f32 :=
  if k2_cond3 i = 1#1 then k2_pay3 g acc s else old

theorem k2_pay2_congr {a a' : Vec F S1024x1024 .f32} {q q' : Vec F S1x1024x1024 .fp8e5m2} {x x' : Vec F S1x1024x1024 .fp8e4m3}
    (ha : a = a') (hq : q = q') (hx : x = x') : k2_pay2 a q x = k2_pay2 a' q' x' := by subst ha hq hx; rfl

theorem k2_pay3_congr {a a' b b' : Vec F S1024x1024 .f32} {x x' : Elt F .f32}
    (ha : a = a') (hb : b = b') (hx : x = x') : k2_pay3 a b x = k2_pay3 a' b' x' := by subst ha hb hx; rfl

set_option maxHeartbeats 4000000 in
/-- The weight-gradient body, run on any staging buffers and accumulator. -/
theorem run2 (c : Dev nD) (i : grid2.Coords)
    (arg5 : Memref sig .tc .smem S1 .f32) (harg5 : arg5.IsWhole) (arg6 : Memref sig .tc .vmem S1x1024x1024 .fp8e5m2) (harg6 : arg6.IsWhole)
    (arg7 : Memref sig .tc .vmem S1x1024x1024 .fp8e4m3) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x1024 .f32) (harg10 : arg10.IsWhole)
    (s : Vec F S1 .f32) (q : Vec F S1x1024x1024 .fp8e5m2) (x : Vec F S1x1024x1024 .fp8e4m3) (g o acc : Vec F S1024x1024 .f32) (T : TbBuf (F := F) c)
    (E : Set ℕ) (K : PUnit → sProp 𝕄) :
    iprop(owns (c : Thread nD τ) arg5 fullShare s ∗ owns (c : Thread nD τ) arg6 fullShare q ∗ owns (c : Thread nD τ) arg7 fullShare x
        ∗ owns (c : Thread nD τ) arg8 fullShare g ∗ owns (c : Thread nD τ) arg9 fullShare o ∗ owns (c : Thread nD τ) arg10 fullShare acc ∗ tbPt c T
        ∗ (iprop(owns (c : Thread nD τ) arg5 fullShare s ∗ owns (c : Thread nD τ) arg6 fullShare q ∗ owns (c : Thread nD τ) arg7 fullShare x
            ∗ owns (c : Thread nD τ) arg8 fullShare g
            ∗ owns (c : Thread nD τ) arg9 fullShare (out2 i g (accOut2 i (len2 c i T) q x acc) (word1 s) o)
            ∗ owns (c : Thread nD τ) arg10 fullShare (accOut2 i (len2 c i T) q x acc) ∗ tbPt c T) -∗ K ⟨⟩))
      ⊢ wp frame (wpE (defs₀ (F := F)) Variants.none c none) E
          (cc2_wgrad i tbM (Memref.isWhole_whole _) arg5 harg5 arg6 harg6 arg7 harg7 arg8 harg8 arg9 harg9 arg10 harg10) K := by
  simp only [cc2_wgrad_eq_skeleton]; unfold cc2_wgrad_skel
  unfold out2 accOut2 accIn2
  by_cases hc1 : first2 i <;> by_cases hc2 : live2 i (len2 c i T) <;> by_cases hc3 : k2_cond3 i = 1#1
  · simp only [if_pos hc1, if_pos hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) ((View.readCov_full (s := S1024x1024) arg10.view inb_S1024x1024_S1024x1024_0_0 inb_S1024x1024_S1024x1024_0_0 _ _).trans (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_pos hc1, if_pos hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact (k2_pay2_congr (View.readCov_full (s := S1024x1024) arg10.view inb_S1024x1024_S1024x1024_0_0 inb_S1024x1024_S1024x1024_0_0 _ _) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_pos hc1, if_neg hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) (View.readCov_full (s := S1024x1024) arg10.view inb_S1024x1024_S1024x1024_0_0 inb_S1024x1024_S1024x1024_0_0 _ _) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact rfl
    iexact HT
  · simp only [if_pos hc1, if_neg hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact rfl
    iexact HT
  · simp only [if_neg hc1, if_pos hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) ((View.readCov_full (s := S1024x1024) arg10.view inb_S1024x1024_S1024x1024_0_0 inb_S1024x1024_S1024x1024_0_0 _ _).trans (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))) (congrFun (View.readAt_rep_full (s := S1) arg5.view s inb_S1_S1_0) _)
    isplitl [H10]
    · iapply rep_of_owns; unfold owns; iexists _; isplitr; swap; · iexact H10
      ipureintro
      refine (View.read_writes_full (s := S1024x1024) _ _ _ _ _).trans ?_
      exact (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_neg hc1, if_pos hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iapply rep_of_owns; unfold owns; iexists _; isplitr; swap; · iexact H10
      ipureintro
      refine (View.read_writes_full (s := S1024x1024) _ _ _ _ _).trans ?_
      exact (k2_pay2_congr (View.readAt_rep_full (s := S1024x1024) arg10.view acc inb_S1024x1024_S1024x1024_0_0) (View.readAt_rep_full (s := S1x1024x1024) arg6.view q inb_S1x1024x1024_S1x1024x1024_0_0_0) (View.readAt_rep_full (s := S1x1024x1024) arg7.view x inb_S1x1024x1024_S1x1024x1024_0_0_0))
    iexact HT
  · simp only [if_neg hc1, if_neg hc2, if_pos hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iapply rep_of_owns; unfold owns; iexists _; isplitr; swap; · iexact H9
      ipureintro
      refine (View.read_writes_full (s := S1024x1024) _ _ _ _ _).trans ?_
      exact k2_pay3_congr (View.readAt_rep_full (s := S1024x1024) arg8.view g inb_S1024x1024_S1024x1024_0_0) (View.readAt_rep_full (s := S1024x1024) arg10.view acc inb_S1024x1024_S1024x1024_0_0) (congrFun (View.readAt_rep_full (s := S1) arg5.view s inb_S1_S1_0) _)
    isplitl [H10]
    · iexact H10
    iexact HT
  · simp only [if_neg hc1, if_neg hc2, if_neg hc3, owns_eq_rep]
    iintro ⟨H5, H6, H7, H8, H9, H10, HT, Hk⟩
    sl_exec (disch := first | sl_exact hc1 | sl_exact hc2 | sl_exact hc3)
    sl_step
    iapply Hk
    isplitl [H5]; · iexact H5
    isplitl [H6]; · iexact H6
    isplitl [H7]; · iexact H7
    isplitl [H8]; · iexact H8
    isplitl [H9]
    · iexact H9
    isplitl [H10]
    · iexact H10
    iexact HT

end Cert.KernelIdeal.Hand

end
-- ==== Proof.KI.Reg2.lean ====
/-
  The weight-gradient call over its grid, for any float interpretation: the accumulator after each point, the block the
  last point of each output block leaves, and the body's obligation at every point.
-/
module

public import proofs.«01_k».proof.Proof.KI.Body2
public import proofs.«01_k».proof.Proof.KI.Ok
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat BodyObligation)

variable {F : FTy → Type} [FloatOps F]

local notation "𝕄" => MT nD τ sig ℕ (Elt F) ℕ (UR sig nD τ) ℕ

variable (W : Dev nD → Valuation τ sig (Elt F))

/-- The table the call reads at entry, -/
def tbl2 : pre2.Contents (Elt F) := fun j => W (0 : Dev nD) (Proc.devRef .tc (pre2.ref j))
/-- admissible as every table is, -/
abbrev adm2 : (pcfg2 (F := F)).Adm := ⟨tbl2 W, ok2_all _⟩
/-- and the pipeline at it. -/
abbrev cf2 : Pipeline.Cfg sig Λ₀ := cfg2 (adm2 W)

/-- Window `w`'s block at point `t`, read off its array at entry. -/
def iblk2 (c : Dev nD) (w : Fin (cf2 W).W) (t : Fin (cf2 W).N) : (((cf2 W).win w).xblock ((cf2 W).grid.coords t)).Idx → Elt F ((cf2 W).win w).elt :=
  (((cf2 W).win w).blk t).view.read (Elt F) (W c (Proc.devRef .tc (Pipeline.arrRef spec2 w)))

/-- The table at its buffer's type, and the length read at a point. -/
def tb2 (c : Dev nD) : TbBuf (F := F) c := tbl2 W 0
abbrev ln2 (c : Dev nD) (t : Fin (cf2 W).N) : BitVec 32 := len2 (F := F) c (grid2.coords t) (tb2 W c)

/-- Input window 0's block at a point, at its vector type. -/
def sb2 (c : Dev nD) (t : Fin (cf2 W).N) : Vec F S1 .f32 := iblk2 W c 0 t
/-- Input window 1's block at a point, at its vector type. -/
def qb2 (c : Dev nD) (t : Fin (cf2 W).N) : Vec F S1x1024x1024 .fp8e5m2 := iblk2 W c 1 t
/-- Input window 2's block at a point, at its vector type. -/
def xb2 (c : Dev nD) (t : Fin (cf2 W).N) : Vec F S1x1024x1024 .fp8e4m3 := iblk2 W c 2 t
/-- Input window 3's block at a point, at its vector type. -/
def mb2 (c : Dev nD) (t : Fin (cf2 W).N) : Vec F S1024x1024 .f32 := iblk2 W c 3 t

/-- The accumulator after each point. -/
def acc2 (c : Dev nD) : (n : ℕ) → n < (cf2 W).N → Vec F S1024x1024 .f32
  | 0, h => accOut2 (grid2.coords ⟨0, h⟩) (ln2 W c ⟨0, h⟩) (qb2 W c ⟨0, h⟩) (xb2 W c ⟨0, h⟩) (k2_pay1 (F := F))
  | n + 1, h => accOut2 (grid2.coords ⟨n + 1, h⟩) (ln2 W c ⟨n + 1, h⟩) (qb2 W c ⟨n + 1, h⟩) (xb2 W c ⟨n + 1, h⟩) (acc2 c n (Nat.lt_of_succ_lt h))

/-- The output block the last point of its run leaves. -/
def fb2 (c : Dev nD) (t : Fin (cf2 W).N) : Vec F S1024x1024 .f32 :=
  k2_pay3 (mb2 W c t) (acc2 W c t.val t.isLt) (word1 (sb2 W c t))

/-- The accumulator's memref. -/
abbrev scM : Memref sig .tc .vmem S1024x1024 .f32 := Memref.whole cc2_scratch0

/-- The scoped buffers the call does not use. -/
def rest2 (c : Dev nD) : sProp 𝕄 :=
  Idealize.SL.BI.bigSepL [cc0_stg1_0, cc0_stg1_1, cc0_stg2_0, cc0_stg2_1, cc0_stg3_0, cc1_stg1_0, cc1_stg1_1, cc1_stg2_0, cc1_stg2_1, cc1_stg3_0, cc1_stg3_1, cc0_stg0_0, cc1_stg0_0] fun b => iprop(∃ f : Buf (Elt F) ((c.tc : Thread nD τ).loc b), ((c.tc : Thread nD τ).loc b) ↦{fullShare} f)

/-- The scoped buffers beside the staging buffers: the accumulator's and the unused ones. -/
theorem scoped2_eq (c : Dev nD) :
    (Pipeline.scopedRest spec2 c : sProp 𝕄) = iprop((∃ d, owns (c : Thread nD τ) scM fullShare d) ∗ rest2 c) := by
  rw [Pipeline.scopedRest_eq_of_list spec2 c [cc2_scratch0, cc0_stg1_0, cc0_stg1_1, cc0_stg2_0, cc0_stg2_1, cc0_stg3_0, cc1_stg1_0, cc1_stg1_1, cc1_stg2_0, cc1_stg2_1, cc1_stg3_0, cc1_stg3_1, cc0_stg0_0, cc1_stg0_0] (by decide) (by decide)]
  simp only [owns_whole]
  unfold rest2
  rfl

/-- The invariant before position `n`: the accumulator at what the point before left, at anything before the first. -/
def PhiS (c : Dev nD) (n : ℕ) (_ : n ≤ (cf2 W).N) : sProp 𝕄 :=
  iprop(iprop(iprop((∃ d, ⌜∀ h : n - 1 < (cf2 W).N, n ≠ 0 → d = acc2 W c (n - 1) h⌝ ∗ owns (c : Thread nD τ) scM fullShare d) ∗ rest2 c) ∗ emp)
    ∗ Pipeline.prefHeld pre2 c (fun _ => fullShare) (tbl2 W))

/-- The proof data of the weight-gradient call. -/
def dat2 (c : Dev nD) : Dat τ (Elt F) ℕ ℕ (UR sig nD τ) ℕ (cf2 W) c where
  A w := W c (Proc.devRef .tc (Pipeline.arrRef spec2 w))
  after w t := match w with
    | ⟨0, _⟩ => sb2 W c t
    | ⟨1, _⟩ => qb2 W c t
    | ⟨2, _⟩ => xb2 W c t
    | ⟨3, _⟩ => mb2 W c t
    | ⟨4, _⟩ => fb2 W c t
  Φ t := PhiS W c t.val (Nat.le_of_lt_succ t.isLt)
  q _ := fullShare
  owed _ := 0

theorem Phi2_castSucc (c : Dev nD) (t : Fin (cf2 W).N) : (dat2 W c).Φ t.castSucc = PhiS W c t.val (Nat.le_of_lt t.isLt) := by
  dsimp only [dat2]; exact Pipeline.Dat.Φ_castSucc (PhiS W c) t

theorem A2_eq (c : Dev nD) (w : Fin (cf2 W).W) : (dat2 W c).A w = W c (Proc.devRef .tc (Pipeline.arrRef spec2 w)) := by
  dsimp only [dat2]
theorem after2_0 (c : Dev nD) (t : Fin (cf2 W).N) : (dat2 W c).after 0 t = sb2 W c t := by dsimp only [dat2]; try rfl
theorem after2_1 (c : Dev nD) (t : Fin (cf2 W).N) : (dat2 W c).after 1 t = qb2 W c t := by dsimp only [dat2]; try rfl
theorem after2_2 (c : Dev nD) (t : Fin (cf2 W).N) : (dat2 W c).after 2 t = xb2 W c t := by dsimp only [dat2]; try rfl
theorem after2_3 (c : Dev nD) (t : Fin (cf2 W).N) : (dat2 W c).after 3 t = mb2 W c t := by dsimp only [dat2]; try rfl
theorem after2_4 (c : Dev nD) (t : Fin (cf2 W).N) : (dat2 W c).after 4 t = fb2 W c t := by dsimp only [dat2]; try rfl

theorem before2_0 (c : Dev nD) (t : Fin (cf2 W).N) (d) : (dat2 W c).before 0 t d = sb2 W c t :=
  ((dat2 W c).before_in_eq_fetched 0 rfl (fun _ => rfl) (fun _ _ _ => rfl) (fun t => by rw [after2_0]; unfold Dat.blockOf sb2 iblk2; rw [A2_eq]; try rfl) t d).trans
    (by unfold Dat.fetched Dat.blockOf sb2 iblk2; rw [A2_eq]; try rfl)
theorem before2_1 (c : Dev nD) (t : Fin (cf2 W).N) (d) : (dat2 W c).before 1 t d = qb2 W c t :=
  ((dat2 W c).before_in_eq_fetched 1 rfl (fun _ => rfl) (fun _ _ _ => rfl) (fun t => by rw [after2_1]; unfold Dat.blockOf qb2 iblk2; rw [A2_eq]; try rfl) t d).trans
    (by unfold Dat.fetched Dat.blockOf qb2 iblk2; rw [A2_eq]; try rfl)
theorem before2_2 (c : Dev nD) (t : Fin (cf2 W).N) (d) : (dat2 W c).before 2 t d = xb2 W c t :=
  ((dat2 W c).before_in_eq_fetched 2 rfl (fun _ => rfl) (fun _ _ _ => rfl) (fun t => by rw [after2_2]; unfold Dat.blockOf xb2 iblk2; rw [A2_eq]; try rfl) t d).trans
    (by unfold Dat.fetched Dat.blockOf xb2 iblk2; rw [A2_eq]; try rfl)
theorem before2_3 (c : Dev nD) (t : Fin (cf2 W).N) (d) : (dat2 W c).before 3 t d = mb2 W c t :=
  ((dat2 W c).before_in_eq_fetched 3 rfl (fun _ => rfl) (fun _ _ _ => rfl) (fun t => by rw [after2_3]; unfold Dat.blockOf mb2 iblk2; rw [A2_eq]; try rfl) t d).trans
    (by unfold Dat.fetched Dat.blockOf mb2 iblk2; rw [A2_eq]; try rfl)

/-- The table held whole, as the body is handed it. -/
theorem pref2_eq (c : Dev nD) : (Pipeline.prefHeld pre2 c (fun _ => fullShare) (tbl2 W) : sProp 𝕄) = tbPt c (tb2 W c) := by
  unfold Pipeline.prefHeld
  rw [show (Finset.univ : Finset (Fin 1)) = {(0 : Fin 1)} from by decide, bigSep_singleton]
  rfl

abbrev ms2_0 (t : Fin (cf2 W).N) : Memref sig .tc .smem S1 .f32 := spec2_0.stage ((cf2 W).slots t 0)
abbrev ms2_1 (t : Fin (cf2 W).N) : Memref sig .tc .vmem S1x1024x1024 .fp8e5m2 := spec2_1.stage ((cf2 W).slots t 1)
abbrev ms2_2 (t : Fin (cf2 W).N) : Memref sig .tc .vmem S1x1024x1024 .fp8e4m3 := spec2_2.stage ((cf2 W).slots t 2)
abbrev ms2_3 (t : Fin (cf2 W).N) : Memref sig .tc .vmem S1024x1024 .f32 := spec2_3.stage ((cf2 W).slots t 3)
abbrev ms2_4 (t : Fin (cf2 W).N) : Memref sig .tc .vmem S1024x1024 .f32 := spec2_4.stage ((cf2 W).slots t 4)

theorem coords2 (t : Fin grid2.N) : (grid2.coords t 0).val = t.val / 96 % 10 ∧ (grid2.coords t 1).val = t.val / 12 % 8
    ∧ (grid2.coords t 2).val = t.val / 3 % 4 ∧ (grid2.coords t 3).val = t.val / 1 % 3 :=
  ⟨Pipeline.Grid.coords_val t 0 (by decide) rfl, Pipeline.Grid.coords_val t 1 (by decide) rfl,
    Pipeline.Grid.coords_val t 2 (by decide) rfl, Pipeline.Grid.coords_val t 3 (by decide) rfl⟩

/-- The first point of an output block, by its position. -/
theorem first2_iff (t : Fin grid2.N) : first2 (grid2.coords t) ↔ t.val % 12 = 0 := by
  have hN : t.val < 960 := Nat.lt_of_lt_of_eq t.isLt N_2
  obtain ⟨e0, e1, e2, e3⟩ := coords2 t
  simp only [first2, e0, e1, e2, e3]
  word_cmp

/-- The last point of an output block, by its position. -/
theorem last2_iff (t : Fin grid2.N) : k2_cond3 (grid2.coords t) = 1#1 ↔ t.val % 12 = 11 := by
  have hN : t.val < 960 := Nat.lt_of_lt_of_eq t.isLt N_2
  obtain ⟨e0, e1, e2, e3⟩ := coords2 t
  simp only [k2_cond3, e0, e1, e2, e3]
  word_cmp

theorem idle2_4 (t : Fin (cf2 W).N) : (cf2 W).idle 4 (grid2.coords t) = !(k2_cond3 (grid2.coords t) == 1#1) := rfl

/-- The output block's window: batch of rows and of columns. -/
theorem ix2_4 (i : grid2.Coords) : cc2_transform_4 i = ![(i 0).val, (i 1).val] := by
  have h : cc2_transform_4 i = ![(BitVec.ofNat 32 (i 0).val).toNat, (BitVec.ofNat 32 (i 1).val).toNat] := rfl
  rw [h, toNat_axis (i 0).val (by have : (i 0).val < 10 := (i 0).isLt; omega), toNat_axis (i 1).val (by have : (i 1).val < 8 := (i 1).isLt; omega)]

/-- The output block is written back only after its last point. -/
theorem flush2_4 (t : Fin (cf2 W).N) (h : ¬t.val % 12 = 11) : ((cf2 W).win 4).flush t = false := by
  have hN : t.val < 960 := Nat.lt_of_lt_of_eq t.isLt N_2
  have hN' : (cf2 W).grid.N = 960 := N_2
  unfold Pipeline.Window.flush
  have h1 : (decide (t.val + 1 = (cf2 W).grid.N)) = false := decide_eq_false (by rw [hN']; omega)
  have h2 : (decide (∃ h : t.val + 1 < (cf2 W).grid.N, ((cf2 W).win 4).index ⟨t.val + 1, h⟩ ≠ ((cf2 W).win 4).index t)) = false :=
    decide_eq_false (fun ⟨hl, hne⟩ => hne (by
      show cc2_transform_4 (grid2.coords ⟨t.val + 1, hl⟩) = cc2_transform_4 (grid2.coords t)
      rw [ix2_4, ix2_4, (coords2 ⟨t.val + 1, hl⟩).1, (coords2 ⟨t.val + 1, hl⟩).2.1, (coords2 t).1, (coords2 t).2.1]
      have a0 : (t.val + 1) / 96 % 10 = t.val / 96 % 10 := by omega
      have a1 : (t.val + 1) / 12 % 8 = t.val / 12 % 8 := by omega
      show ![(t.val + 1) / 96 % 10, (t.val + 1) / 12 % 8] = _
      rw [a0, a1]))
  rw [h1, h2]; simp

/-- The point's update of the accumulator it finds is the accumulator after it. -/
theorem acc2_step (c : Dev nD) (t : Fin (cf2 W).N) (d : Vec F S1024x1024 .f32) (hd : ∀ h : t.val - 1 < (cf2 W).N, t.val ≠ 0 → d = acc2 W c (t.val - 1) h) :
    accOut2 (grid2.coords t) (ln2 W c t) (qb2 W c t) (xb2 W c t) d = acc2 W c t.val t.isLt := by
  obtain ⟨n, hn⟩ := t
  cases n with
  | zero =>
    have e : ∀ x y, accOut2 (F := F) (grid2.coords ⟨0, hn⟩) (ln2 W c ⟨0, hn⟩) (qb2 W c ⟨0, hn⟩) (xb2 W c ⟨0, hn⟩) x = accOut2 (grid2.coords ⟨0, hn⟩) (ln2 W c ⟨0, hn⟩) (qb2 W c ⟨0, hn⟩) (xb2 W c ⟨0, hn⟩) y := by
      intro x y; unfold accOut2 accIn2
      have hf := (first2_iff ⟨0, hn⟩).mpr rfl
      rw [if_pos hf, if_pos hf]
    exact e _ _
  | succ n =>
    rw [hd (Nat.lt_of_succ_lt hn) (Nat.succ_ne_zero n)]; rfl

/-- What the output block's buffer holds when the body runs, at its vector type. -/
def od2 (c : Dev nD) (t : Fin (cf2 W).N) (d : ((cf2 W).win 4).block.Idx → Elt F ((cf2 W).win 4).elt) : Vec F S1024x1024 .f32 := (dat2 W c).before 4 t d

/-- The body at a point, as the pipeline calls it. -/
abbrev bodyAt2 (t : Fin (cf2 W).N) : Prog (TpuEff nD τ sig (Elt F) Λ₀ .tc) PUnit :=
  cc2_wgrad (grid2.coords t) (Memref.whole main_arg7) (Memref.isWhole_whole _) (ms2_0 W t) (hstage2_0 (((cf2 W).slots t 0).cast nbuf2_0)) (ms2_1 W t) (hstage2_1 (((cf2 W).slots t 1).cast nbuf2_1)) (ms2_2 W t) (hstage2_2 (((cf2 W).slots t 2).cast nbuf2_2)) (ms2_3 W t) (hstage2_3 (((cf2 W).slots t 3).cast nbuf2_3)) (ms2_4 W t) (hstage2_4 (((cf2 W).slots t 4).cast nbuf2_4)) (Memref.whole cc2_scratch0) (Memref.isWhole_whole _)

/-- What the body is called with at a point, -/
def bodyPre2 (c : Dev nD) (t : Fin (cf2 W).N) : sProp 𝕄 :=
  iprop((dat2 W c).Φ t.castSucc ∗ (dat2 W c).owesAt 0 t.castSucc
    ∗ (∃ d, owns (c : Thread nD τ) (ms2_0 W t) fullShare ((dat2 W c).before 0 t d))
    ∗ (∃ d, owns (c : Thread nD τ) (ms2_1 W t) fullShare ((dat2 W c).before 1 t d))
    ∗ (∃ d, owns (c : Thread nD τ) (ms2_2 W t) fullShare ((dat2 W c).before 2 t d))
    ∗ (∃ d, owns (c : Thread nD τ) (ms2_3 W t) fullShare ((dat2 W c).before 3 t d))
    ∗ (∃ d, owns (c : Thread nD τ) (ms2_4 W t) fullShare ((dat2 W c).before 4 t d)))

/-- and what it returns. -/
def bodyPost2 (c : Dev nD) (t : Fin (cf2 W).N) : sProp 𝕄 :=
  iprop((dat2 W c).Φ t.succ ∗ (dat2 W c).owesAt 0 t.succ
    ∗ (dat2 W c).leavesExact 0 t
    ∗ (dat2 W c).leavesExact 1 t
    ∗ (dat2 W c).leavesExact 2 t
    ∗ (dat2 W c).leavesExact 3 t
    ∗ (dat2 W c).leavesExact 4 t)

/-- The output block's buffer after the body is what the point hands back, stored or not. -/
theorem leaves2_4 (c : Dev nD) (t : Fin (cf2 W).N) (d) :
    (owns (c : Thread nD τ) (ms2_4 W t) fullShare (out2 (grid2.coords t) (mb2 W c t) (acc2 W c t.val t.isLt) (word1 (sb2 W c t)) (od2 W c t d)) : sProp 𝕄)
      ⊢ (dat2 W c).leavesExact 4 t := by
  by_cases h : k2_cond3 (grid2.coords t) = 1#1
  · rw [show (dat2 W c).leavesExact 4 t = owns (c : Thread nD τ) (ms2_4 W t) fullShare ((dat2 W c).after 4 t) from by
        unfold Dat.leavesExact; rw [show (cf2 W).idle 4 ((cf2 W).grid.coords t) = false from by rw [show (cf2 W).grid.coords t = grid2.coords t from rfl, idle2_4, h]; rfl]; rfl, after2_4]
    unfold out2 fb2; rw [if_pos h]
  · rw [Dat.leavesExact_idle _ 4 t (by rw [show (cf2 W).grid.coords t = grid2.coords t from rfl, idle2_4]; simp [h]) (flush2_4 W t (fun e => h ((last2_iff t).mpr e)))]
    unfold out2; rw [if_neg h]
    iintro H; iexists d; iexact H

/-- The body at any point. -/
theorem sound_body2 (c : Dev nD) (t : Fin (cf2 W).N) :
    bodyPre2 W c t ⊢ wp frame (wpE (defs₀ (F := F)) Variants.none c none) Set.univ (bodyAt2 W t) (fun _ => bodyPost2 W c t) := by
  unfold bodyPre2 bodyPost2 bodyAt2
  simp only [before2_0, before2_1, before2_2, before2_3]
  rw [show (dat2 W c).owesAt 0 t.succ = (dat2 W c).owesAt 0 t.castSucc from rfl]
  rw [show (dat2 W c).Φ t.succ = PhiS W c (t.val + 1) t.isLt from rfl, Phi2_castSucc]
  unfold PhiS
  rw [pref2_eq]
  rw [show (dat2 W c).leavesExact 0 t = owns (c : Thread nD τ) (ms2_0 W t) fullShare ((dat2 W c).after 0 t) from by
      unfold Dat.leavesExact; rw [show (cf2 W).idle 0 ((cf2 W).grid.coords t) = false from rfl]; try rfl, after2_0]
  rw [show (dat2 W c).leavesExact 1 t = owns (c : Thread nD τ) (ms2_1 W t) fullShare ((dat2 W c).after 1 t) from by
      unfold Dat.leavesExact; rw [show (cf2 W).idle 1 ((cf2 W).grid.coords t) = false from rfl]; try rfl, after2_1]
  rw [show (dat2 W c).leavesExact 2 t = owns (c : Thread nD τ) (ms2_2 W t) fullShare ((dat2 W c).after 2 t) from by
      unfold Dat.leavesExact; rw [show (cf2 W).idle 2 ((cf2 W).grid.coords t) = false from rfl]; try rfl, after2_2]
  rw [show (dat2 W c).leavesExact 3 t = owns (c : Thread nD τ) (ms2_3 W t) fullShare ((dat2 W c).after 3 t) from by
      unfold Dat.leavesExact; rw [show (cf2 W).idle 3 ((cf2 W).grid.coords t) = false from rfl]; try rfl, after2_3]
  iintro ⟨⟨⟨⟨⟨%a, %ha, Hs⟩, HR⟩, He⟩, HT⟩, Ho, ⟨%d0, H0⟩, ⟨%d1, H1⟩, ⟨%d2, H2⟩, ⟨%d3, H3⟩, ⟨%d4, H4⟩⟩
  iapply (run2 c (grid2.coords t) _ _ _ _ _ _ _ _ _ _ _ _ (sb2 W c t) (qb2 W c t) (xb2 W c t) (mb2 W c t) (od2 W c t d4) a (tb2 W c) Set.univ _)
  isplitl [H0]; · iexact H0
  isplitl [H1]; · iexact H1
  isplitl [H2]; · iexact H2
  isplitl [H3]; · iexact H3
  isplitl [H4]; · iexact H4
  isplitl [Hs]; · iexact Hs
  isplitl [HT]; · iexact HT
  rw [acc2_step W c t a ha]
  iintro ⟨H0, H1, H2, H3, H4, Hs, HT⟩
  isplitl [HR He Hs HT]
  · isplitl [HR He Hs]
    · isplitl [HR Hs]
      · isplitl [Hs]
        · iexists (acc2 W c t.val t.isLt)
          isplitr
          · ipureintro; intro h _; rfl
          iexact Hs
        iexact HR
      iexact He
    iexact HT
  isplitl [Ho]; · iexact Ho
  isplitl [H0]; · iexact H0
  isplitl [H1]; · iexact H1
  isplitl [H2]; · iexact H2
  isplitl [H3]; · iexact H3
  iapply (leaves2_4 W c t d4)
  iexact H4

theorem defs₀_row2 (t : Fin (cf2 W).N) : defs₀ (F := F) .tc (cf2 W).body ((cf2 W).bodyArgs t ((cf2 W).slots t)) = bodyAt2 W t := by
  unfold defs₀; rw [Defs.onTc_tc]

/-- The body's obligation at every point. -/
theorem obl2 (c : Dev nD) : BodyObligation (dat2 W c) (defs₀ (F := F)) Variants.none 0 Set.univ := fun t => by
  rw [bigSep_W2, bigSep_W2, defs₀_row2 W]
  exact triple_restated (sound_body2 W c t) rfl .rfl fun _ => .rfl

end Cert.KernelIdeal.Hand
-- ==== Proof.KI.Run.lean ====
/-
  The whole run, for any float interpretation: the three calls between the host stretches, every buffer's contents at the
  end, and every counter at zero.
-/
module

public import proofs.«01_k».proof.Proof.KI.Reg0
public import proofs.«01_k».proof.Proof.KI.Reg1
public import proofs.«01_k».proof.Proof.KI.Reg2
public import proofs.«01_k».proof.Proof.Gen.KernelIdeal.Regions
public import Idealize.ShloMosaic.Lib.Pipeline.RegionArraysTS
public import Idealize.ShloMosaic.Lib.Pipeline.SiteBlocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat BodyObligation Seg HostSeg RegionSeg)

variable {F : FTy → Type} [FloatOps F]

local notation "𝕄" => MT nD τ sig ℕ (Elt F) ℕ (UR sig nD τ) ℕ

variable (m : (ℓ : Loc nD τ sig) → Buf (Elt F) ℓ)

/-! ## The contents between items -/

/-- The buffers at launch. -/
abbrev U0 (c : Dev nD) : Valuation τ sig (Elt F) := fun b => m (c, b)
/-- After the first host stretch. -/
def U1 (c : Dev nD) : Valuation τ sig (Elt F) := StableHlo.after hostOps0 (U0 m c)
/-- After the quantiser call. -/
def U2 (c : Dev nD) : Valuation τ sig (Elt F) := Pipeline.afterRegion (dat0 (U1 m) c) (U1 m c)
/-- After the second host stretch. -/
def U3 (c : Dev nD) : Valuation τ sig (Elt F) := StableHlo.after hostOps1 (U2 m c)
/-- After the input-gradient call. -/
def U4 (c : Dev nD) : Valuation τ sig (Elt F) := Pipeline.afterRegion (dat1 (U3 m) c) (U3 m c)
/-- After the third host stretch. -/
def U5 (c : Dev nD) : Valuation τ sig (Elt F) := StableHlo.after hostOps2 (U4 m c)
/-- After the weight-gradient call. -/
def U6 (c : Dev nD) : Valuation τ sig (Elt F) := Pipeline.afterRegion (dat2 (U5 m) c) (U5 m c)
/-- At the end. -/
def U7 (c : Dev nD) : Valuation τ sig (Elt F) := StableHlo.after hostOps3 (U6 m c)

/-- The tables the calls read. -/
def adms : (p : Fin 3) → (pcfgs (F := F) p).Adm
  | ⟨0, _⟩ => adm0 (U1 m)
  | ⟨1, _⟩ => adm1 (U3 m)
  | ⟨2, _⟩ => adm2 (U5 m)

/-- The calls' proof data. -/
def pdats : (p : Fin 3) → (c : Dev nD) → Dat τ (Elt F) ℕ ℕ (UR sig nD τ) ℕ (Pipeline.pin (pcfgs (F := F)) (adms m) p) c
  | ⟨0, _⟩ => dat0 (U1 m)
  | ⟨1, _⟩ => dat1 (U3 m)
  | ⟨2, _⟩ => dat2 (U5 m)

/-- What rides along beside the buffers: the core owes nothing. -/
def Er (c : Dev nD) : sProp 𝕄 := iprop((∃ Wd, owes (c : Thread nD τ) (0 : CellTallies nD τ sig ℕ) Wd) ∗ emp ∗ emp)

local notation "LL" => SiteBlocks.L (nD := nD) (τ := τ) (sig := sig) 1
local notation "lvl" => SiteBlocks.lv (nD := nD) (τ := τ) (sig := sig)

/-- A host stretch as a segment from a valuation. -/
def hseg (ops : List (HloOp τ sig (Elt F))) (hs : ops.Forall fun op => op.bufs ⊆ StableHlo.tcRefs τ sig) (hf : ops.Forall fun op => op.fresh = ∅)
    (V : Dev nD → Valuation τ sig (Elt F)) :
    HostSeg (Ix := ℕ) (Name := ℕ) (U := UR sig nD τ) (Lvl := ℕ) (pcfgs (F := F)) defs₀ Variants.none LL lvl :=
  HostSeg.ofOps _ _ _ _ _ (Pipeline.ucRefs τ sig) ops
    (fun op h => Pipeline.sub_ucRefs op ((List.forall_iff_forall_mem.mp hs) op h))
    (fun op h => (List.forall_iff_forall_mem.mp hf) op h) V Er

theorem one_core (c : Dev nD) : c = 0 := Subsingleton.elim _ _

theorem hin0 (W : Dev nD → Valuation τ sig (Elt F)) (c : Dev nD) :
    iprop(iprop(Pipeline.scopedRest spec0 c ∗ emp) ∗ Pipeline.prefHeld pre0 c (fun _ => fullShare) (tbl0 W)) ⊢ ((dat0 W c).Φ 0 : sProp 𝕄) := by
  dsimp only [dat0]; exact .rfl
theorem hout0 (W : Dev nD → Valuation τ sig (Elt F)) (c : Dev nD) :
    ((dat0 W c).Φ (Fin.last (cf0 W).N) : sProp 𝕄) ⊢ iprop(iprop(Pipeline.scopedRest spec0 c ∗ emp) ∗ Pipeline.prefHeld pre0 c (fun _ => fullShare) (tbl0 W)) := by
  dsimp only [dat0]; exact .rfl

/-- The quantiser call as a segment. -/
def rseg0 : RegionSeg (pcfgs (F := F)) (adms m) (pdats m) 0 defs₀ Variants.none LL lvl 0 :=
  RegionSeg.ofHeldInT pcfgs (adms m) (pdats m) 0 defs₀ Variants.none LL lvl 0 (fun _ => 0) (Pipeline.ucRefs τ sig) (fun _ => iprop(emp)) (fun _ => iprop(emp))
    (launch0 (F := F)) (fun c => (obl0 (U1 m) c).loose) (fun _ _ => rfl) (fun _ => rfl) (fun c => (dat0 (U1 m) c).share_full fun _ => rfl)
    (hin0 (U1 m)) (hout0 (U1 m)) (fun _ => 0) (SiteBlocks.Above.levelCut pcfgs (adms m) 0 (N := 1) (b := 1) (by decide) (by decide) (SiteBlocks.above_zero 1 1))
    (fun _ => iprop(emp)) (U1 m) (fun c w => A0_eq (U1 m) c w) (fun c k => by rw [one_core c]; rfl)

theorem hin1 (W : Dev nD → Valuation τ sig (Elt F)) (c : Dev nD) :
    iprop(iprop(Pipeline.scopedRest spec1 c ∗ emp) ∗ Pipeline.prefHeld pre1 c (fun _ => fullShare) (tbl1 W)) ⊢ ((dat1 W c).Φ 0 : sProp 𝕄) := by
  dsimp only [dat1]; exact .rfl
theorem hout1 (W : Dev nD → Valuation τ sig (Elt F)) (c : Dev nD) :
    ((dat1 W c).Φ (Fin.last (cf1 W).N) : sProp 𝕄) ⊢ iprop(iprop(Pipeline.scopedRest spec1 c ∗ emp) ∗ Pipeline.prefHeld pre1 c (fun _ => fullShare) (tbl1 W)) := by
  dsimp only [dat1]; exact .rfl

/-- The input-gradient call as a segment. -/
def rseg1 : RegionSeg (pcfgs (F := F)) (adms m) (pdats m) 0 defs₀ Variants.none LL lvl 1 :=
  RegionSeg.ofHeldInT pcfgs (adms m) (pdats m) 0 defs₀ Variants.none LL lvl 1 (fun _ => 0) (Pipeline.ucRefs τ sig) (fun _ => iprop(emp)) (fun _ => iprop(emp))
    (launch1 (F := F)) (fun c => (obl1 (U3 m) c).loose) (fun _ _ => rfl) (fun _ => rfl) (fun c => (dat1 (U3 m) c).share_full fun _ => rfl)
    (hin1 (U3 m)) (hout1 (U3 m)) (fun _ => 0) (SiteBlocks.Above.levelCut pcfgs (adms m) 1 (N := 1) (b := 1) (by decide) (by decide) (SiteBlocks.above_zero 1 1))
    (fun _ => iprop(emp)) (U3 m) (fun c w => A1_eq (U3 m) c w) (fun c k => by rw [one_core c]; rfl)

theorem hin2 (W : Dev nD → Valuation τ sig (Elt F)) (c : Dev nD) :
    iprop(iprop(Pipeline.scopedRest spec2 c ∗ emp) ∗ Pipeline.prefHeld pre2 c (fun _ => fullShare) (tbl2 W)) ⊢ (PhiS W c 0 (Nat.zero_le _) : sProp 𝕄) := by
  unfold PhiS; rw [scoped2_eq]
  iintro ⟨⟨⟨⟨%d, Hs⟩, HR⟩, He⟩, HT⟩
  isplitl [Hs HR He]
  · isplitl [Hs HR]
    · isplitl [Hs]
      · iexists d
        isplitr
        · ipureintro; intro _ h; exact absurd rfl h
        iexact Hs
      iexact HR
    iexact He
  iexact HT

theorem hout2 (W : Dev nD → Valuation τ sig (Elt F)) (c : Dev nD) (n : ℕ) (h : n ≤ (cf2 W).N) :
    (PhiS W c n h : sProp 𝕄) ⊢ iprop(iprop(Pipeline.scopedRest spec2 c ∗ emp) ∗ Pipeline.prefHeld pre2 c (fun _ => fullShare) (tbl2 W)) := by
  unfold PhiS; rw [scoped2_eq]
  iintro ⟨⟨⟨⟨%d, -, Hs⟩, HR⟩, He⟩, HT⟩
  isplitl [Hs HR He]
  · isplitl [Hs HR]
    · isplitl [Hs]
      · iexists d; iexact Hs
      iexact HR
    iexact He
  iexact HT

/-- The weight-gradient call as a segment. -/
def rseg2 : RegionSeg (pcfgs (F := F)) (adms m) (pdats m) 0 defs₀ Variants.none LL lvl 2 :=
  RegionSeg.ofHeldInT pcfgs (adms m) (pdats m) 0 defs₀ Variants.none LL lvl 2 (fun _ => 0) (Pipeline.ucRefs τ sig) (fun _ => iprop(emp)) (fun _ => iprop(emp))
    (launch2 (F := F)) (fun c => (obl2 (U5 m) c).loose) (fun _ _ => rfl) (fun _ => rfl) (fun c => (dat2 (U5 m) c).share_full fun _ => rfl)
    (fun c => hin2 (U5 m) c) (fun c => hout2 (U5 m) c (cf2 (U5 m)).N (Nat.le_refl _)) (fun _ => 0) (SiteBlocks.Above.levelCut pcfgs (adms m) 2 (N := 1) (b := 1) (by decide) (by decide) (SiteBlocks.above_zero 1 1))
    (fun _ => iprop(emp)) (U5 m) (fun c w => A2_eq (U5 m) c w) (fun c k => by rw [one_core c]; rfl)

/-- The program's items. -/
abbrev segsK : List (Seg (pcfgs (F := F)) (adms m) (pdats m) 0 defs₀ Variants.none LL lvl) :=
  [.host (hseg hostOps0 hostOps0_sub hostOps0_fresh (U0 m)), .region (rseg0 m), .host (hseg hostOps1 hostOps1_sub hostOps1_fresh (U2 m)), .region (rseg1 m),
    .host (hseg hostOps2 hostOps2_sub hostOps2_fresh (U4 m)), .region (rseg2 m), .host (hseg hostOps3 hostOps3_sub hostOps3_fresh (U6 m))]

theorem arr0_sub : Pipeline.arrRefs (τ := τ) spec0 ⊆ Pipeline.ucRefs τ sig := by decide
theorem arr1_sub : Pipeline.arrRefs (τ := τ) spec1 ⊆ Pipeline.ucRefs τ sig := by decide
theorem arr2_sub : Pipeline.arrRefs (τ := τ) spec2 ⊆ Pipeline.ucRefs τ sig := by decide
theorem pre0_sub : Pipeline.tblRefs (τ := τ) pre0 ⊆ Pipeline.ucRefs τ sig := by decide
theorem pre1_sub : Pipeline.tblRefs (τ := τ) pre1 ⊆ Pipeline.ucRefs τ sig := by decide
theorem pre2_sub : Pipeline.tblRefs (τ := τ) pre2 ⊆ Pipeline.ucRefs τ sig := by decide

theorem seg_pre0 (c : Dev nD) : iprop(StableHlo.held (c.tc : Thread nD τ) (Pipeline.ucRefs τ sig) (U1 m c) ∗ Er c) ⊢ (rseg0 m).pre c := by
  unfold rseg0 Er
  exact RegionSeg.ofHeldInT_pre (pcs := pcfgs) (a := adms m) (pdats := pdats m) (p := 0) (D := fun _ => 0) (S := Pipeline.ucRefs τ sig) (X := fun _ => iprop(emp)) (Y := fun _ => iprop(emp)) (kit := launch0 (F := F)) (R := fun _ => iprop(emp)) (W := U1 m) (b := fun _ => 0) (by exact arr0_sub) (by exact pre0_sub) c
theorem seg_post0 (c : Dev nD) : (rseg0 m).post c ⊢ iprop(StableHlo.held (c.tc : Thread nD τ) (Pipeline.ucRefs τ sig) (U2 m c) ∗ Er c) := by
  unfold rseg0 Er U2
  exact RegionSeg.ofHeldInT_post (by exact arr0_sub) (by exact pre0_sub) c
theorem seg_pre1 (c : Dev nD) : iprop(StableHlo.held (c.tc : Thread nD τ) (Pipeline.ucRefs τ sig) (U3 m c) ∗ Er c) ⊢ (rseg1 m).pre c := by
  unfold rseg1 Er
  exact RegionSeg.ofHeldInT_pre (pcs := pcfgs) (a := adms m) (pdats := pdats m) (p := 1) (D := fun _ => 0) (S := Pipeline.ucRefs τ sig) (X := fun _ => iprop(emp)) (Y := fun _ => iprop(emp)) (kit := launch1 (F := F)) (R := fun _ => iprop(emp)) (W := U3 m) (b := fun _ => 0) (by exact arr1_sub) (by exact pre1_sub) c
theorem seg_post1 (c : Dev nD) : (rseg1 m).post c ⊢ iprop(StableHlo.held (c.tc : Thread nD τ) (Pipeline.ucRefs τ sig) (U4 m c) ∗ Er c) := by
  unfold rseg1 Er U4
  exact RegionSeg.ofHeldInT_post (by exact arr1_sub) (by exact pre1_sub) c
theorem seg_pre2 (c : Dev nD) : iprop(StableHlo.held (c.tc : Thread nD τ) (Pipeline.ucRefs τ sig) (U5 m c) ∗ Er c) ⊢ (rseg2 m).pre c := by
  unfold rseg2 Er
  exact RegionSeg.ofHeldInT_pre (pcs := pcfgs) (a := adms m) (pdats := pdats m) (p := 2) (D := fun _ => 0) (S := Pipeline.ucRefs τ sig) (X := fun _ => iprop(emp)) (Y := fun _ => iprop(emp)) (kit := launch2 (F := F)) (R := fun _ => iprop(emp)) (W := U5 m) (b := fun _ => 0) (by exact arr2_sub) (by exact pre2_sub) c
theorem seg_post2 (c : Dev nD) : (rseg2 m).post c ⊢ iprop(StableHlo.held (c.tc : Thread nD τ) (Pipeline.ucRefs τ sig) (U6 m c) ∗ Er c) := by
  unfold rseg2 Er U6
  exact RegionSeg.ofHeldInT_post (by exact arr2_sub) (by exact pre2_sub) c

set_option backward.isDefEq.respectTransparency.types false in
/-- Every run from memory `m` ends, with every buffer outside the calls' scopes at its last contents and every counter
    at zero. -/
theorem run_all (ρ : Dev nD → PrngReg) :
    θ_run defs (onTc (τ := τ) (main (F := F))) ⟨m, fun _ => 0, ρ⟩
      (fun r => (∀ c : Dev nD, ∀ b ∈ Pipeline.ucRefs τ sig, r.2.mem (c, b) = U7 m c b) ∧ r.2.sem = fun _ => 0) := by
  refine Pipeline.θ_run_regions_kit_dev_sems (pcfgs (F := F)) (adms m) (pdats m) 0 (cellOf_inj (adms m)) emb₁ defs₀ Variants.none LL lvl m ρ main
    (fun _ => segsK m)
    (fun c Q => by
      rewrite [main_chain c, Seg.run_eq_chain,
        show (segsK m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [segsK, Seg.pipes_host, Seg.pipes_region, Seg.pipes_nil]; decide) (fun _ => 0) (SiteBlocks.hL 1) (fun _ => iprop(emp))
    (initOf (Pipeline.cells (Pipeline.pin (pcfgs (F := F)) (adms m)) (cellOf_inj (adms m))) (Pipeline.launchToks (Pipeline.pin (pcfgs (F := F)) (adms m)) (cellOf_inj (adms m))))
    (hu₀ := ?_)
    (T₀ := fun c => iprop(StableHlo.held (c : Thread nD τ) (Pipeline.ucRefs τ sig) (U0 m c) ∗ Er c))
    (Tₙ := fun c => StableHlo.held (c : Thread nD τ) (Pipeline.ucRefs τ sig) (U7 m c))
    (hch := fun c => ⟨.rfl, seg_pre0 m c, seg_post0 m c,
      seg_pre1 m c, seg_post1 m c,
      seg_pre2 m c, seg_post2 m c, sep_mono .rfl ?_⟩)
    (hinit := ?_) (QY := fun c s => ∀ b ∈ Pipeline.ucRefs τ sig, s.mem (c, b) = U7 m c b)
    (hfin := fun c s' => ?_) (hQ := fun _ h hz => ⟨h, funext fun g => hz g (.inr (regions_no_unscoped g.2))⟩)
  · rw [ownU_emb₁]
    iintro H
    imodintro
    isplitl [H]; · iexact H
    iapply (show (iprop(emp) : sProp 𝕄) ⊢ bigSep Finset.univ fun _ : Dev nD => (iprop(emp) : sProp 𝕄) from by rw [show (Finset.univ : Finset (Dev nD)) = {(0 : Dev nD)} from by decide, bigSep_singleton])
    iempintro
  · unfold Er; iintro ⟨H, -, -⟩; iexact H
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig ℕ) ∅ ∗ Pipeline.launchCred (fun _ => 0) c ∗ prngReg c (ρ c) ∗ emp) : sProp 𝕄)
        ⊢ bigSep Finset.univ fun c : Dev nD => iprop(StableHlo.held (c : Thread nD τ) (Pipeline.ucRefs τ sig) (U0 m c) ∗ Er c) from
      bigSep_mono fun c _ => by
        rw [← Pipeline.unscopedBufs_held (Ix := ℕ) (Name := ℕ) (U := UR sig nD τ) (Lvl := ℕ) c (U0 m c)]
        unfold Er
        show iprop(unscopedBufs c (fun b => m ((c.tc : Thread nD τ).loc b)) ∗ unscopedSems0 c ∗ owes (c.tc : Thread nD τ) (0 : CellTallies nD τ sig ℕ) ∅ ∗ Pipeline.launchCred (fun _ => 0) c ∗ prngReg c (ρ c) ∗ emp) ⊢ (iprop(unscopedBufs c (fun b => m ((c.tc : Thread nD τ).loc b)) ∗ (∃ Wd, owes (c.tc : Thread nD τ) (0 : CellTallies nD τ sig ℕ) Wd) ∗ emp ∗ emp) : sProp 𝕄)
        iintro ⟨H, -, HO, -, -, -⟩
        isplitl [H]; · iexact H
        isplitl [HO]; · iexists ∅; iexact HO
        isplitr <;> iempintro)
    iexact H
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact h
    · iexact HSI

end Cert.KernelIdeal.Hand
-- ==== Proof.KI.Frame.lean ====
/-
  What the run leaves, read off the last contents: every argument as launched, each result as the call that makes it
  leaves it, and what each call finds at entry.
-/
module

public import proofs.«01_k».proof.Proof.KI.Run
public import Idealize.ShloMosaic.Lib.StableHlo.RunHlo

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat)

variable {F : FTy → Type} [FloatOps F]
variable (m : (ℓ : Loc nD τ sig) → Buf (Elt F) ℓ)

theorem U1_of (c : Dev nD) (r : Ref sig .tc) (h : r ∉ hostOps0_W) : U1 m c (Proc.devRef .tc r) = m (c, Proc.devRef .tc r) :=
  StableHlo.after_of_writes_sub hostOps0 _ hostOps0_writes h
theorem U2_of (c : Dev nD) (r : Ref sig .tc) (h2 : r ≠ main_v2_0) (h3 : r ≠ main_v2_1) : U2 m c (Proc.devRef .tc r) = U1 m c (Proc.devRef .tc r) :=
  Pipeline.afterRegion_keeps (dat0 (U1 m) c) (U1 m c) (launch0 (F := F)).win.arr_inj (A0_eq (U1 m) c) r
    (fun w => match w with
      | ⟨0, _⟩ => fun _ => rfl
      | ⟨1, _⟩ => fun _ => rfl
      | ⟨2, _⟩ => fun e => absurd e.symm h2
      | ⟨3, _⟩ => fun e => absurd e.symm h3)
theorem U3_of (c : Dev nD) (r : Ref sig .tc) (h : r ∉ hostOps1_W) : U3 m c (Proc.devRef .tc r) = U2 m c (Proc.devRef .tc r) :=
  StableHlo.after_of_writes_sub hostOps1 _ hostOps1_writes h
theorem U4_of (c : Dev nD) (r : Ref sig .tc) (h3 : r ≠ main_v5) : U4 m c (Proc.devRef .tc r) = U3 m c (Proc.devRef .tc r) :=
  Pipeline.afterRegion_keeps (dat1 (U3 m) c) (U3 m c) (launch1 (F := F)).win.arr_inj (A1_eq (U3 m) c) r
    (fun w => match w with
      | ⟨0, _⟩ => fun _ => rfl
      | ⟨1, _⟩ => fun _ => rfl
      | ⟨2, _⟩ => fun _ => rfl
      | ⟨3, _⟩ => fun e => absurd e.symm h3)
theorem U5_of (c : Dev nD) (r : Ref sig .tc) (h : r ∉ hostOps2_W) : U5 m c (Proc.devRef .tc r) = U4 m c (Proc.devRef .tc r) :=
  StableHlo.after_of_writes_sub hostOps2 _ hostOps2_writes h
theorem U6_of (c : Dev nD) (r : Ref sig .tc) (h4 : r ≠ main_v8) : U6 m c (Proc.devRef .tc r) = U5 m c (Proc.devRef .tc r) :=
  Pipeline.afterRegion_keeps (dat2 (U5 m) c) (U5 m c) (launch2 (F := F)).win.arr_inj (A2_eq (U5 m) c) r
    (fun w => match w with
      | ⟨0, _⟩ => fun _ => rfl
      | ⟨1, _⟩ => fun _ => rfl
      | ⟨2, _⟩ => fun _ => rfl
      | ⟨3, _⟩ => fun _ => rfl
      | ⟨4, _⟩ => fun e => absurd e.symm h4)
theorem U7_of (c : Dev nD) (r : Ref sig .tc) (h : r ∉ hostOps3_W) : U7 m c (Proc.devRef .tc r) = U6 m c (Proc.devRef .tc r) :=
  StableHlo.after_of_writes_sub hostOps3 _ hostOps3_writes h

/-- The buffers some item writes. -/
abbrev written : List (Ref sig .tc) := [main_cst, main_v0, main_v1, main_v2_0, main_v2_1, main_v3, main_v4, main_v5, main_v6, main_v7, main_v8, main_v9]

/-- A buffer no item writes is as launched when the second call starts, -/
theorem U3_keep (c : Dev nD) (r : Ref sig .tc) (h : r ∉ written) : U3 m c (Proc.devRef .tc r) = m (c, Proc.devRef .tc r) := by
  simp only [written, List.mem_cons, not_or] at h
  obtain ⟨a1, a2, a3, a4, a5, a6, a7, a8, a9, a10, a11, a12, -⟩ := h
  exact (U3_of m c r (by simp [hostOps1_W, a6, a7])).trans ((U2_of m c r a4 a5).trans (U1_of m c r (by simp [hostOps0_W, a1, a2, a3])))
/-- when the third starts, -/
theorem U5_keep (c : Dev nD) (r : Ref sig .tc) (h : r ∉ written) : U5 m c (Proc.devRef .tc r) = m (c, Proc.devRef .tc r) := by
  have h' := h
  simp only [written, List.mem_cons, not_or] at h
  obtain ⟨a1, a2, a3, a4, a5, a6, a7, a8, a9, a10, a11, a12, -⟩ := h
  exact (U5_of m c r (by simp [hostOps2_W, a9, a10])).trans ((U4_of m c r a8).trans (U3_keep m c r h'))
/-- and at the end. -/
theorem U7_keep (c : Dev nD) (r : Ref sig .tc) (h : r ∉ written) : U7 m c (Proc.devRef .tc r) = m (c, Proc.devRef .tc r) := by
  have h' := h
  simp only [written, List.mem_cons, not_or] at h
  obtain ⟨a1, a2, a3, a4, a5, a6, a7, a8, a9, a10, a11, a12, -⟩ := h
  exact (U7_of m c r (by simp [hostOps3_W, a12])).trans ((U6_of m c r a11).trans (U5_keep m c r h'))

/-- The codes the quantiser call leaves are what the later calls read and what the run returns. -/
theorem U2_codes (c : Dev nD) : U2 m c (Proc.devRef .tc main_v2_0) = (dat0 (U1 m) c).arrAt 2 (cf0 (U1 m)).N :=
  Pipeline.afterRegion_arr (dat0 (U1 m) c) (U1 m c) (launch0 (F := F)).win.arr_inj 2
theorem U2_amax (c : Dev nD) : U2 m c (Proc.devRef .tc main_v2_1) = (dat0 (U1 m) c).arrAt 3 (cf0 (U1 m)).N :=
  Pipeline.afterRegion_arr (dat0 (U1 m) c) (U1 m c) (launch0 (F := F)).win.arr_inj 3
theorem U3_codes (c : Dev nD) : U3 m c (Proc.devRef .tc main_v2_0) = (dat0 (U1 m) c).arrAt 2 (cf0 (U1 m)).N :=
  (U3_of m c main_v2_0 (by decide)).trans (U2_codes m c)
theorem U5_codes (c : Dev nD) : U5 m c (Proc.devRef .tc main_v2_0) = (dat0 (U1 m) c).arrAt 2 (cf0 (U1 m)).N :=
  (U5_of m c main_v2_0 (by decide)).trans ((U4_of m c main_v2_0 (by decide)).trans (U3_codes m c))
theorem U7_codes (c : Dev nD) : U7 m c (Proc.devRef .tc main_v2_0) = (dat0 (U1 m) c).arrAt 2 (cf0 (U1 m)).N :=
  (U7_of m c main_v2_0 (by decide)).trans ((U6_of m c main_v2_0 (by decide)).trans (U5_codes m c))
/-- The input gradient returned. -/
theorem U7_dx (c : Dev nD) : U7 m c (Proc.devRef .tc main_v5) = (dat1 (U3 m) c).arrAt 3 (cf1 (U3 m)).N :=
  (U7_of m c main_v5 (by decide)).trans ((U6_of m c main_v5 (by decide)).trans ((U5_of m c main_v5 (by decide)).trans
    (Pipeline.afterRegion_arr (dat1 (U3 m) c) (U3 m c) (launch1 (F := F)).win.arr_inj 3)))
/-- The weight gradient returned. -/
theorem U7_dw (c : Dev nD) : U7 m c (Proc.devRef .tc main_v8) = (dat2 (U5 m) c).arrAt 4 (cf2 (U5 m)).N :=
  (U7_of m c main_v8 (by decide)).trans (Pipeline.afterRegion_arr (dat2 (U5 m) c) (U5 m c) (launch2 (F := F)).win.arr_inj 4)
/-- The largest magnitude returned. -/
theorem U7_amax (c : Dev nD) : U7 m c (Proc.devRef .tc main_v9) = shapeCast S_ ((dat0 (U1 m) c).arrAt 3 (cf0 (U1 m)).N : Vec F S1x1 .f32) shapeCasts_S1x1_S_ := by
  rw [show ((dat0 (U1 m) c).arrAt 3 (cf0 (U1 m)).N : Vec F S1x1 .f32) = U6 m c (Proc.devRef .tc main_v2_1) from
    ((U6_of m c main_v2_1 (by decide)).trans ((U5_of m c main_v2_1 (by decide)).trans ((U4_of m c main_v2_1 (by decide)).trans
      ((U3_of m c main_v2_1 (by decide)).trans (U2_amax m c))))).symm]
  unfold U7
  simp only [StableHlo.after_cons, StableHlo.after_nil]
  rw [StableHlo.reshape_result]
  rfl

/-- The reciprocal of the scale, as the first call finds it. -/
theorem U1_v1 (c : Dev nD) : U1 m c (Proc.devRef .tc main_v1) =
    shapeCast S1 (Host.divf (constant S_ .f32 0x3F800000#32 : Vec F S_ .f32) (m (c, Proc.devRef .tc main_arg1) : Vec F S_ .f32)) shapeCasts_S_S1 := by
  unfold U1
  after_results
  try rfl
/-- The product of the scales, as the second call finds it. -/
theorem U3_v4 (c : Dev nD) : U3 m c (Proc.devRef .tc main_v4) =
    shapeCast S1 (mulf (m (c, Proc.devRef .tc main_arg1) : Vec F S_ .f32) (m (c, Proc.devRef .tc main_arg5) : Vec F S_ .f32)) shapeCasts_S_S1 := by
  rw [← (U2_of m c main_arg1 (by decide) (by decide)).trans (U1_of m c main_arg1 (by decide)), ← (U2_of m c main_arg5 (by decide) (by decide)).trans (U1_of m c main_arg5 (by decide))]
  unfold U3
  after_results
  try rfl

/-- The product of the scales, as the third call finds it. -/
theorem U5_v7 (c : Dev nD) : U5 m c (Proc.devRef .tc main_v7) =
    shapeCast S1 (mulf (m (c, Proc.devRef .tc main_arg1) : Vec F S_ .f32) (m (c, Proc.devRef .tc main_arg3) : Vec F S_ .f32)) shapeCasts_S_S1 := by
  rw [← (U4_of m c main_arg1 (by decide)).trans (U3_keep m c main_arg1 (by decide)), ← (U4_of m c main_arg3 (by decide)).trans (U3_keep m c main_arg3 (by decide))]
  unfold U5
  after_results
  try rfl

/-- Every run ends with every argument as launched and every counter at zero. -/
theorem run_frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have hu : ∀ r : Ref sig .tc, ¬(Proc.devRef .tc r : DevRef τ sig).isScoped = true → (Proc.devRef .tc r : DevRef τ sig) ∈ Pipeline.ucRefs τ sig :=
    fun r h => Finset.mem_filter.mpr ⟨StableHlo.devRef_mem_tcRefs r, h⟩
  exact θ_run_mono (run_all m ρ) fun r h => ⟨fun c => ⟨(h.1 c _ (hu main_arg0 (by decide))).trans (U7_keep m c main_arg0 (by decide)),
    (h.1 c _ (hu main_arg1 (by decide))).trans (U7_keep m c main_arg1 (by decide)),
    (h.1 c _ (hu main_arg2 (by decide))).trans (U7_keep m c main_arg2 (by decide)),
    (h.1 c _ (hu main_arg3 (by decide))).trans (U7_keep m c main_arg3 (by decide)),
    (h.1 c _ (hu main_arg4 (by decide))).trans (U7_keep m c main_arg4 (by decide)),
    (h.1 c _ (hu main_arg5 (by decide))).trans (U7_keep m c main_arg5 (by decide)),
    (h.1 c _ (hu main_arg6 (by decide))).trans (U7_keep m c main_arg6 (by decide)),
    (h.1 c _ (hu main_arg7 (by decide))).trans (U7_keep m c main_arg7 (by decide))⟩, h.2⟩

end Cert.KernelIdeal.Hand
-- ==== Proof.V.Pay0.lean ====
/-
  The quantiser's arithmetic at the ideal values, element by element.
-/
module

public import proofs.«01_k».proof.Proof.KI.Reg0
public import Idealize.ShloMosaic.Lib.Pipeline.Value
public import Idealize.ShloMosaic.PureOps.Ideal.Laws

@[expose] public section

set_option maxRecDepth 16384

noncomputable section

namespace Cert.KernelIdeal.Hand

open Idealize.ShloMosaic Cert.KernelIdeal.Gen Cert.Words

/-- Multi-indices from their coordinates. -/
def I1 {p : Nat} (a : Fin p) : (⟨1, ![p]⟩ : Shape).Idx := fun | ⟨0, _⟩ => a
def I2 {p q : Nat} (a : Fin p) (b : Fin q) : (⟨2, ![p, q]⟩ : Shape).Idx := fun | ⟨0, _⟩ => a | ⟨1, _⟩ => b
def I3 {p q r : Nat} (a : Fin p) (b : Fin q) (c : Fin r) : (⟨3, ![p, q, r]⟩ : Shape).Idx :=
  fun | ⟨0, _⟩ => a | ⟨1, _⟩ => b | ⟨2, _⟩ => c

theorem ext1 {p : Nat} {y z : (⟨1, ![p]⟩ : Shape).Idx} (h0 : (y 0).val = (z 0).val) : y = z :=
  funext fun a => Fin.ext (match a with | ⟨0, _⟩ => h0)
theorem ext2 {p q : Nat} {y z : (⟨2, ![p, q]⟩ : Shape).Idx} (h0 : (y 0).val = (z 0).val) (h1 : (y 1).val = (z 1).val) : y = z :=
  funext fun a => Fin.ext (match a with | ⟨0, _⟩ => h0 | ⟨1, _⟩ => h1)
theorem ext3 {p q r : Nat} {y z : (⟨3, ![p, q, r]⟩ : Shape).Idx} (h0 : (y 0).val = (z 0).val) (h1 : (y 1).val = (z 1).val)
    (h2 : (y 2).val = (z 2).val) : y = z :=
  funext fun a => Fin.ext (match a with | ⟨0, _⟩ => h0 | ⟨1, _⟩ => h1 | ⟨2, _⟩ => h2)

/-- The clip bounds as extended reals. -/
def hiC : EReal := Ideal.ofBits .f32 0x47600000#32
def loC : EReal := Ideal.ofBits .f32 0xC7600000#32

/-- A masked gradient, scaled and clipped. -/
def quantE (d s : EReal) : EReal := min hiC (max loC (d * s))

theorem row_toInt (k y : Nat) (hk : k < 1024) (hy : y < 4096) :
    (BitVec.ofNat 32 k * 256#32 + BitVec.ofNat 32 y).toInt = ((k * 256 + y : Nat) : Int) := by
  have : BitVec.ofNat 32 k * 256#32 + BitVec.ofNat 32 y = BitVec.ofNat 32 (k * 256 + y) := by
    apply BitVec.eq_of_toNat_eq
    simp
  rw [this]; exact toInt_small _ (by omega)

/-- A block's masked gradient: the gradient on a live row, zero on the others. -/
theorem pay2_apply (i : grid0.Coords) (n : BitVec 32) (d : Vec Ideal S1x256x10240 .bf16) (y : S256x10240.Idx) :
    k0_pay2 (F := Ideal) i n d y
      = if (((i 1).val * 256 + (y 0).val : Nat) : Int) < n.toInt then (d (Fin.cons ⟨0, Nat.one_pos⟩ y) : EReal) else 0 := by
  have h1 : (i 1).val < 12 := (i 1).isLt
  have h2 : (y 0).val < 256 := (y 0).isLt
  have hr := row_toInt (i 1).val (y 0).val (by omega) (by omega)
  have e1 : k0_pay2 (F := Ideal) i n d y = if IntOp.cmpi .slt (BitVec.ofNat 32 (i 1).val * 256#32 + iota .tc S256x10240 32 [0] iota_S256x10240_d0_w32 y) n = 1#1
      then shapeCast S256x10240 d shapeCasts_S1x256x10240_S256x10240 y else Ideal.ofBits .f32 0x00000000#32 := rfl
  rw [e1, iota_single_apply, WordCmp.cmpi_slt_eq, hr, Ideal.ofBits_zero_f32]
  rw [show shapeCast S256x10240 d shapeCasts_S1x256x10240_S256x10240 y = d (Fin.cons ⟨0, Nat.one_pos⟩ y) from
    shapeCast_dropUnit_apply ![256, 10240] d _ y]
  by_cases h : (((i 1).val * 256 + (y 0).val : Nat) : Int) < n.toInt
  · rw [if_pos h, decide_eq_true h]; rfl
  · rw [if_neg h, decide_eq_false h]; rfl

/-- A block's index without its leading unit axis. -/
def tail0 (y : S1x256x10240.Idx) : S256x10240.Idx := fun a => y a.succ
theorem cons_tail0 (y : S1x256x10240.Idx) : (Fin.cons ⟨0, Nat.one_pos⟩ (tail0 y) : S1x256x10240.Idx) = y := by
  funext a
  refine Fin.cases ?_ (fun _ => rfl) a
  apply Fin.ext; have : (y 0).val < 1 := (y 0).isLt; show 0 = (y 0).val; omega

/-- A block's codes on a live block. -/
theorem pay4_apply (i : grid0.Coords) (n : BitVec 32) (d : Vec Ideal S1x256x10240 .bf16) (s : EReal) (y : S1x256x10240.Idx) :
    k0_pay4 (F := Ideal) i n d s y
      = quantE (if (((i 1).val * 256 + (y 1).val : Nat) : Int) < n.toInt then (d y : EReal) else 0) s := by
  have e : k0_pay4 (F := Ideal) i n d s y = shapeCast S1x256x10240 (fun z => min hiC (max loC (k0_pay2 (F := Ideal) i n d z * s)) : S256x10240.Idx → EReal) shapeCasts_S256x10240_S1x256x10240 y := rfl
  have e2 : shapeCast S1x256x10240 (fun z => min hiC (max loC (k0_pay2 (F := Ideal) i n d z * s)) : S256x10240.Idx → EReal) shapeCasts_S256x10240_S1x256x10240 y
    = quantE (k0_pay2 (F := Ideal) i n d (tail0 y)) s := shapeCast_addUnit_apply ![256, 10240] _ _ y
  rw [e, e2, pay2_apply, cons_tail0]
  rfl

theorem loC_nonpos : loC ≤ 0 := by
  unfold loC
  simp [Ideal.ofBits, Ideal.ieee]
  exact EReal.mul_nonneg (by exact_mod_cast Nat.zero_le _) (by positivity)
theorem hiC_nonneg : 0 ≤ hiC := by
  unfold hiC
  simp [Ideal.ofBits, Ideal.ieee]
  exact EReal.mul_nonneg (by exact_mod_cast Nat.zero_le _) (by positivity)
theorem quantE_zero (s : EReal) : quantE 0 s = 0 := by
  unfold quantE
  rw [zero_mul, max_eq_right loC_nonpos, min_eq_right hiC_nonneg]

end Cert.KernelIdeal.Hand
-- ==== Proof.V.Codes.lean ====
/-
  The array of codes the quantising call leaves, at the ideal values: every element is its masked gradient, scaled and
  clipped.
-/
module

public import proofs.«01_k».proof.Proof.V.Pay0
public import Idealize.ShloMosaic.Lib.Pipeline.ValueKit.Geometry

@[expose] public section

set_option maxRecDepth 16384

noncomputable section

namespace Cert.KernelIdeal.Hand

open Idealize.ShloMosaic Idealize.ShloMosaic.TcCoe Cert.KernelIdeal.Gen Cert.Words
open Idealize.ShloMosaic.Pipeline (Dat)

variable (W : Dev nD → Valuation τ sig (Elt Ideal))

/-- The table of lengths, and the length of a batch entry as an integer. -/
def lenT : S4.Idx → BitVec 32 := W (0 : Dev nD) (Proc.devRef .tc main_arg7)
def lenI (T : S4.Idx → BitVec 32) (b : Fin 4) : Int := (T (I1 b)).toInt

/-- The gradient masked to the live rows. -/
def maskE (T : S4.Idx → BitVec 32) (D : S4x3072x10240.Idx → EReal) (i : S4x3072x10240.Idx) : EReal :=
  if (((i 1).val : Nat) : Int) < lenI T (i 0) then D i else 0

/-- The code of an element. -/
def codeE (T : S4.Idx → BitVec 32) (D : S4x3072x10240.Idx → EReal) (s : EReal) (i : S4x3072x10240.Idx) : EReal :=
  quantE (maskE T D i) s

theorem cast_axis4 (k : Nat) (h : k < 4) : (Scalar.indexCast (BitVec.ofNat 32 k)).toNat = k := by
  have : ∀ k : Fin 4, (Scalar.indexCast (BitVec.ofNat 32 k.val)).toNat = k.val := by decide
  exact this ⟨k, h⟩

/-- The length read at a point is its batch entry's. -/
theorem ln0_eq (c : Dev nD) (t : Fin (cf0 W).N) : ln0 W c t = lenT W (I1 (grid0.coords t 0)) := by
  show lenT W _ = _
  refine congrArg (lenT W) (funext fun a => Fin.ext ?_)
  fin_cases a
  show k0_off1 (grid0.coords t) 0 + _ = _
  exact cast_axis4 (grid0.coords t 0).val (grid0.coords t 0).isLt

theorem toInt_muli (k B : Nat) (hk : k < 1024) (hB : B < 65536) :
    (Scalar.muli (BitVec.ofNat 32 k) (BitVec.ofNat 32 B)).toInt = ((k * B : Nat) : Int) := by
  have hlt : k * B < 1024 * 65536 := Nat.mul_lt_mul_of_lt_of_lt hk hB
  have : Scalar.muli (BitVec.ofNat 32 k) (BitVec.ofNat 32 B) = BitVec.ofNat 32 (k * B) := by
    show BitVec.ofNat 32 k * BitVec.ofNat 32 B = _
    apply BitVec.eq_of_toNat_eq
    simp
  rw [this]; exact toInt_small _ (by omega)

/-- The body's test: the block holds a live row. -/
theorem cond0_2_iff (i : grid0.Coords) (n : BitVec 32) : k0_cond2 i n = 1#1 ↔ (((i 1).val * 256 : Nat) : Int) < n.toInt := by
  have h := toInt_muli (i 1).val 256 (by have : (i 1).val < 12 := (i 1).isLt; omega) (by omega)
  unfold k0_cond2
  simp only
  unfold Scalar.cmpi
  rw [WordCmp.cmpi_slt_eq, h]
  by_cases hh : (((i 1).val * 256 : Nat) : Int) < n.toInt
  · rw [decide_eq_true hh]; exact iff_of_true rfl hh
  · rw [decide_eq_false hh]; exact iff_of_false (by decide) hh
theorem cond0_3_iff (i : grid0.Coords) (n : BitVec 32) : k0_cond3 i n = 1#1 ↔ ¬ (((i 1).val * 256 : Nat) : Int) < n.toInt := by
  have h := toInt_muli (i 1).val 256 (by have : (i 1).val < 12 := (i 1).isLt; omega) (by omega)
  unfold k0_cond3
  simp only
  unfold Scalar.cmpi
  rw [WordCmp.cmpi_sge_eq, h]
  by_cases hh : (((i 1).val * 256 : Nat) : Int) < n.toInt
  · rw [decide_eq_false (by omega)]; exact iff_of_false (by decide) (by omega)
  · rw [decide_eq_true (by omega)]; exact iff_of_true rfl hh

/-- The blocks' indices. -/
theorem idx0_1 (t : Fin (cf0 W).N) : ((cf0 W).win 1).index t = ![(grid0.coords t 0).val, (clampW 256#32 (at0 (tbl0 W) (grid0.coords t)) (BitVec.ofNat 32 (grid0.coords t 1).val)).toNat, 0] :=
  ix0_1 (tbl0 W) (grid0.coords t)
theorem tr0_2 (i : grid0.Coords) : cc0_transform_2 i = ![(i 0).val, (i 1).val, 0] := by
  have h : cc0_transform_2 i = ![(BitVec.ofNat 32 (i 0).val).toNat, (BitVec.ofNat 32 (i 1).val).toNat, (0#32 : BitVec 32).toNat] := rfl
  rw [h, toNat_axis (i 0).val (by have : (i 0).val < 4 := (i 0).isLt; omega), toNat_axis (i 1).val (by have : (i 1).val < 12 := (i 1).isLt; omega)]; rfl
theorem idx0_2 (t : Fin (cf0 W).N) : ((cf0 W).win 2).index t = ![(grid0.coords t 0).val, (grid0.coords t 1).val, 0] := tr0_2 (grid0.coords t)

/-- The array index a block's index sits at. -/
def em0_1 (t : Fin (cf0 W).N) (y : S1x256x10240.Idx) : S4x3072x10240.Idx := (((cf0 W).win 1).rect t).emb y
theorem em0_1_val (t : Fin (cf0 W).N) (y : S1x256x10240.Idx) (a : Fin 3) :
    (em0_1 W t y a).val = (![(grid0.coords t 0).val, (clampW 256#32 (at0 (tbl0 W) (grid0.coords t)) (BitVec.ofNat 32 (grid0.coords t 1).val)).toNat, 0] : Fin 3 → Nat) a * S1x256x10240.size a + (y a).val :=
  (Pipeline.Window.rect_emb_val ((cf0 W).win 1) t y a).trans (by rw [idx0_1]; rfl)
theorem gb0_em (c : Dev nD) (t : Fin (cf0 W).N) (y : S1x256x10240.Idx) :
    gb0 W c t y = (W c (Proc.devRef .tc main_arg0) : S4x3072x10240.Idx → EReal) (em0_1 W t y) := rfl

theorem held0 (hn : ∀ b : Fin 4, lenI (lenT W) b + 1024 ≤ 2147483648) (t : Fin (cf0 W).N)
    (hl : (((grid0.coords t 1).val * 256 : Nat) : Int) < lenI (lenT W) (grid0.coords t 0)) :
    (clampW 256#32 (at0 (tbl0 W) (grid0.coords t)) (BitVec.ofNat 32 (grid0.coords t 1).val)).toNat = (grid0.coords t 1).val := by
  have e : at0 (tbl0 W) (grid0.coords t) = lenT W (I1 (grid0.coords t 0)) := ln0_eq W 0 t
  rw [e]
  have := hn (grid0.coords t 0)
  unfold lenI at this hl
  exact clampW_eq 256 (by omega) (by omega) _ _ (by have : (grid0.coords t 1).val < 12 := (grid0.coords t 1).isLt; omega) hl (by omega)

/-- Where the block holds a live row, the gradient block at a point is the point's own rows of the gradient. -/
theorem gb0_apply (hn : ∀ b : Fin 4, lenI (lenT W) b + 1024 ≤ 2147483648) (c : Dev nD) (t : Fin (cf0 W).N)
    (hl : (((grid0.coords t 1).val * 256 : Nat) : Int) < lenI (lenT W) (grid0.coords t 0)) (y : S1x256x10240.Idx) (i : S4x3072x10240.Idx)
    (h0 : (i 0).val = (grid0.coords t 0).val) (h1 : (i 1).val = (grid0.coords t 1).val * 256 + (y 1).val) (h2 : (i 2).val = (y 2).val) :
    gb0 W c t y = (W c (Proc.devRef .tc main_arg0) : S4x3072x10240.Idx → EReal) i := by
  rw [gb0_em]
  have hc := held0 W hn t hl
  have e0 := em0_1_val W t y 0
  have e1 := em0_1_val W t y 1
  have e2 := em0_1_val W t y 2
  rw [hc] at e0 e1 e2
  generalize em0_1 W t y = z at e0 e1 e2
  have y0 : (y 0).val < 1 := (y 0).isLt
  have f0 : (z 0).val = (grid0.coords t 0).val * 1 + (y 0).val := e0
  have f1 : (z 1).val = (grid0.coords t 1).val * 256 + (y 1).val := e1
  have f2 : (z 2).val = 0 * 10240 + (y 2).val := e2
  have : z = i := ext3 (by omega) (by omega) (by omega)
  rw [this]

theorem em0_2_val (t : Fin (cf0 W).N) (y : S1x256x10240.Idx) (a : Fin 3) :
    ((((cf0 W).win 2).rect t).emb y a : Nat) = (![(grid0.coords t 0).val, (grid0.coords t 1).val, 0] : Fin 3 → Nat) a * S1x256x10240.size a + (y a).val :=
  (Pipeline.Window.rect_emb_val ((cf0 W).win 2) t y a).trans (by rw [idx0_2]; rfl)
/-- The array index the code block's index sits at. -/
def em0_2 (t : Fin (cf0 W).N) (y : S1x256x10240.Idx) : S4x3072x10240.Idx := (((cf0 W).win 2).rect t).emb y
theorem em0_2_coords (t : Fin (cf0 W).N) (y : S1x256x10240.Idx) :
    (em0_2 W t y 0).val = (grid0.coords t 0).val ∧ (em0_2 W t y 1).val = (grid0.coords t 1).val * 256 + (y 1).val ∧ (em0_2 W t y 2).val = (y 2).val := by
  have y0 : (y 0).val < 1 := (y 0).isLt
  have f0 : (em0_2 W t y 0).val = (grid0.coords t 0).val * 1 + (y 0).val := em0_2_val W t y 0
  have f1 : (em0_2 W t y 1).val = (grid0.coords t 1).val * 256 + (y 1).val := em0_2_val W t y 1
  have f2 : (em0_2 W t y 2).val = 0 * 10240 + (y 2).val := em0_2_val W t y 2
  refine ⟨by omega, f1, by omega⟩

/-- The reciprocal scale read at a point. -/
def invE (c : Dev nD) : EReal := (W c (Proc.devRef .tc main_v1) : S1.Idx → EReal) (I1 0)
theorem sb0_word (c : Dev nD) (t : Fin (cf0 W).N) : word1 (sb0 W c t) = invE W c := by
  show (W c (Proc.devRef .tc main_v1) : S1.Idx → EReal) _ = _
  refine congrArg _ (ext1 ?_)
  exact (Nat.lt_one_iff.mp (Fin.isLt _)).trans rfl

/-- The gradients as the call finds them. -/
def dyT (c : Dev nD) : S4x3072x10240.Idx → EReal := W c (Proc.devRef .tc main_arg0)

/-- The code block a point leaves. -/
theorem cod0_apply (hn : ∀ b : Fin 4, lenI (lenT W) b + 1024 ≤ 2147483648) (c : Dev nD) (t : Fin (cf0 W).N) (y : S1x256x10240.Idx) :
    cod0 W c t y = codeE (lenT W) (dyT W c) (invE W c) (em0_2 W t y) := by
  obtain ⟨f0, f1, f2⟩ := em0_2_coords W t y
  generalize em0_2 W t y = i at f0 f1 f2
  have hi0 : i 0 = grid0.coords t 0 := Fin.ext f0
  unfold cod0 codes0 codeE maskE
  rw [sb0_word, ln0_eq, hi0, f1]
  have hy : (y 1).val < 256 := (y 1).isLt
  by_cases hl : (((grid0.coords t 1).val * 256 : Nat) : Int) < (lenT W (I1 (grid0.coords t 0))).toInt
  · rw [if_neg (fun h => (cond0_3_iff _ _).mp h hl), if_pos ((cond0_2_iff _ _).mpr hl), pay4_apply]
    rw [gb0_apply W hn c t hl y i f0 f1 f2]
    rfl
  · rw [if_pos ((cond0_3_iff _ _).mpr hl)]
    rw [if_neg (fun h => hl (by unfold lenI at h; omega)), quantE_zero]
    show Ideal.ofBits .fp8e5m2 0x00#8 = 0
    simp [Ideal.ofBits, Ideal.ieee]

theorem onto0 : ∀ (b : Fin 4) (r : Fin 12), ∃ t : Fin grid0.N, (grid0.coords t 0).val = b.val ∧ (grid0.coords t 1).val = r.val := by
  decide +kernel
theorem moves0 : ∀ t : Fin grid0.N, t.val + 1 = grid0.N ∨ ∃ h : t.val + 1 < grid0.N,
    ¬((grid0.coords ⟨t.val + 1, h⟩ 0).val = (grid0.coords t 0).val ∧ (grid0.coords ⟨t.val + 1, h⟩ 1).val = (grid0.coords t 1).val) := by
  decide +kernel
/-- Every point's code block is written back. -/
theorem flush0_2 (t : Fin (cf0 W).N) : ((cf0 W).win 2).flush t = true := by
  unfold Pipeline.Window.flush
  rcases moves0 t with h | ⟨h, hne⟩
  · have h1 : (decide (t.val + 1 = (cf0 W).grid.N)) = true := decide_eq_true h
    rw [h1]; rfl
  · have h2 : (decide (∃ h : t.val + 1 < (cf0 W).grid.N, ((cf0 W).win 2).index ⟨t.val + 1, h⟩ ≠ ((cf0 W).win 2).index t)) = true :=
      decide_eq_true ⟨h, fun e => hne (by
        have e' : (![(grid0.coords ⟨t.val + 1, h⟩ 0).val, (grid0.coords ⟨t.val + 1, h⟩ 1).val, 0] : Fin 3 → Nat) = ![(grid0.coords t 0).val, (grid0.coords t 1).val, 0] :=
          (idx0_2 W ⟨t.val + 1, h⟩).symm.trans (e.trans (idx0_2 W t))
        exact ⟨congrFun e' 0, congrFun e' 1⟩)⟩
    rw [h2]; simp; rfl

/-- The code blocks tile the array. -/
theorem cover0_2 (i : S4x3072x10240.Idx) : ∃ t : Fin (cf0 W).N, ((cf0 W).win 2).flush t = true ∧ i ∈ (((cf0 W).win 2).blk t).view.set := by
  have h0 : (i 0).val < 4 := (i 0).isLt
  have h1 : (i 1).val < 3072 := (i 1).isLt
  have h2 : (i 2).val < 10240 := (i 2).isLt
  obtain ⟨t, e0, e1⟩ := onto0 ⟨(i 0).val, h0⟩ ⟨(i 1).val / 256, by omega⟩
  refine ⟨t, flush0_2 W t, (Pipeline.Window.emb_mem_blk_iff ((cf0 W).win 2) t i).mpr fun a => ?_⟩
  rw [idx0_2]
  simp only at e0 e1
  match a with
  | ⟨0, _⟩ => show (grid0.coords t 0).val * 1 ≤ (i 0).val ∧ (i 0).val < (grid0.coords t 0).val * 1 + 1; omega
  | ⟨1, _⟩ => show (grid0.coords t 1).val * 256 ≤ (i 1).val ∧ (i 1).val < (grid0.coords t 1).val * 256 + 256; omega
  | ⟨2, _⟩ => show 0 * 10240 ≤ (i 2).val ∧ (i 2).val < 0 * 10240 + 10240; omega

/-- The array of codes the call leaves. -/
theorem codes_arr (hn : ∀ b : Fin 4, lenI (lenT W) b + 1024 ≤ 2147483648) (c : Dev nD) :
    (dat0 W c).arrAt 2 (cf0 W).N = codeE (lenT W) (dyT W c) (invE W c) :=
  (dat0 W c).arrAt_eq_of_emb 2 (codeE (lenT W) (dyT W c) (invE W c))
    (fun t _ y => (congrFun (after0_2 W c t) y).trans (cod0_apply W hn c t y)) (cover0_2 W)

end Cert.KernelIdeal.Hand
-- ==== Proof.V.Dx.lean ====
/-
  The input gradient the second call leaves, at the ideal values: at every row the product of the codes with the weights,
  scaled.
-/
module

public import proofs.«01_k».proof.Proof.V.Codes
public import proofs.«01_k».proof.Proof.KI.Reg1
public import Idealize.ShloMosaic.Lib.ValueIdx

@[expose] public section

set_option maxRecDepth 16384

noncomputable section

namespace Cert.KernelIdeal.Hand

open Idealize.ShloMosaic Idealize.ShloMosaic.TcCoe Cert.KernelIdeal.Gen Cert.Words
open Idealize.ShloMosaic.Pipeline (Dat)
open scoped BigOperators

/-- A block of the product. -/
def prod1 (q : Vec Ideal S1024x10240 .fp8e5m2) (w : Vec Ideal S10240x512 .fp8e4m3) : FVec Ideal S1024x512 .f32 :=
  matmul (F := Ideal) (φ₁ := .fp8e5m2) (φ₂ := .fp8e4m3) dot_S1024x10240_S10240x512_S1024x512_1_0_0_1_n_n none q w (constant S1024x512 .f32 0x00000000#32)

theorem prod1_apply (q : Vec Ideal S1024x10240 .fp8e5m2) (w : Vec Ideal S10240x512 .fp8e4m3) (j : S1024x512.Idx) :
    (prod1 q w j : EReal) = ∑ k : Fin 10240, (q (I2 (j 0) k) : EReal) * (w (I2 k (j 1)) : EReal) := by
  unfold prod1
  simp only [matmul]
  refine (Ideal.matmul_constant_zero_apply (φ₁ := .fp8e5m2) (φ₂ := .fp8e4m3) dot_S1024x10240_S10240x512_S1024x512_1_0_0_1_n_n none q w j).trans ?_
  let e := ValueIdx.contrEquiv1 dot_S1024x10240_S10240x512_S1024x512_1_0_0_1_n_n 10240 rfl rfl
  refine (Equiv.sum_comp e.symm _).symm.trans (Finset.sum_congr rfl fun k _ => ?_)
  have hv : ((e.symm k) ⟨0, by decide⟩).val = k.val := ValueIdx.contrEquiv1_symm_val dot_S1024x10240_S10240x512_S1024x512_1_0_0_1_n_n 10240 rfl rfl k
  refine congr (congrArg (fun a b : EReal => a * b) (congrArg q (ext2 rfl hv))) (congrArg w (ext2 hv rfl))

theorem k1pay1_apply (q : Vec Ideal S1x1024x10240 .fp8e5m2) (w : Vec Ideal S10240x512 .fp8e4m3) (s : Elt Ideal .f32) (y : S1x1024x512.Idx) :
    (k1_pay1 (F := Ideal) q w s y : EReal) = (∑ k : Fin 10240, (q (I3 ⟨0, Nat.one_pos⟩ (y 1) k) : EReal) * (w (I2 k (y 2)) : EReal)) * (s : EReal) := by
  have e : k1_pay1 (F := Ideal) q w s = shapeCast S1x1024x512 (fun j : S1024x512.Idx => (prod1 (shapeCast S1024x10240 q shapeCasts_S1x1024x10240_S1024x10240) w j : EReal) * (s : EReal)) shapeCasts_S1024x512_S1x1024x512 := rfl
  rw [e]
  refine (shapeCast_addUnit_apply ![1024, 512] _ _ y).trans ?_
  have hy : (fun a => y a.succ : S1024x512.Idx) = I2 (y 1) (y 2) := ext2 rfl rfl
  refine (congrArg (fun j : S1024x512.Idx => (prod1 (shapeCast S1024x10240 q shapeCasts_S1x1024x10240_S1024x10240) w j : EReal) * (s : EReal)) hy).trans ?_
  refine congrArg (fun z : EReal => z * (s : EReal)) ((prod1_apply _ w (I2 (y 1) (y 2))).trans (Finset.sum_congr rfl fun k _ => ?_))
  refine congr (congrArg (fun a b : EReal => a * b) ?_) (congrArg w (ext2 rfl rfl))
  refine (shapeCast_dropUnit_apply ![1024, 10240] q _ (I2 (y 1) k)).trans ?_
  exact congrArg q (ext3 rfl rfl rfl)

variable (W : Dev nD → Valuation τ sig (Elt Ideal))

theorem ln1_eq (c : Dev nD) (t : Fin (cf1 W).N) : ln1 W c t = lenT W (I1 (grid1.coords t 0)) := by
  show lenT W _ = _
  refine congrArg (lenT W) (funext fun a => Fin.ext ?_)
  fin_cases a
  show k1_off1 (grid1.coords t) 0 + _ = _
  exact cast_axis4 (grid1.coords t 0).val (grid1.coords t 0).isLt

theorem cmp1 (i : grid1.Coords) (n : BitVec 32) : Scalar.cmpi .slt (Scalar.muli (BitVec.ofNat 32 (i 1).val) 1024#32) n = 1#1 ↔ (((i 1).val * 1024 : Nat) : Int) < n.toInt := by
  have h := toInt_muli (i 1).val 1024 (by have : (i 1).val < 3 := (i 1).isLt; omega) (by omega)
  unfold Scalar.cmpi
  rw [WordCmp.cmpi_slt_eq, h]
  by_cases hh : (((i 1).val * 1024 : Nat) : Int) < n.toInt
  · rw [decide_eq_true hh]; exact iff_of_true rfl hh
  · rw [decide_eq_false hh]; exact iff_of_false (by decide) hh
theorem cond1_1_iff (i : grid1.Coords) (n : BitVec 32) : k1_cond1 i n = 1#1 ↔ (((i 1).val * 1024 : Nat) : Int) < n.toInt := by
  rw [← cmp1]
  unfold k1_cond1
  simp only
  generalize Scalar.cmpi .slt (Scalar.muli (BitVec.ofNat 32 (i 1).val) 1024#32) n = b
  revert b; decide
theorem cond1_2_iff (i : grid1.Coords) (n : BitVec 32) : k1_cond2 i n = 1#1 ↔ ¬ (((i 1).val * 1024 : Nat) : Int) < n.toInt := by
  rw [← cmp1]
  unfold k1_cond2
  simp only
  generalize Scalar.cmpi .slt (Scalar.muli (BitVec.ofNat 32 (i 1).val) 1024#32) n = b
  revert b; decide

theorem idx1_1 (t : Fin (cf1 W).N) : ((cf1 W).win 1).index t = ![(grid1.coords t 0).val, (clampW 1024#32 (at1 (tbl1 W) (grid1.coords t)) (BitVec.ofNat 32 (grid1.coords t 1).val)).toNat, 0] :=
  ix1_1 (tbl1 W) (grid1.coords t)
theorem idx1_2 (t : Fin (cf1 W).N) : ((cf1 W).win 2).index t = ![0, wcol (grid1.coords t) (at1 (tbl1 W) (grid1.coords t))] :=
  ix1_2 (tbl1 W) (grid1.coords t)
theorem tr1_3 (i : grid1.Coords) : cc1_transform_3 i = ![(i 0).val, (i 1).val, (i 2).val] := by
  have h : cc1_transform_3 i = ![(BitVec.ofNat 32 (i 0).val).toNat, (BitVec.ofNat 32 (i 1).val).toNat, (BitVec.ofNat 32 (i 2).val).toNat] := rfl
  rw [h, toNat_axis _ (by have : (i 0).val < 4 := (i 0).isLt; omega), toNat_axis _ (by have : (i 1).val < 3 := (i 1).isLt; omega), toNat_axis _ (by have : (i 2).val < 16 := (i 2).isLt; omega)]
theorem idx1_3 (t : Fin (cf1 W).N) : ((cf1 W).win 3).index t = ![(grid1.coords t 0).val, (grid1.coords t 1).val, (grid1.coords t 2).val] :=
  tr1_3 (grid1.coords t)

def em1_1 (t : Fin (cf1 W).N) (y : S1x1024x10240.Idx) : S4x3072x10240.Idx := (((cf1 W).win 1).rect t).emb y
theorem em1_1_val (t : Fin (cf1 W).N) (y : S1x1024x10240.Idx) (a : Fin 3) :
    (em1_1 W t y a).val = (![(grid1.coords t 0).val, (clampW 1024#32 (at1 (tbl1 W) (grid1.coords t)) (BitVec.ofNat 32 (grid1.coords t 1).val)).toNat, 0] : Fin 3 → Nat) a * S1x1024x10240.size a + (y a).val :=
  (Pipeline.Window.rect_emb_val ((cf1 W).win 1) t y a).trans (by rw [idx1_1]; rfl)
def em1_2 (t : Fin (cf1 W).N) (y : S10240x512.Idx) : S10240x8192.Idx := (((cf1 W).win 2).rect t).emb y
theorem em1_2_val (t : Fin (cf1 W).N) (y : S10240x512.Idx) (a : Fin 2) :
    (em1_2 W t y a).val = (![0, wcol (grid1.coords t) (at1 (tbl1 W) (grid1.coords t))] : Fin 2 → Nat) a * S10240x512.size a + (y a).val :=
  (Pipeline.Window.rect_emb_val ((cf1 W).win 2) t y a).trans (by rw [idx1_2]; rfl)
def em1_3 (t : Fin (cf1 W).N) (y : S1x1024x512.Idx) : S4x3072x8192.Idx := (((cf1 W).win 3).rect t).emb y
theorem em1_3_val (t : Fin (cf1 W).N) (y : S1x1024x512.Idx) (a : Fin 3) :
    (em1_3 W t y a).val = (![(grid1.coords t 0).val, (grid1.coords t 1).val, (grid1.coords t 2).val] : Fin 3 → Nat) a * S1x1024x512.size a + (y a).val :=
  (Pipeline.Window.rect_emb_val ((cf1 W).win 3) t y a).trans (by rw [idx1_3]; rfl)

/-- The codes, the weights and the scale as the call finds them. -/
def qT (c : Dev nD) : S4x3072x10240.Idx → EReal := W c (Proc.devRef .tc main_v2_0)
def wT (c : Dev nD) : S10240x8192.Idx → EReal := W c (Proc.devRef .tc main_arg4)
def s1E (c : Dev nD) : EReal := (W c (Proc.devRef .tc main_v4) : S1.Idx → EReal) (I1 0)
theorem sb1_word (c : Dev nD) (t : Fin (cf1 W).N) : word1 (sb1 W c t) = s1E W c := by
  show (W c (Proc.devRef .tc main_v4) : S1.Idx → EReal) _ = _
  refine congrArg _ (ext1 ?_)
  exact (Nat.lt_one_iff.mp (Fin.isLt _)).trans rfl

theorem qb1_em (c : Dev nD) (t : Fin (cf1 W).N) (y : S1x1024x10240.Idx) : qb1 W c t y = qT W c (em1_1 W t y) := rfl
theorem wb1_em (c : Dev nD) (t : Fin (cf1 W).N) (y : S10240x512.Idx) : wb1 W c t y = wT W c (em1_2 W t y) := rfl

theorem at1_eq (t : Fin (cf1 W).N) : at1 (tbl1 W) (grid1.coords t) = lenT W (I1 (grid1.coords t 0)) := ln1_eq W 0 t

theorem held1 (hn : ∀ b : Fin 4, lenI (lenT W) b + 1024 ≤ 2147483648) (t : Fin (cf1 W).N)
    (hl : (((grid1.coords t 1).val * 1024 : Nat) : Int) < lenI (lenT W) (grid1.coords t 0)) :
    (clampW 1024#32 (at1 (tbl1 W) (grid1.coords t)) (BitVec.ofNat 32 (grid1.coords t 1).val)).toNat = (grid1.coords t 1).val := by
  rw [at1_eq]
  have := hn (grid1.coords t 0)
  unfold lenI at this hl
  exact clampW_eq 1024 (by omega) (by omega) _ _ (by have : (grid1.coords t 1).val < 3 := (grid1.coords t 1).isLt; omega) hl (by omega)

theorem qb1_apply (hn : ∀ b : Fin 4, lenI (lenT W) b + 1024 ≤ 2147483648) (c : Dev nD) (t : Fin (cf1 W).N)
    (hl : (((grid1.coords t 1).val * 1024 : Nat) : Int) < lenI (lenT W) (grid1.coords t 0)) (y : S1x1024x10240.Idx) (i : S4x3072x10240.Idx)
    (h0 : (i 0).val = (grid1.coords t 0).val) (h1 : (i 1).val = (grid1.coords t 1).val * 1024 + (y 1).val) (h2 : (i 2).val = (y 2).val) :
    qb1 W c t y = qT W c i := by
  rw [qb1_em]
  have hc := held1 W hn t hl
  have e0 := em1_1_val W t y 0
  have e1 := em1_1_val W t y 1
  have e2 := em1_1_val W t y 2
  rw [hc] at e0 e1 e2
  generalize em1_1 W t y = z at e0 e1 e2
  have y0 : (y 0).val < 1 := (y 0).isLt
  have f0 : (z 0).val = (grid1.coords t 0).val * 1 + (y 0).val := e0
  have f1 : (z 1).val = (grid1.coords t 1).val * 1024 + (y 1).val := e1
  have f2 : (z 2).val = 0 * 10240 + (y 2).val := e2
  have : z = i := ext3 (by omega) (by omega) (by omega)
  rw [this]

theorem wb1_apply (c : Dev nD) (t : Fin (cf1 W).N)
    (hl : (((grid1.coords t 1).val * 1024 : Nat) : Int) < lenI (lenT W) (grid1.coords t 0)) (y : S10240x512.Idx) (i : S10240x8192.Idx)
    (h0 : (i 0).val = (y 0).val) (h1 : (i 1).val = (grid1.coords t 2).val * 512 + (y 1).val) :
    wb1 W c t y = wT W c i := by
  rw [wb1_em]
  have hw : wcol (grid1.coords t) (at1 (tbl1 W) (grid1.coords t)) = (grid1.coords t 2).val := by
    unfold wcol
    exact if_pos ((cmp1 _ _).mpr (by rw [at1_eq]; exact hl))
  have e0 := em1_2_val W t y 0
  have e1 := em1_2_val W t y 1
  rw [hw] at e0 e1
  generalize em1_2 W t y = z at e0 e1
  have f0 : (z 0).val = 0 * 10240 + (y 0).val := e0
  have f1 : (z 1).val = (grid1.coords t 2).val * 512 + (y 1).val := e1
  have : z = i := ext2 (by omega) (by omega)
  rw [this]

theorem em1_3_coords (t : Fin (cf1 W).N) (y : S1x1024x512.Idx) :
    (em1_3 W t y 0).val = (grid1.coords t 0).val ∧ (em1_3 W t y 1).val = (grid1.coords t 1).val * 1024 + (y 1).val ∧ (em1_3 W t y 2).val = (grid1.coords t 2).val * 512 + (y 2).val := by
  have y0 : (y 0).val < 1 := (y 0).isLt
  have f0 : (em1_3 W t y 0).val = (grid1.coords t 0).val * 1 + (y 0).val := em1_3_val W t y 0
  have f1 : (em1_3 W t y 1).val = (grid1.coords t 1).val * 1024 + (y 1).val := em1_3_val W t y 1
  have f2 : (em1_3 W t y 2).val = (grid1.coords t 2).val * 512 + (y 2).val := em1_3_val W t y 2
  refine ⟨by omega, f1, f2⟩

/-- The input gradient from the codes, the weights and a scale. -/
def dxE (Q : S4x3072x10240.Idx → EReal) (w : S10240x8192.Idx → EReal) (s : EReal) (i : S4x3072x8192.Idx) : EReal :=
  (∑ k : Fin 10240, Q (I3 (i 0) (i 1) k) * w (I2 k (i 2))) * s

/-- The block of the input gradient a point leaves, where the codes vanish past the lengths. -/
theorem ob1_apply (hn : ∀ b : Fin 4, lenI (lenT W) b + 1024 ≤ 2147483648) (c : Dev nD)
    (hz : ∀ i : S4x3072x10240.Idx, ¬ (((i 1).val : Nat) : Int) < lenI (lenT W) (i 0) → qT W c i = 0)
    (t : Fin (cf1 W).N) (y : S1x1024x512.Idx) :
    ob1 W c t y = dxE (qT W c) (wT W c) (s1E W c) (em1_3 W t y) := by
  obtain ⟨f0, f1, f2⟩ := em1_3_coords W t y
  generalize em1_3 W t y = i at f0 f1 f2
  have hi0 : i 0 = grid1.coords t 0 := Fin.ext f0
  unfold ob1 out1 dxE
  rw [sb1_word, ln1_eq]
  by_cases hl : (((grid1.coords t 1).val * 1024 : Nat) : Int) < (lenT W (I1 (grid1.coords t 0))).toInt
  · rw [if_neg (fun h => (cond1_2_iff _ _).mp h hl), if_pos ((cond1_1_iff _ _).mpr hl)]
    refine (k1pay1_apply _ _ _ y).trans (congrArg (fun z : EReal => z * s1E W c) (Finset.sum_congr rfl fun k _ => ?_))
    rw [qb1_apply W hn c t hl (I3 ⟨0, Nat.one_pos⟩ (y 1) k) (I3 (i 0) (i 1) k) f0 f1 rfl]
    rw [wb1_apply W c t hl (I2 k (y 2)) (I2 k (i 2)) rfl f2]
  · rw [if_pos ((cond1_2_iff _ _).mpr hl)]
    have hs : (∑ k : Fin 10240, qT W c (I3 (i 0) (i 1) k) * wT W c (I2 k (i 2))) = 0 :=
      Finset.sum_eq_zero fun k _ => by
        rw [hz (I3 (i 0) (i 1) k) (by
          intro h
          have h' : (((i 1).val : Nat) : Int) < lenI (lenT W) (i 0) := h
          rw [hi0] at h'; unfold lenI at h'; omega), zero_mul]
    rw [hs, zero_mul]
    show Ideal.ofBits .bf16 0x0000#16 = 0
    simp [Ideal.ofBits, Ideal.ieee]

theorem onto1 : ∀ (b : Fin 4) (r : Fin 3) (j : Fin 16), ∃ t : Fin grid1.N, (grid1.coords t 0).val = b.val ∧ (grid1.coords t 1).val = r.val ∧ (grid1.coords t 2).val = j.val := by
  decide +kernel
theorem moves1 : ∀ t : Fin grid1.N, t.val + 1 = grid1.N ∨ ∃ h : t.val + 1 < grid1.N,
    (grid1.coords ⟨t.val + 1, h⟩ 2).val ≠ (grid1.coords t 2).val := by
  decide +kernel
/-- Every point's block is written back. -/
theorem flush1_3 (t : Fin (cf1 W).N) : ((cf1 W).win 3).flush t = true := by
  unfold Pipeline.Window.flush
  rcases moves1 t with h | ⟨h, hne⟩
  · have h1 : (decide (t.val + 1 = (cf1 W).grid.N)) = true := decide_eq_true h
    rw [h1]; rfl
  · have h2 : (decide (∃ h : t.val + 1 < (cf1 W).grid.N, ((cf1 W).win 3).index ⟨t.val + 1, h⟩ ≠ ((cf1 W).win 3).index t)) = true :=
      decide_eq_true ⟨h, fun e => hne (by
        have e' : (![(grid1.coords ⟨t.val + 1, h⟩ 0).val, (grid1.coords ⟨t.val + 1, h⟩ 1).val, (grid1.coords ⟨t.val + 1, h⟩ 2).val] : Fin 3 → Nat) = ![(grid1.coords t 0).val, (grid1.coords t 1).val, (grid1.coords t 2).val] :=
          (idx1_3 W ⟨t.val + 1, h⟩).symm.trans (e.trans (idx1_3 W t))
        exact congrFun e' 2)⟩
    rw [h2]; simp; rfl

theorem cover1_3 (i : S4x3072x8192.Idx) : ∃ t : Fin (cf1 W).N, ((cf1 W).win 3).flush t = true ∧ i ∈ (((cf1 W).win 3).blk t).view.set := by
  have h0 : (i 0).val < 4 := (i 0).isLt
  have h1 : (i 1).val < 3072 := (i 1).isLt
  have h2 : (i 2).val < 8192 := (i 2).isLt
  obtain ⟨t, e0, e1, e2⟩ := onto1 ⟨(i 0).val, h0⟩ ⟨(i 1).val / 1024, by omega⟩ ⟨(i 2).val / 512, by omega⟩
  refine ⟨t, flush1_3 W t, (Pipeline.Window.emb_mem_blk_iff ((cf1 W).win 3) t i).mpr fun a => ?_⟩
  rw [idx1_3]
  simp only at e0 e1 e2
  match a with
  | ⟨0, _⟩ => show (grid1.coords t 0).val * 1 ≤ (i 0).val ∧ (i 0).val < (grid1.coords t 0).val * 1 + 1; omega
  | ⟨1, _⟩ => show (grid1.coords t 1).val * 1024 ≤ (i 1).val ∧ (i 1).val < (grid1.coords t 1).val * 1024 + 1024; omega
  | ⟨2, _⟩ => show (grid1.coords t 2).val * 512 ≤ (i 2).val ∧ (i 2).val < (grid1.coords t 2).val * 512 + 512; omega

/-- The array of input gradients the call leaves. -/
theorem dx_arr (hn : ∀ b : Fin 4, lenI (lenT W) b + 1024 ≤ 2147483648) (c : Dev nD)
    (hz : ∀ i : S4x3072x10240.Idx, ¬ (((i 1).val : Nat) : Int) < lenI (lenT W) (i 0) → qT W c i = 0) :
    (dat1 W c).arrAt 3 (cf1 W).N = dxE (qT W c) (wT W c) (s1E W c) :=
  (dat1 W c).arrAt_eq_of_emb 3 (dxE (qT W c) (wT W c) (s1E W c))
    (fun t _ y => (congrFun (after1_3 W c t) y).trans (ob1_apply W hn c hz t y)) (cover1_3 W)

end Cert.KernelIdeal.Hand
-- ==== Proof.V.Dw.lean ====
/-
  The weight gradient the third call leaves, at the ideal values: the gradient so far plus the scaled product of the codes
  with the inputs over every batch entry and row.
-/
module

public import proofs.«01_k».proof.Proof.V.Codes
public import proofs.«01_k».proof.Proof.KI.Reg2
public import Idealize.ShloMosaic.Lib.ValueIdx

@[expose] public section

set_option maxRecDepth 16384

noncomputable section

namespace Cert.KernelIdeal.Hand

open Idealize.ShloMosaic Idealize.ShloMosaic.TcCoe Cert.KernelIdeal.Gen Cert.Words
open Idealize.ShloMosaic.Pipeline (Dat)
open scoped BigOperators

/-- A tile's product, contracted over the tile's rows. -/
def prod2 (q : Vec Ideal S1024x1024 .fp8e5m2) (x : Vec Ideal S1024x1024 .fp8e4m3) : FVec Ideal S1024x1024 .f32 :=
  matmul (F := Ideal) (φ₁ := .fp8e5m2) (φ₂ := .fp8e4m3) dot_S1024x1024_S1024x1024_S1024x1024_0_0_1_1_n_n none q x (constant S1024x1024 .f32 0x00000000#32)

theorem prod2_apply (q : Vec Ideal S1024x1024 .fp8e5m2) (x : Vec Ideal S1024x1024 .fp8e4m3) (j : S1024x1024.Idx) :
    (prod2 q x j : EReal) = ∑ k : Fin 1024, (q (I2 k (j 0)) : EReal) * (x (I2 k (j 1)) : EReal) := by
  unfold prod2
  simp only [matmul]
  refine (Ideal.matmul_constant_zero_apply (φ₁ := .fp8e5m2) (φ₂ := .fp8e4m3) dot_S1024x1024_S1024x1024_S1024x1024_0_0_1_1_n_n none q x j).trans ?_
  let e := ValueIdx.contrEquiv1 dot_S1024x1024_S1024x1024_S1024x1024_0_0_1_1_n_n 1024 rfl rfl
  refine (Equiv.sum_comp e.symm _).symm.trans (Finset.sum_congr rfl fun k _ => ?_)
  have hv : ((e.symm k) ⟨0, by decide⟩).val = k.val := ValueIdx.contrEquiv1_symm_val dot_S1024x1024_S1024x1024_S1024x1024_0_0_1_1_n_n 1024 rfl rfl k
  refine congr (congrArg (fun a b : EReal => a * b) (congrArg q (ext2 hv rfl))) (congrArg x (ext2 hv rfl))

theorem k2pay2_apply (acc : Vec Ideal S1024x1024 .f32) (q : Vec Ideal S1x1024x1024 .fp8e5m2) (x : Vec Ideal S1x1024x1024 .fp8e4m3) (y : S1024x1024.Idx) :
    (k2_pay2 (F := Ideal) acc q x y : EReal) = (acc y : EReal) + ∑ k : Fin 1024, (q (I3 ⟨0, Nat.one_pos⟩ k (y 0)) : EReal) * (x (I3 ⟨0, Nat.one_pos⟩ k (y 1)) : EReal) := by
  have e : k2_pay2 (F := Ideal) acc q x = shapeCast S1024x1024 (fun j : S1024x1024.Idx => (acc j : EReal) + (prod2 (shapeCast S1024x1024 q shapeCasts_S1x1024x1024_S1024x1024) (shapeCast S1024x1024 x shapeCasts_S1x1024x1024_S1024x1024) j : EReal)) shapeCasts_S1024x1024_S1024x1024 := rfl
  rw [e, shapeCast_self]
  refine congrArg (fun z : EReal => (acc y : EReal) + z) ((prod2_apply _ _ y).trans (Finset.sum_congr rfl fun k _ => ?_))
  refine congr (congrArg (fun a b : EReal => a * b) ?_) ?_
  · exact (shapeCast_dropUnit_apply ![1024, 1024] q _ (I2 k (y 0))).trans (congrArg q (ext3 rfl rfl rfl))
  · exact (shapeCast_dropUnit_apply ![1024, 1024] x _ (I2 k (y 1))).trans (congrArg x (ext3 rfl rfl rfl))

theorem k2pay1_apply (y : S1024x1024.Idx) : (k2_pay1 (F := Ideal) y : EReal) = 0 := by
  have e : k2_pay1 (F := Ideal) = shapeCast S1024x1024 (broadcast S1024x1024 (Ideal.ofBits .f32 0x00000000#32)) shapeCasts_S1024x1024_S1024x1024 := rfl
  rw [e, shapeCast_self]
  exact Ideal.ofBits_zero_f32

/-- A sum over pairs read off one index. -/
theorem sum_split (m n N : ℕ) (h : m * n = N) (f : Fin N → EReal) :
    ∑ k, f k = ∑ a : Fin m, ∑ b : Fin n, f ⟨a.val * n + b.val, by
      have ha := a.isLt; have hb := b.isLt
      calc a.val * n + b.val < a.val * n + n := by omega
        _ = (a.val + 1) * n := by ring
        _ ≤ m * n := Nat.mul_le_mul_right n ha
        _ = N := h⟩ := by
  subst h
  rw [← Equiv.sum_comp finProdFinEquiv, Fintype.sum_prod_type]
  refine Finset.sum_congr rfl fun a _ => Finset.sum_congr rfl fun b _ => congrArg f (Fin.ext ?_)
  show b.val + n * a.val = a.val * n + b.val
  ring

/-- Tile `p` of the twelve: batch entry `p / 3`, row block `p % 3`. -/
def tileE (Q : S4x3072x10240.Idx → EReal) (X : S4x3072x8192.Idx → EReal) (i : S10240x8192.Idx) (p : ℕ) : EReal :=
  ∑ k : Fin 1024, Q (I3 ⟨p / 3 % 4, Nat.mod_lt _ (by omega)⟩ ⟨p % 3 * 1024 + k.val, by omega⟩ (i 0))
    * X (I3 ⟨p / 3 % 4, Nat.mod_lt _ (by omega)⟩ ⟨p % 3 * 1024 + k.val, by omega⟩ (i 1))

/-- The twelve tiles together contract over every batch entry and row. -/
theorem tiles_all (Q : S4x3072x10240.Idx → EReal) (X : S4x3072x8192.Idx → EReal) (i : S10240x8192.Idx) :
    ∑ p ∈ Finset.range 12, tileE Q X i p = ∑ b : Fin 4, ∑ r : Fin 3072, Q (I3 b r (i 0)) * X (I3 b r (i 1)) := by
  rw [Finset.sum_range, sum_split 4 3 12 rfl]
  refine Finset.sum_congr rfl fun b _ => ?_
  rw [sum_split 3 1024 3072 rfl]
  refine Finset.sum_congr rfl fun r _ => ?_
  unfold tileE
  refine Finset.sum_congr rfl fun k _ => ?_
  have hb := b.isLt
  have hr := r.isLt
  have e0 : (⟨(b.val * 3 + r.val) / 3 % 4, Nat.mod_lt _ (by omega)⟩ : Fin 4) = b := Fin.ext (by show (b.val * 3 + r.val) / 3 % 4 = b.val; omega)
  have e1 : ∀ h, (⟨(b.val * 3 + r.val) % 3 * 1024 + k.val, h⟩ : Fin 3072) = ⟨r.val * 1024 + k.val, by omega⟩ := fun _ => Fin.ext (by show (b.val * 3 + r.val) % 3 * 1024 + k.val = r.val * 1024 + k.val; omega)
  simp only [e0, e1]

variable (W : Dev nD → Valuation τ sig (Elt Ideal))

theorem ln2_eq (c : Dev nD) (t : Fin (cf2 W).N) : ln2 W c t = lenT W (I1 (grid2.coords t 2)) := by
  show lenT W _ = _
  refine congrArg (lenT W) (funext fun a => Fin.ext ?_)
  fin_cases a
  show k2_off1 (grid2.coords t) 0 + _ = _
  exact cast_axis4 (grid2.coords t 2).val (grid2.coords t 2).isLt

theorem live2_iff (i : grid2.Coords) (n : BitVec 32) : live2 i n ↔ (((i 3).val * 1024 : Nat) : Int) < n.toInt := by
  have h := toInt_muli (i 3).val 1024 (by have : (i 3).val < 3 := (i 3).isLt; omega) (by omega)
  unfold live2
  have hc : Scalar.cmpi .slt (Scalar.muli (BitVec.ofNat 32 (i 3).val) 1024#32) n = 1#1 ↔ (((i 3).val * 1024 : Nat) : Int) < n.toInt := by
    unfold Scalar.cmpi
    rw [WordCmp.cmpi_slt_eq, h]
    by_cases hh : (((i 3).val * 1024 : Nat) : Int) < n.toInt
    · rw [decide_eq_true hh]; exact iff_of_true rfl hh
    · rw [decide_eq_false hh]; exact iff_of_false (by decide) hh
  rw [← hc]
  generalize Scalar.cmpi .slt (Scalar.muli (BitVec.ofNat 32 (i 3).val) 1024#32) n = b
  revert b; decide

theorem at2_eq (t : Fin (cf2 W).N) : at2 (tbl2 W) (grid2.coords t) = lenT W (I1 (grid2.coords t 2)) := ln2_eq W 0 t

theorem held2 (hn : ∀ b : Fin 4, lenI (lenT W) b + 1024 ≤ 2147483648) (t : Fin (cf2 W).N)
    (hl : (((grid2.coords t 3).val * 1024 : Nat) : Int) < lenI (lenT W) (grid2.coords t 2)) :
    (clampW 1024#32 (at2 (tbl2 W) (grid2.coords t)) (BitVec.ofNat 32 (grid2.coords t 3).val)).toNat = (grid2.coords t 3).val := by
  rw [at2_eq]
  have := hn (grid2.coords t 2)
  unfold lenI at this hl
  exact clampW_eq 1024 (by omega) (by omega) _ _ (by have : (grid2.coords t 3).val < 3 := (grid2.coords t 3).isLt; omega) hl (by omega)

theorem idx2_1 (t : Fin (cf2 W).N) : ((cf2 W).win 1).index t = ![(grid2.coords t 2).val, (clampW 1024#32 (at2 (tbl2 W) (grid2.coords t)) (BitVec.ofNat 32 (grid2.coords t 3).val)).toNat, (grid2.coords t 0).val] :=
  ix2_1 (tbl2 W) (grid2.coords t)
theorem idx2_2 (t : Fin (cf2 W).N) : ((cf2 W).win 2).index t = ![(grid2.coords t 2).val, (clampW 1024#32 (at2 (tbl2 W) (grid2.coords t)) (BitVec.ofNat 32 (grid2.coords t 3).val)).toNat, (grid2.coords t 1).val] :=
  ix2_2 (tbl2 W) (grid2.coords t)
theorem tr2_3 (i : grid2.Coords) : cc2_transform_3 i = ![(i 0).val, (i 1).val] := by
  have h : cc2_transform_3 i = ![(BitVec.ofNat 32 (i 0).val).toNat, (BitVec.ofNat 32 (i 1).val).toNat] := rfl
  rw [h, toNat_axis _ (by have : (i 0).val < 10 := (i 0).isLt; omega), toNat_axis _ (by have : (i 1).val < 8 := (i 1).isLt; omega)]
theorem idx2_3 (t : Fin (cf2 W).N) : ((cf2 W).win 3).index t = ![(grid2.coords t 0).val, (grid2.coords t 1).val] := tr2_3 (grid2.coords t)
theorem idx2_4 (t : Fin (cf2 W).N) : ((cf2 W).win 4).index t = ![(grid2.coords t 0).val, (grid2.coords t 1).val] := ix2_4 (grid2.coords t)

def em2_1 (t : Fin (cf2 W).N) (y : S1x1024x1024.Idx) : S4x3072x10240.Idx := (((cf2 W).win 1).rect t).emb y
theorem em2_1_val (t : Fin (cf2 W).N) (y : S1x1024x1024.Idx) (a : Fin 3) :
    (em2_1 W t y a).val = (![(grid2.coords t 2).val, (clampW 1024#32 (at2 (tbl2 W) (grid2.coords t)) (BitVec.ofNat 32 (grid2.coords t 3).val)).toNat, (grid2.coords t 0).val] : Fin 3 → Nat) a * S1x1024x1024.size a + (y a).val :=
  (Pipeline.Window.rect_emb_val ((cf2 W).win 1) t y a).trans (by rw [idx2_1]; rfl)
def em2_2 (t : Fin (cf2 W).N) (y : S1x1024x1024.Idx) : S4x3072x8192.Idx := (((cf2 W).win 2).rect t).emb y
theorem em2_2_val (t : Fin (cf2 W).N) (y : S1x1024x1024.Idx) (a : Fin 3) :
    (em2_2 W t y a).val = (![(grid2.coords t 2).val, (clampW 1024#32 (at2 (tbl2 W) (grid2.coords t)) (BitVec.ofNat 32 (grid2.coords t 3).val)).toNat, (grid2.coords t 1).val] : Fin 3 → Nat) a * S1x1024x1024.size a + (y a).val :=
  (Pipeline.Window.rect_emb_val ((cf2 W).win 2) t y a).trans (by rw [idx2_2]; rfl)
def em2_3 (t : Fin (cf2 W).N) (y : S1024x1024.Idx) : S10240x8192.Idx := (((cf2 W).win 3).rect t).emb y
theorem em2_3_val (t : Fin (cf2 W).N) (y : S1024x1024.Idx) (a : Fin 2) :
    (em2_3 W t y a).val = (![(grid2.coords t 0).val, (grid2.coords t 1).val] : Fin 2 → Nat) a * S1024x1024.size a + (y a).val :=
  (Pipeline.Window.rect_emb_val ((cf2 W).win 3) t y a).trans (by rw [idx2_3]; rfl)
def em2_4 (t : Fin (cf2 W).N) (y : S1024x1024.Idx) : S10240x8192.Idx := (((cf2 W).win 4).rect t).emb y
theorem em2_4_val (t : Fin (cf2 W).N) (y : S1024x1024.Idx) (a : Fin 2) :
    (em2_4 W t y a).val = (![(grid2.coords t 0).val, (grid2.coords t 1).val] : Fin 2 → Nat) a * S1024x1024.size a + (y a).val :=
  (Pipeline.Window.rect_emb_val ((cf2 W).win 4) t y a).trans (by rw [idx2_4]; rfl)
theorem em2_34 (t : Fin (cf2 W).N) (y : S1024x1024.Idx) : em2_3 W t y = em2_4 W t y :=
  ext2 ((em2_3_val W t y 0).trans (em2_4_val W t y 0).symm) ((em2_3_val W t y 1).trans (em2_4_val W t y 1).symm)

/-- The codes, the inputs, the gradient so far and the scale as the call finds them. -/
def q2T (c : Dev nD) : S4x3072x10240.Idx → EReal := W c (Proc.devRef .tc main_v2_0)
def xT (c : Dev nD) : S4x3072x8192.Idx → EReal := W c (Proc.devRef .tc main_arg2)
def mT (c : Dev nD) : S10240x8192.Idx → EReal := W c (Proc.devRef .tc main_arg6)
def s2E (c : Dev nD) : EReal := (W c (Proc.devRef .tc main_v7) : S1.Idx → EReal) (I1 0)
theorem sb2_word (c : Dev nD) (t : Fin (cf2 W).N) : word1 (sb2 W c t) = s2E W c := by
  show (W c (Proc.devRef .tc main_v7) : S1.Idx → EReal) _ = _
  refine congrArg _ (ext1 ?_)
  exact (Nat.lt_one_iff.mp (Fin.isLt _)).trans rfl
theorem qb2_em (c : Dev nD) (t : Fin (cf2 W).N) (y : S1x1024x1024.Idx) : qb2 W c t y = q2T W c (em2_1 W t y) := rfl
theorem xb2_em (c : Dev nD) (t : Fin (cf2 W).N) (y : S1x1024x1024.Idx) : xb2 W c t y = xT W c (em2_2 W t y) := rfl
theorem mb2_em (c : Dev nD) (t : Fin (cf2 W).N) (y : S1024x1024.Idx) : mb2 W c t y = mT W c (em2_3 W t y) := rfl

theorem qb2_apply (hn : ∀ b : Fin 4, lenI (lenT W) b + 1024 ≤ 2147483648) (c : Dev nD) (t : Fin (cf2 W).N)
    (hl : (((grid2.coords t 3).val * 1024 : Nat) : Int) < lenI (lenT W) (grid2.coords t 2)) (y : S1x1024x1024.Idx) (i : S4x3072x10240.Idx)
    (h0 : (i 0).val = (grid2.coords t 2).val) (h1 : (i 1).val = (grid2.coords t 3).val * 1024 + (y 1).val) (h2 : (i 2).val = (grid2.coords t 0).val * 1024 + (y 2).val) :
    qb2 W c t y = q2T W c i := by
  rw [qb2_em]
  have hc := held2 W hn t hl
  have e0 := em2_1_val W t y 0
  have e1 := em2_1_val W t y 1
  have e2 := em2_1_val W t y 2
  rw [hc] at e0 e1 e2
  generalize em2_1 W t y = z at e0 e1 e2
  have y0 : (y 0).val < 1 := (y 0).isLt
  have f0 : (z 0).val = (grid2.coords t 2).val * 1 + (y 0).val := e0
  have f1 : (z 1).val = (grid2.coords t 3).val * 1024 + (y 1).val := e1
  have f2 : (z 2).val = (grid2.coords t 0).val * 1024 + (y 2).val := e2
  have : z = i := ext3 (by omega) (by omega) (by omega)
  rw [this]
theorem xb2_apply (hn : ∀ b : Fin 4, lenI (lenT W) b + 1024 ≤ 2147483648) (c : Dev nD) (t : Fin (cf2 W).N)
    (hl : (((grid2.coords t 3).val * 1024 : Nat) : Int) < lenI (lenT W) (grid2.coords t 2)) (y : S1x1024x1024.Idx) (i : S4x3072x8192.Idx)
    (h0 : (i 0).val = (grid2.coords t 2).val) (h1 : (i 1).val = (grid2.coords t 3).val * 1024 + (y 1).val) (h2 : (i 2).val = (grid2.coords t 1).val * 1024 + (y 2).val) :
    xb2 W c t y = xT W c i := by
  rw [xb2_em]
  have hc := held2 W hn t hl
  have e0 := em2_2_val W t y 0
  have e1 := em2_2_val W t y 1
  have e2 := em2_2_val W t y 2
  rw [hc] at e0 e1 e2
  generalize em2_2 W t y = z at e0 e1 e2
  have y0 : (y 0).val < 1 := (y 0).isLt
  have f0 : (z 0).val = (grid2.coords t 2).val * 1 + (y 0).val := e0
  have f1 : (z 1).val = (grid2.coords t 3).val * 1024 + (y 1).val := e1
  have f2 : (z 2).val = (grid2.coords t 1).val * 1024 + (y 2).val := e2
  have : z = i := ext3 (by omega) (by omega) (by omega)
  rw [this]

/-- The output element a point's block holds at `y`. -/
def outI (n : ℕ) (y : S1024x1024.Idx) : S10240x8192.Idx :=
  I2 ⟨n / 96 % 10 * 1024 + (y 0).val, by have : (y 0).val < 1024 := (y 0).isLt; omega⟩
    ⟨n / 12 % 8 * 1024 + (y 1).val, by have : (y 1).val < 1024 := (y 1).isLt; omega⟩

/-- A point adds its own tile to what the accumulator held. -/
theorem accOut2_apply (hn : ∀ b : Fin 4, lenI (lenT W) b + 1024 ≤ 2147483648) (c : Dev nD)
    (hz : ∀ i : S4x3072x10240.Idx, ¬ (((i 1).val : Nat) : Int) < lenI (lenT W) (i 0) → q2T W c i = 0)
    (t : Fin (cf2 W).N) (acc : Vec Ideal S1024x1024 .f32) (y : S1024x1024.Idx) :
    (accOut2 (F := Ideal) (grid2.coords t) (ln2 W c t) (qb2 W c t) (xb2 W c t) acc y : EReal)
      = (accIn2 (F := Ideal) (grid2.coords t) acc y : EReal) + tileE (q2T W c) (xT W c) (outI t.val y) (t.val % 12) := by
  obtain ⟨c0, c1, c2, c3⟩ := coords2 t
  have p0 : t.val % 12 / 3 % 4 = (grid2.coords t 2).val := by omega
  have p1 : t.val % 12 % 3 = (grid2.coords t 3).val := by omega
  unfold accOut2 tileE
  by_cases hl : (((grid2.coords t 3).val * 1024 : Nat) : Int) < lenI (lenT W) (grid2.coords t 2)
  · rw [if_pos ((live2_iff _ _).mpr (by rw [ln2_eq]; exact hl)), k2pay2_apply]
    refine congrArg (fun z : EReal => (accIn2 (F := Ideal) (grid2.coords t) acc y : EReal) + z) (Finset.sum_congr rfl fun k _ => ?_)
    rw [qb2_apply W hn c t hl (I3 ⟨0, Nat.one_pos⟩ k (y 0)) (I3 ⟨t.val % 12 / 3 % 4, Nat.mod_lt _ (by omega)⟩ ⟨t.val % 12 % 3 * 1024 + k.val, by omega⟩ (outI t.val y 0)) p0
      (by show t.val % 12 % 3 * 1024 + k.val = _ * 1024 + k.val; rw [p1]) (by show t.val / 96 % 10 * 1024 + (y 0).val = _ * 1024 + (y 0).val; rw [c0]),
      xb2_apply W hn c t hl (I3 ⟨0, Nat.one_pos⟩ k (y 1)) (I3 ⟨t.val % 12 / 3 % 4, Nat.mod_lt _ (by omega)⟩ ⟨t.val % 12 % 3 * 1024 + k.val, by omega⟩ (outI t.val y 1)) p0
      (by show t.val % 12 % 3 * 1024 + k.val = _ * 1024 + k.val; rw [p1]) (by show t.val / 12 % 8 * 1024 + (y 1).val = _ * 1024 + (y 1).val; rw [c1])]
  · rw [if_neg (fun h => hl (by have := (live2_iff _ _).mp h; rw [ln2_eq] at this; exact this))]
    rw [Finset.sum_eq_zero (fun k _ => ?_), add_zero]
    rw [hz _ ?_, zero_mul]
    show ¬ ((t.val % 12 % 3 * 1024 + k.val : Nat) : Int) < lenI (lenT W) ⟨t.val % 12 / 3 % 4, _⟩
    rw [show (⟨t.val % 12 / 3 % 4, Nat.mod_lt _ (by omega)⟩ : Fin 4) = grid2.coords t 2 from Fin.ext p0, p1]
    omega

theorem accIn2_first (t : Fin (cf2 W).N) (acc : Vec Ideal S1024x1024 .f32) (y : S1024x1024.Idx) (h : t.val % 12 = 0) :
    (accIn2 (F := Ideal) (grid2.coords t) acc y : EReal) = 0 := by
  unfold accIn2
  rw [if_pos ((first2_iff t).mpr h)]; exact k2pay1_apply y
theorem accIn2_next (t : Fin (cf2 W).N) (acc : Vec Ideal S1024x1024 .f32) (y : S1024x1024.Idx) (h : ¬ t.val % 12 = 0) :
    (accIn2 (F := Ideal) (grid2.coords t) acc y : EReal) = acc y := by
  unfold accIn2
  rw [if_neg (fun g => h ((first2_iff t).mp g))]

/-- The accumulator after a point: the tiles of its block so far. -/
theorem acc2_apply (hn : ∀ b : Fin 4, lenI (lenT W) b + 1024 ≤ 2147483648) (c : Dev nD)
    (hz : ∀ i : S4x3072x10240.Idx, ¬ (((i 1).val : Nat) : Int) < lenI (lenT W) (i 0) → q2T W c i = 0) (y : S1024x1024.Idx) :
    ∀ (n : ℕ) (h : n < (cf2 W).N), (acc2 W c n h y : EReal) = ∑ p ∈ Finset.range (n % 12 + 1), tileE (q2T W c) (xT W c) (outI n y) p
  | 0, h => by
    refine (accOut2_apply W hn c hz ⟨0, h⟩ (k2_pay1 (F := Ideal)) y).trans ?_
    rw [accIn2_first W ⟨0, h⟩ _ y rfl, zero_add]
    exact (Finset.sum_range_one _).symm
  | n + 1, h => by
    refine (accOut2_apply W hn c hz ⟨n + 1, h⟩ (acc2 W c n (Nat.lt_of_succ_lt h)) y).trans ?_
    by_cases h0 : (n + 1) % 12 = 0
    · rw [accIn2_first W ⟨n + 1, h⟩ _ y h0, zero_add]
      show tileE _ _ _ ((n + 1) % 12) = _
      rw [h0]
      exact (Finset.sum_range_one _).symm
    · rw [accIn2_next W ⟨n + 1, h⟩ _ y h0, acc2_apply hn c hz y n (Nat.lt_of_succ_lt h)]
      have e1 : outI n y = outI (n + 1) y := ext2 (by show n / 96 % 10 * 1024 + _ = (n + 1) / 96 % 10 * 1024 + _; omega) (by show n / 12 % 8 * 1024 + _ = (n + 1) / 12 % 8 * 1024 + _; omega)
      have e2 : n % 12 + 1 = (n + 1) % 12 := by omega
      rw [e1, e2]
      exact (Finset.sum_range_succ _ _).symm

/-- The weight gradient from the gradient so far, the codes, the inputs and a scale. -/
def dwE (mg : S10240x8192.Idx → EReal) (Q : S4x3072x10240.Idx → EReal) (X : S4x3072x8192.Idx → EReal) (s : EReal) (i : S10240x8192.Idx) : EReal :=
  mg i + (∑ b : Fin 4, ∑ r : Fin 3072, Q (I3 b r (i 0)) * X (I3 b r (i 1))) * s

/-- The block the last point of a run leaves. -/
theorem fb2_apply (hn : ∀ b : Fin 4, lenI (lenT W) b + 1024 ≤ 2147483648) (c : Dev nD)
    (hz : ∀ i : S4x3072x10240.Idx, ¬ (((i 1).val : Nat) : Int) < lenI (lenT W) (i 0) → q2T W c i = 0)
    (t : Fin (cf2 W).N) (ht : t.val % 12 = 11) (y : S1024x1024.Idx) :
    fb2 W c t y = dwE (mT W c) (q2T W c) (xT W c) (s2E W c) (em2_4 W t y) := by
  have e : fb2 W c t y = (mb2 W c t y : EReal) + (acc2 W c t.val t.isLt y : EReal) * (word1 (sb2 W c t) : EReal) := rfl
  rw [e, sb2_word, mb2_em, em2_34, acc2_apply W hn c hz, ht]
  have hi : outI t.val y = em2_4 W t y := by
    obtain ⟨c0, c1, _, _⟩ := coords2 t
    have f0 : (em2_4 W t y 0).val = (grid2.coords t 0).val * 1024 + (y 0).val := em2_4_val W t y 0
    have f1 : (em2_4 W t y 1).val = (grid2.coords t 1).val * 1024 + (y 1).val := em2_4_val W t y 1
    rw [c0] at f0; rw [c1] at f1
    exact ext2 f0.symm f1.symm
  rw [hi, tiles_all]
  rfl

theorem N2_eq : (cf2 W).grid.N = 960 := N_2
/-- The last point of each run writes its block back. -/
theorem flush2_last (t : Fin (cf2 W).N) (ht : t.val % 12 = 11) : ((cf2 W).win 4).flush t = true := by
  have hN : t.val < 960 := Nat.lt_of_lt_of_eq t.isLt (N2_eq W)
  unfold Pipeline.Window.flush
  by_cases h : t.val + 1 = 960
  · have h1 : (decide (t.val + 1 = (cf2 W).grid.N)) = true := decide_eq_true (h.trans (N2_eq W).symm)
    rw [h1]; rfl
  · have hlt : t.val + 1 < (cf2 W).grid.N := Nat.lt_of_lt_of_eq (by omega) (N2_eq W).symm
    have h2 : (decide (∃ h : t.val + 1 < (cf2 W).grid.N, ((cf2 W).win 4).index ⟨t.val + 1, h⟩ ≠ ((cf2 W).win 4).index t)) = true :=
      decide_eq_true ⟨hlt, fun e => by
        have e' : (![(grid2.coords ⟨t.val + 1, hlt⟩ 0).val, (grid2.coords ⟨t.val + 1, hlt⟩ 1).val] : Fin 2 → Nat) = ![(grid2.coords t 0).val, (grid2.coords t 1).val] :=
          (idx2_4 W ⟨t.val + 1, hlt⟩).symm.trans (e.trans (idx2_4 W t))
        have e1 : (grid2.coords ⟨t.val + 1, hlt⟩ 1).val = (grid2.coords t 1).val := congrFun e' 1
        rw [(coords2 ⟨t.val + 1, hlt⟩).2.1, (coords2 t).2.1] at e1
        have e2 : (t.val + 1) / 12 % 8 = t.val / 12 % 8 := e1
        omega⟩
    rw [h2]; simp; rfl

theorem cover2_4 (i : S10240x8192.Idx) : ∃ t : Fin (cf2 W).N, ((cf2 W).win 4).flush t = true ∧ i ∈ (((cf2 W).win 4).blk t).view.set := by
  have h0 : (i 0).val < 10240 := (i 0).isLt
  have h1 : (i 1).val < 8192 := (i 1).isLt
  have hlt : (i 0).val / 1024 * 96 + (i 1).val / 1024 * 12 + 11 < (cf2 W).grid.N := Nat.lt_of_lt_of_eq (by omega) (N2_eq W).symm
  refine ⟨⟨_, hlt⟩, flush2_last W ⟨_, hlt⟩ (by show ((i 0).val / 1024 * 96 + (i 1).val / 1024 * 12 + 11) % 12 = 11; omega), (Pipeline.Window.emb_mem_blk_iff ((cf2 W).win 4) ⟨_, hlt⟩ i).mpr fun a => ?_⟩
  rw [idx2_4, (coords2 ⟨_, hlt⟩).1, (coords2 ⟨_, hlt⟩).2.1]
  match a with
  | ⟨0, _⟩ =>
    show ((i 0).val / 1024 * 96 + (i 1).val / 1024 * 12 + 11) / 96 % 10 * 1024 ≤ (i 0).val ∧ (i 0).val < ((i 0).val / 1024 * 96 + (i 1).val / 1024 * 12 + 11) / 96 % 10 * 1024 + 1024
    omega
  | ⟨1, _⟩ =>
    show ((i 0).val / 1024 * 96 + (i 1).val / 1024 * 12 + 11) / 12 % 8 * 1024 ≤ (i 1).val ∧ (i 1).val < ((i 0).val / 1024 * 96 + (i 1).val / 1024 * 12 + 11) / 12 % 8 * 1024 + 1024
    omega

/-- The array of weight gradients the call leaves. -/
theorem dw_arr (hn : ∀ b : Fin 4, lenI (lenT W) b + 1024 ≤ 2147483648) (c : Dev nD)
    (hz : ∀ i : S4x3072x10240.Idx, ¬ (((i 1).val : Nat) : Int) < lenI (lenT W) (i 0) → q2T W c i = 0) :
    (dat2 W c).arrAt 4 (cf2 W).N = dwE (mT W c) (q2T W c) (xT W c) (s2E W c) :=
  (dat2 W c).arrAt_eq_of_emb 4 (dwE (mT W c) (q2T W c) (xT W c) (s2E W c))
    (fun t hf y => (congrFun (after2_4 W c t) y).trans (fb2_apply W hn c hz t (by
      by_contra hne
      rw [flush2_4 W t hne] at hf
      exact absurd hf (by simp)) y)) (cover2_4 W)

end Cert.KernelIdeal.Hand
-- ==== Proof.V.Amax.lean ====
/-
  The largest magnitude the quantising call leaves, at the ideal values: the least upper bound of the masked gradients'
  magnitudes.
-/
module

public import proofs.«01_k».proof.Proof.V.Codes

@[expose] public section

set_option maxRecDepth 16384

noncomputable section

namespace Cert.KernelIdeal.Hand

open Idealize.ShloMosaic Idealize.ShloMosaic.TcCoe Cert.KernelIdeal.Gen Cert.Words
open Idealize.ShloMosaic.Pipeline (Dat)

/-- A magnitude. -/
def absE (x : EReal) : EReal := max x (-x)
theorem absE_nonneg (x : EReal) : 0 ≤ absE x := by
  unfold absE
  rcases le_total 0 x with h | h
  · exact le_max_of_le_left h
  · exact le_max_of_le_right (EReal.neg_nonneg.mpr h)
theorem absE_zero : absE 0 = 0 := by unfold absE; simp

theorem ofBits_neg_inf : Ideal.ofBits .f32 0xFF800000#32 = ⊥ := by
  simp [Ideal.ofBits, Ideal.ieee]

/-- A maximum over one axis, as an upper bound test. -/
theorem mred_le {s t : Shape} {a : Fin s.rank} (src : FVec Ideal s .f32) (h : s.Reduces [a] t) (j : t.Idx) (x : EReal) :
    (multiReduction (F := Ideal) (φ := .f32) .maximumf [a] t src 0xFF800000#32 h (.inl rfl) rfl j : EReal) ≤ x ↔ ∀ k : Fin (s.size a), (src (h.lift j k) : EReal) ≤ x := by
  rw [Ideal.multiReduction_maximumf_single src 0xFF800000#32 h (.inl rfl) rfl j, Finset.fold_max_le]
  show Ideal.ofBits .f32 0xFF800000#32 ≤ x ∧ _ ↔ _
  rw [ofBits_neg_inf]
  exact ⟨fun g k => g.2 k (Finset.mem_univ k), fun g => ⟨bot_le, fun k _ => g k⟩⟩

/-- The columns' maxima of a block. -/
def colMax (A : FVec Ideal S256x10240 .f32) : FVec Ideal S10240 .f32 :=
  multiReduction (F := Ideal) (φ := .f32) .maximumf [0] S10240 A 0xFF800000#32 reduces_S256x10240_S10240 (.inl rfl) rfl
theorem colMax_le (A : FVec Ideal S256x10240 .f32) (j : S10240.Idx) (x : EReal) :
    (colMax A j : EReal) ≤ x ↔ ∀ k : Fin 256, (A (I2 k (j 0)) : EReal) ≤ x := by
  refine (mred_le A reduces_S256x10240_S10240 j x).trans (forall_congr' fun k => ?_)
  rw [show reduces_S256x10240_S10240.lift j k = I2 k (j 0) from ext2 rfl rfl]
  exact Iff.rfl
/-- The maximum of a row. -/
def rowMax (B : FVec Ideal S1x10240 .f32) : FVec Ideal S1 .f32 :=
  multiReduction (F := Ideal) (φ := .f32) .maximumf [1] S1 B 0xFF800000#32 reduces_S1x10240_S1 (.inl rfl) rfl
theorem rowMax_le (B : FVec Ideal S1x10240 .f32) (j : S1.Idx) (x : EReal) :
    (rowMax B j : EReal) ≤ x ↔ ∀ k : Fin 10240, (B (I2 (j 0) k) : EReal) ≤ x := by
  refine (mred_le B reduces_S1x10240_S1 j x).trans (forall_congr' fun k => ?_)
  rw [show reduces_S1x10240_S1.lift j k = I2 (j 0) k from ext2 rfl rfl]
  exact Iff.rfl
theorem pay3_eq (i : grid0.Coords) (n : BitVec 32) (d : Vec Ideal S1x256x10240 .bf16) (acc : Vec Ideal S1x1 .f32) :
    k0_pay3 (F := Ideal) i n d acc = maximumf (shapeCast S1x1 acc shapeCasts_S1x1_S1x1)
      (shapeCast S1x1 (rowMax (shapeCast S1x10240 (colMax (absf (k0_pay2 (F := Ideal) i n d))) shapeCasts_S10240_S1x10240)) shapeCasts_S1_S1x1) := rfl

/-- A block's largest magnitude, as an upper bound test. -/
theorem pay3_le (i : grid0.Coords) (n : BitVec 32) (d : Vec Ideal S1x256x10240 .bf16) (acc : Vec Ideal S1x1 .f32) (z : S1x1.Idx) (x : EReal) :
    (k0_pay3 (F := Ideal) i n d acc z : EReal) ≤ x ↔ (acc z : EReal) ≤ x ∧ ∀ y : S256x10240.Idx, absE (k0_pay2 (F := Ideal) i n d y) ≤ x := by
  rw [pay3_eq, shapeCast_self]
  generalize k0_pay2 (F := Ideal) i n d = A
  show max (acc z : EReal) (shapeCast S1x1 (rowMax (shapeCast S1x10240 (colMax (absf A)) shapeCasts_S10240_S1x10240)) shapeCasts_S1_S1x1 z : EReal) ≤ x ↔ _
  rw [max_le_iff]
  refine and_congr_right fun _ => ?_
  rw [show (shapeCast S1x1 (rowMax (shapeCast S1x10240 (colMax (absf A)) shapeCasts_S10240_S1x10240)) shapeCasts_S1_S1x1 z : EReal)
    = rowMax (shapeCast S1x10240 (colMax (absf A)) shapeCasts_S10240_S1x10240) (I1 (z 1)) from
      (shapeCast_addUnit_apply ![1] _ _ z).trans (congrArg (rowMax (shapeCast S1x10240 (colMax (absf A)) shapeCasts_S10240_S1x10240)) (ext1 rfl)), rowMax_le]
  have hk : ∀ k : Fin 10240, (shapeCast S1x10240 (colMax (absf A)) shapeCasts_S10240_S1x10240 (I2 (z 1) k) : EReal) = colMax (absf A) (I1 k) := by
    intro k
    refine (shapeCast_addUnit_apply ![10240] (colMax (absf A)) _ (I2 (z 1) k)).trans ?_
    exact congrArg (colMax (absf A)) (ext1 rfl)
  have hA : ∀ y, (absf A y : EReal) = absE (A y) := fun _ => rfl
  refine ⟨fun h y => ?_, fun h k => (hk k).symm ▸ (colMax_le _ _ _).mpr fun k' => (hA _) ▸ h _⟩
  have := (colMax_le _ _ _).mp ((hk (y 1)) ▸ h (y 1)) (y 0)
  rw [hA] at this
  have hy : (I2 (y 0) (I1 (y 1) 0) : S256x10240.Idx) = y := ext2 rfl rfl
  exact (congrArg (fun u => absE (A u)) hy.symm).trans_le this

variable (W : Dev nD → Valuation τ sig (Elt Ideal))

/-- A point's contribution: its block's magnitudes, where the block holds a live row. -/
def ptLe (c : Dev nD) (t : Fin (cf0 W).N) (x : EReal) : Prop :=
  k0_cond2 (grid0.coords t) (ln0 W c t) = 1#1 → ∀ y : S256x10240.Idx, absE (k0_pay2 (F := Ideal) (grid0.coords t) (ln0 W c t) (gb0 W c t) y) ≤ x

theorem accOut0_le (c : Dev nD) (t : Fin (cf0 W).N) (acc : Vec Ideal S1x1 .f32) (z : S1x1.Idx) (x : EReal) :
    (accOut0 (grid0.coords t) (ln0 W c t) (gb0 W c t) acc z : EReal) ≤ x ↔ (accIn0 (grid0.coords t) acc z : EReal) ≤ x ∧ ptLe W c t x := by
  unfold accOut0 ptLe
  by_cases h : k0_cond2 (grid0.coords t) (ln0 W c t) = 1#1
  · rw [if_pos h, pay3_le]
    exact and_congr_right fun _ => ⟨fun g _ => g, fun g => g h⟩
  · rw [if_neg h]
    exact ⟨fun g => ⟨g, fun g' => absurd g' h⟩, fun g => g.1⟩

theorem first0_pos : ∀ t : Fin grid0.N, t.val ≠ 0 → ¬ k0_cond1 (grid0.coords t) = 1#1 := by decide +kernel

theorem pay1_zero (z : S1x1.Idx) : (k0_pay1 (F := Ideal) z : EReal) = 0 := Ideal.ofBits_zero_f32

/-- The running maximum after a point, as an upper bound test. -/
theorem acc0_le (c : Dev nD) (z : S1x1.Idx) (x : EReal) : ∀ (n : ℕ) (h : n < (cf0 W).N),
    (acc0 W c n h z : EReal) ≤ x ↔ 0 ≤ x ∧ ∀ t : Fin (cf0 W).N, t.val ≤ n → ptLe W c t x
  | 0, h => by
    have e : acc0 W c 0 h = accOut0 (grid0.coords ⟨0, h⟩) (ln0 W c ⟨0, h⟩) (gb0 W c ⟨0, h⟩) (k0_pay1 (F := Ideal)) := rfl
    rw [e, accOut0_le W c ⟨0, h⟩]
    have e2 : (accIn0 (F := Ideal) (grid0.coords ⟨0, h⟩) (k0_pay1 (F := Ideal)) z : EReal) = 0 := by
      unfold accIn0; rw [ite_self]; exact pay1_zero z
    rw [e2]
    refine and_congr_right fun _ => ⟨fun g t ht => ?_, fun g => g ⟨0, h⟩ (Nat.le_refl 0)⟩
    rw [show t = ⟨0, h⟩ from Fin.ext (Nat.le_zero.mp ht)]; exact g
  | n + 1, h => by
    have e : acc0 W c (n + 1) h = accOut0 (grid0.coords ⟨n + 1, h⟩) (ln0 W c ⟨n + 1, h⟩) (gb0 W c ⟨n + 1, h⟩) (acc0 W c n (Nat.lt_of_succ_lt h)) := rfl
    rw [e, accOut0_le W c ⟨n + 1, h⟩]
    have e2 : accIn0 (grid0.coords ⟨n + 1, h⟩) (acc0 W c n (Nat.lt_of_succ_lt h)) = acc0 W c n (Nat.lt_of_succ_lt h) := by
      unfold accIn0; exact if_neg (first0_pos ⟨n + 1, h⟩ (Nat.succ_ne_zero n))
    rw [e2, acc0_le c z x n (Nat.lt_of_succ_lt h)]
    constructor
    · rintro ⟨⟨h0, g⟩, g'⟩
      refine ⟨h0, fun t ht => ?_⟩
      rcases Nat.lt_or_ge t.val (n + 1) with hlt | hge
      · exact g t (Nat.le_of_lt_succ hlt)
      · rw [show t = ⟨n + 1, h⟩ from Fin.ext (Nat.le_antisymm ht hge)]; exact g'
    · rintro ⟨h0, g⟩
      exact ⟨⟨h0, fun t ht => g t (Nat.le_succ_of_le ht)⟩, g ⟨n + 1, h⟩ (Nat.le_refl _)⟩

/-- Every point's contribution together: every masked gradient. -/
theorem ptLe_all (hn : ∀ b : Fin 4, lenI (lenT W) b + 1024 ≤ 2147483648) (c : Dev nD) (x : EReal) (h0 : 0 ≤ x) :
    (∀ t : Fin (cf0 W).N, ptLe W c t x) ↔ ∀ i : S4x3072x10240.Idx, absE (maskE (lenT W) (dyT W c) i) ≤ x := by
  have key : ∀ (t : Fin (cf0 W).N) (y : S256x10240.Idx) (i : S4x3072x10240.Idx), (i 0).val = (grid0.coords t 0).val → (i 1).val = (grid0.coords t 1).val * 256 + (y 0).val → (i 2).val = (y 1).val →
      (((grid0.coords t 1).val * 256 : Nat) : Int) < lenI (lenT W) (grid0.coords t 0) →
      k0_pay2 (F := Ideal) (grid0.coords t) (ln0 W c t) (gb0 W c t) y = maskE (lenT W) (dyT W c) i := by
    intro t y i f0 f1 f2 hl
    rw [pay2_apply]
    have hi0 : i 0 = grid0.coords t 0 := Fin.ext f0
    unfold maskE
    rw [hi0, f1, ln0_eq, gb0_apply W hn c t hl (Fin.cons ⟨0, Nat.one_pos⟩ y) i f0 f1 f2]
    rfl
  constructor
  · intro h i
    have h0' : (i 0).val < 4 := (i 0).isLt
    have h1 : (i 1).val < 3072 := (i 1).isLt
    obtain ⟨t, e0, e1⟩ := onto0 ⟨(i 0).val, h0'⟩ ⟨(i 1).val / 256, by omega⟩
    simp only at e0 e1
    by_cases hl : (((grid0.coords t 1).val * 256 : Nat) : Int) < lenI (lenT W) (grid0.coords t 0)
    · have hb : (i 1).val % 256 < 256 := Nat.mod_lt _ (by omega)
      have := h t ((cond0_2_iff _ _).mpr (by rw [ln0_eq]; exact hl)) (I2 ⟨(i 1).val % 256, hb⟩ (i 2))
      rw [key t (I2 ⟨(i 1).val % 256, hb⟩ (i 2)) i e0.symm (by show (i 1).val = _ * 256 + (i 1).val % 256; omega) rfl hl] at this
      exact this
    · unfold maskE
      rw [if_neg (fun hh => hl (by rw [show i 0 = grid0.coords t 0 from Fin.ext e0.symm] at hh; omega)), absE_zero]
      exact h0
  · intro h t hc y
    have hl : (((grid0.coords t 1).val * 256 : Nat) : Int) < lenI (lenT W) (grid0.coords t 0) := by
      have := (cond0_2_iff _ _).mp hc; rw [ln0_eq] at this; exact this
    have c0 : (grid0.coords t 1).val < 12 := (grid0.coords t 1).isLt
    have y0 : (y 0).val < 256 := (y 0).isLt
    rw [key t y (I3 (grid0.coords t 0) ⟨(grid0.coords t 1).val * 256 + (y 0).val, by omega⟩ (y 1)) rfl rfl rfl hl]
    exact h _

theorem N0_eq : (cf0 W).N = 48 := (by decide +kernel : grid0.N = 48)
theorem lt47 : 47 < (cf0 W).N := by rw [N0_eq]; omega
/-- The last point of the grid. -/
def last0 : Fin (cf0 W).N := ⟨47, lt47 W⟩

theorem cover0_3 (i : S1x1.Idx) : ∃ t : Fin (cf0 W).N, ((cf0 W).win 3).flush t = true ∧ i ∈ (((cf0 W).win 3).blk t).view.set := by
  refine ⟨last0 W, ?_, (Pipeline.Window.emb_mem_blk_iff ((cf0 W).win 3) (last0 W) i).mpr fun a => ?_⟩
  · unfold Pipeline.Window.flush
    have h1 : (decide ((last0 W).val + 1 = (cf0 W).grid.N)) = true := decide_eq_true (N0_eq W).symm
    rw [h1]; rfl
  · have hi : ((cf0 W).win 3).index (last0 W) = ![0, 0] := rfl
    rw [hi]
    match a with
    | ⟨0, _⟩ => have : (i 0).val < 1 := (i 0).isLt
                show 0 * 1 ≤ (i 0).val ∧ (i 0).val < 0 * 1 + 1; omega
    | ⟨1, _⟩ => have : (i 1).val < 1 := (i 1).isLt
                show 0 * 1 ≤ (i 1).val ∧ (i 1).val < 0 * 1 + 1; omega

theorem one_eq (a b : S1x1.Idx) : a = b :=
  ext2 ((Nat.lt_one_iff.mp (show (a 0).val < 1 from (a 0).isLt)).trans (Nat.lt_one_iff.mp (show (b 0).val < 1 from (b 0).isLt)).symm)
    ((Nat.lt_one_iff.mp (show (a 1).val < 1 from (a 1).isLt)).trans (Nat.lt_one_iff.mp (show (b 1).val < 1 from (b 1).isLt)).symm)

/-- The one cell the call leaves. -/
def amaxE (c : Dev nD) : S1x1.Idx → EReal := (dat0 W c).arrAt 3 (cf0 W).N
theorem amax_last (c : Dev nD) : amaxE W c = acc0 W c 47 (lt47 W) := by
  refine (dat0 W c).arrAt_eq_of_emb 3 (acc0 W c 47 (lt47 W)) (fun t hf y => ?_) (cover0_3 W)
  have ht : t = last0 W := by
    by_contra hne
    have := flush0_3 W t (fun e => hne (Fin.ext (by have e2 := N0_eq W; show t.val = 47; omega)))
    exact absurd hf (by rw [this]; simp)
  subst ht
  refine (congrFun (after0_3 W c (last0 W)) y).trans ?_
  exact congrArg (acc0 W c 47 (lt47 W) : S1x1.Idx → EReal) (one_eq _ _)

/-- The one cell the call leaves is bounded by exactly what bounds every masked gradient's magnitude. -/
theorem amax_arr (hn : ∀ b : Fin 4, lenI (lenT W) b + 1024 ≤ 2147483648) (c : Dev nD) (z : S1x1.Idx) (x : EReal) :
    amaxE W c z ≤ x ↔ ∀ i : S4x3072x10240.Idx, absE (maskE (lenT W) (dyT W c) i) ≤ x := by
  rw [amax_last, acc0_le]
  constructor
  · rintro ⟨h0, h⟩
    exact (ptLe_all W hn c x h0).mp fun t => h t (by have := t.isLt; have e2 := N0_eq W; omega)
  · intro h
    have h0 : 0 ≤ x := le_trans (absE_nonneg _) (h (I3 ⟨0, by omega⟩ ⟨0, by omega⟩ ⟨0, by omega⟩))
    exact ⟨h0, fun t _ => (ptLe_all W hn c x h0).mpr h t⟩

end Cert.KernelIdeal.Hand
-- ==== Proof.V.Kern.lean ====
/-
  The kernel's four results at the ideal values, as functions of the arguments: the three calls' value theorems put
  together over the contents each call finds.
-/
module

public import proofs.«01_k».proof.Proof.V.Dx
public import proofs.«01_k».proof.Proof.V.Dw
public import proofs.«01_k».proof.Proof.V.Amax
public import proofs.«01_k».proof.Proof.KI.Frame

@[expose] public section

set_option maxRecDepth 16384

noncomputable section

namespace Cert.KernelIdeal.Hand

open Idealize.ShloMosaic Idealize.ShloMosaic.TcCoe Cert.KernelIdeal.Gen Cert.Words
open Idealize.ShloMosaic.Pipeline (Dat)

variable (m : (ℓ : Loc nD τ sig) → Buf (Elt Ideal) ℓ)

/-- The one index of a rank-zero array. -/
def z0 : S_.Idx := fun a => a.elim0
theorem z0_eq (a : S_.Idx) : a = z0 := funext fun x => x.elim0

/-- The arguments. -/
def aDy (c : Dev nD) : S4x3072x10240.Idx → EReal := m (c, Proc.devRef .tc main_arg0)
def aSy (c : Dev nD) : FVec Ideal S_ .f32 := m (c, Proc.devRef .tc main_arg1)
def aX (c : Dev nD) : S4x3072x8192.Idx → EReal := m (c, Proc.devRef .tc main_arg2)
def aSx (c : Dev nD) : FVec Ideal S_ .f32 := m (c, Proc.devRef .tc main_arg3)
def aW (c : Dev nD) : S10240x8192.Idx → EReal := m (c, Proc.devRef .tc main_arg4)
def aSw (c : Dev nD) : FVec Ideal S_ .f32 := m (c, Proc.devRef .tc main_arg5)
def aMg (c : Dev nD) : S10240x8192.Idx → EReal := m (c, Proc.devRef .tc main_arg6)
def aLen (c : Dev nD) : S4.Idx → BitVec 32 := m (c, Proc.devRef .tc main_arg7)

theorem dev0 (c : Dev nD) : (0 : Dev nD) = c := (by decide : ∀ c : Fin 1, 0 = c) c

theorem len1_eq (c : Dev nD) : lenT (U1 m) = aLen m c := by
  rw [← dev0 c]; exact U1_of m 0 main_arg7 (by decide)
theorem len3_eq (c : Dev nD) : lenT (U3 m) = aLen m c := by
  rw [← dev0 c]; exact U3_keep m 0 main_arg7 (by decide)
theorem len5_eq (c : Dev nD) : lenT (U5 m) = aLen m c := by
  rw [← dev0 c]; exact U5_keep m 0 main_arg7 (by decide)

/-- The factor the gradient is scaled by: one over its scale. -/
def invS (c : Dev nD) : EReal := Host.divf (constant (F := Ideal) S_ .f32 0x3F800000#32) (aSy m c) z0

theorem cast1_apply (x : FVec Ideal S_ .f32) (h) (j : S1.Idx) : (shapeCast S1 x h j : EReal) = x z0 :=
  congrArg x (z0_eq _)

theorem inv_eq (c : Dev nD) : invE (U1 m) c = invS m c :=
  (congrFun (U1_v1 m c) (I1 0)).trans (cast1_apply _ _ _)
theorem s1_eq (c : Dev nD) : s1E (U3 m) c = aSy m c z0 * aSw m c z0 :=
  (congrFun (U3_v4 m c) (I1 0)).trans (cast1_apply _ _ _)
theorem s2_eq (c : Dev nD) : s2E (U5 m) c = aSy m c z0 * aSx m c z0 :=
  (congrFun (U5_v7 m c) (I1 0)).trans (cast1_apply _ _ _)

theorem dy_eq (c : Dev nD) : dyT (U1 m) c = aDy m c := U1_of m c main_arg0 (by decide)
theorem w_eq (c : Dev nD) : wT (U3 m) c = aW m c := U3_keep m c main_arg4 (by decide)
theorem x_eq (c : Dev nD) : xT (U5 m) c = aX m c := U5_keep m c main_arg2 (by decide)
theorem mg_eq (c : Dev nD) : mT (U5 m) c = aMg m c := U5_keep m c main_arg6 (by decide)

/-- The codes as a function of the arguments. -/
def codesE (c : Dev nD) : S4x3072x10240.Idx → EReal := codeE (aLen m c) (aDy m c) (invS m c)

/-- A code past its batch entry's length is zero. -/
theorem codesE_zero (c : Dev nD) (i : S4x3072x10240.Idx) (h : ¬ (((i 1).val : Nat) : Int) < lenI (aLen m c) (i 0)) :
    codesE m c i = 0 := by
  unfold codesE codeE maskE
  rw [if_neg h, quantE_zero]

/-- The largest magnitude. -/
def amaxR (c : Dev nD) : S_.Idx → EReal := U7 m c (Proc.devRef .tc main_v9)

section
variable (hn : ∀ (c : Dev nD) (b : Fin 4), lenI (aLen m c) b + 1024 ≤ 2147483648)
include hn

theorem codes1 (c : Dev nD) : ((dat0 (U1 m) c).arrAt 2 (cf0 (U1 m)).N : S4x3072x10240.Idx → EReal) = codesE m c := by
  refine (codes_arr (U1 m) (by rw [len1_eq m c]; exact hn c) c).trans ?_
  rw [len1_eq m c, dy_eq, inv_eq]; rfl

/-- The codes. -/
theorem res_codes (c : Dev nD) : (U7 m c (Proc.devRef .tc main_v2_0) : S4x3072x10240.Idx → EReal) = codesE m c :=
  (U7_codes m c).trans (codes1 m hn c)

theorem q3_eq (c : Dev nD) : qT (U3 m) c = codesE m c := (U3_codes m c).trans (codes1 m hn c)
theorem q5_eq (c : Dev nD) : q2T (U5 m) c = codesE m c := (U5_codes m c).trans (codes1 m hn c)

/-- The gradient of the activations. -/
theorem res_dx (c : Dev nD) : (U7 m c (Proc.devRef .tc main_v5) : S4x3072x8192.Idx → EReal) =
    dxE (codesE m c) (aW m c) (aSy m c z0 * aSw m c z0) := by
  refine (U7_dx m c).trans ((dx_arr (U3 m) (by rw [len3_eq m c]; exact hn c) c ?_).trans ?_)
  · rw [len3_eq m c, q3_eq m hn c]; exact codesE_zero m c
  · rw [q3_eq m hn c, w_eq, s1_eq]

/-- The accumulated gradient of the weights. -/
theorem res_dw (c : Dev nD) : (U7 m c (Proc.devRef .tc main_v8) : S10240x8192.Idx → EReal) =
    dwE (aMg m c) (codesE m c) (aX m c) (aSy m c z0 * aSx m c z0) := by
  refine (U7_dw m c).trans ((dw_arr (U5 m) (by rw [len5_eq m c]; exact hn c) c ?_).trans ?_)
  · rw [len5_eq m c, q5_eq m hn c]; exact codesE_zero m c
  · rw [q5_eq m hn c, mg_eq, x_eq, s2_eq]

/-- The largest magnitude, by what bounds it. -/
theorem res_amax (c : Dev nD) (j : S_.Idx) (x : EReal) :
    amaxR m c j ≤ x ↔ ∀ i : S4x3072x10240.Idx, absE (maskE (aLen m c) (aDy m c) i) ≤ x := by
  have e : amaxR m c j = amaxE (U1 m) c (fun a => ⟨0, by fin_cases a <;> exact Nat.one_pos⟩) :=
    (congrFun (U7_amax m c) j).trans (congrArg (amaxE (U1 m) c) (one_eq _ _))
  rw [e, amax_arr (U1 m) (by rw [len1_eq m c]; exact hn c) c, len1_eq m c, dy_eq]

end

end Cert.KernelIdeal.Hand
-- ==== Proof.V.RefData.lean ====
/-
  What the reference's elementwise steps hold at the ideal values: the masked gradient, its scaled and clipped copy, and
  the largest magnitude, in the terms the kernel's results are stated in.
-/
module

public import proofs.«01_k».proof.Proof.V.Amax
public import proofs.«01_k».proof.Proof.Gen.ReferenceIdeal.Run
public import Idealize.ShloMosaic.PureOps.Reduce

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.Words
open Cert.KernelIdeal.Hand (I1 I2 I3 ext1 ext2 ext3 lenI maskE codeE quantE hiC loC absE absE_nonneg ofBits_neg_inf)

/-- The one index of a rank-zero array. -/
def u0 : S_.Idx := fun a => a.elim0
theorem u0_eq (a : S_.Idx) : a = u0 := funext fun x => x.elim0

/-- The reference's test of a row against its batch entry's length. -/
def rowMask (T : IVec S4 32) : IVec S4x3072 1 :=
  cmpi .slt (broadcastInDim S4x3072 ![0, 1] bcast_S1x3072_S4x3072_0_1 (broadcastInDim S1x3072 ![1] bcast_S3072_S1x3072_1 (iotaInDim S3072 32 0))) (broadcastInDim S4x3072 ![0, 1] bcast_S4x1_S4x3072_0_1 (broadcastInDim S4x1 ![0] bcast_S4_S4x1_0 T))

/-- The reference's masked gradient. -/
def dTerm (T : IVec S4 32) (D : FVec Ideal S4x3072x10240 .bf16) : FVec Ideal S4x3072x10240 .f32 :=
  select (broadcastInDim S4x3072x10240 ![0, 1, 2] bcast_S4x3072x1_S4x3072x10240_0_1_2 (broadcastInDim S4x3072x1 ![0, 1] bcast_S4x3072_S4x3072x1_0_1 (rowMask T))) (extf (F := Ideal) .f32 D bitsLt_bf16_f32) (broadcastInDim S4x3072x10240 ![] bcast_S_S4x3072x10240 (id (constant (F := Ideal) S_ .f32 0x00000000#32)))

/-- The mask is set exactly at the live rows. -/
theorem rowMask_apply (T : IVec S4 32) (b : Fin 4) (r : Fin 3072) :
    rowMask T (I2 b r) = BitVec.ofBool (decide (((r.val : Nat) : Int) < lenI T b)) := by
  have hL : broadcastInDim S4x3072 ![0, 1] bcast_S1x3072_S4x3072_0_1 (broadcastInDim S1x3072 ![1] bcast_S3072_S1x3072_1 (iotaInDim S3072 32 0)) (I2 b r) = BitVec.ofNat 32 r.val := by
    refine (broadcastInDim_apply _ _ _ _ (I2 (0 : Fin 1) r : S1x3072.Idx) ?_).trans ((broadcastInDim_apply _ _ _ _ (I1 r : S3072.Idx) ?_).trans rfl)
    · intro a; fin_cases a <;> rfl
    · intro a; fin_cases a; rfl
  have hR : broadcastInDim S4x3072 ![0, 1] bcast_S4x1_S4x3072_0_1 (broadcastInDim S4x1 ![0] bcast_S4_S4x1_0 T) (I2 b r) = T (I1 b) := by
    refine (broadcastInDim_apply _ _ _ _ (I2 b (0 : Fin 1) : S4x1.Idx) ?_).trans (broadcastInDim_apply _ _ _ _ (I1 b : S4.Idx) ?_)
    · intro a; fin_cases a <;> rfl
    · intro a; fin_cases a; rfl
  have e : rowMask T (I2 b r) = IntOp.cmpi .slt (BitVec.ofNat 32 r.val) (T (I1 b)) := congr (congrArg (fun a b : BitVec 32 => IntOp.cmpi .slt a b) hL) hR
  rw [e, WordCmp.cmpi_slt_eq, toInt_small _ (by have := r.isLt; omega)]
  rfl

/-- The masked gradient, element by element. -/
theorem dTerm_apply (T : IVec S4 32) (D : FVec Ideal S4x3072x10240 .bf16) (i : S4x3072x10240.Idx) :
    (dTerm T D i : EReal) = maskE T D i := by
  have hM : broadcastInDim S4x3072x10240 ![0, 1, 2] bcast_S4x3072x1_S4x3072x10240_0_1_2 (broadcastInDim S4x3072x1 ![0, 1] bcast_S4x3072_S4x3072x1_0_1 (rowMask T)) i = BitVec.ofBool (decide ((((i 1).val : Nat) : Int) < lenI T (i 0))) := by
    refine (broadcastInDim_apply _ _ _ _ (I3 (i 0) (i 1) (0 : Fin 1) : S4x3072x1.Idx) ?_).trans ((broadcastInDim_apply _ _ _ _ (I2 (i 0) (i 1) : S4x3072.Idx) ?_).trans (rowMask_apply T (i 0) (i 1)))
    · intro a; fin_cases a <;> rfl
    · intro a; fin_cases a <;> rfl
  have hZ : (broadcastInDim S4x3072x10240 ![] bcast_S_S4x3072x10240 (id (constant (F := Ideal) S_ .f32 0x00000000#32)) i : EReal) = 0 :=
    Ideal.ofBits_zero_f32
  have e : (dTerm T D i : EReal) = if (BitVec.ofBool (decide ((((i 1).val : Nat) : Int) < lenI T (i 0)))) = 1#1 then (D i : EReal) else 0 := by
    rw [← hM, ← hZ]; rfl
  rw [e]
  unfold maskE
  by_cases h : (((i 1).val : Nat) : Int) < lenI T (i 0) <;> simp [h]

/-- The scaled and clipped gradient, as the reference writes it. -/
def qTerm (T : IVec S4 32) (D : FVec Ideal S4x3072x10240 .bf16) (s : FVec Ideal S_ .f32) : FVec Ideal S4x3072x10240 .f32 :=
  minimumf (F := Ideal) (broadcastInDim S4x3072x10240 ![] bcast_S_S4x3072x10240 (id (constant (F := Ideal) S_ .f32 0x47600000#32))) (maximumf (F := Ideal) (broadcastInDim S4x3072x10240 ![] bcast_S_S4x3072x10240 (id (constant (F := Ideal) S_ .f32 0xC7600000#32))) (mulf (F := Ideal) (dTerm T D) (broadcastInDim S4x3072x10240 ![] bcast_S_S4x3072x10240 s)))

theorem qTerm_apply (T : IVec S4 32) (D : FVec Ideal S4x3072x10240 .bf16) (s : FVec Ideal S_ .f32) (i : S4x3072x10240.Idx) :
    (qTerm T D s i : EReal) = codeE T D (s u0) i := by
  have hs : broadcastInDim S4x3072x10240 ![] bcast_S_S4x3072x10240 s i = s u0 :=
    broadcastInDim_apply _ _ _ _ u0 fun a => a.elim0
  have e : (qTerm T D s i : EReal) = quantE (dTerm T D i) (broadcastInDim S4x3072x10240 ![] bcast_S_S4x3072x10240 s i) := rfl
  rw [e, hs, dTerm_apply]; rfl

/-- The maximum of a list from a start: bounded exactly when the start and every entry are. -/
theorem foldl_max_le {ι : Type} (f : ι → EReal) (l : List ι) (z x : EReal) :
    l.foldl (fun r i => max r (f i)) z ≤ x ↔ z ≤ x ∧ ∀ i ∈ l, f i ≤ x := by
  induction l generalizing z with
  | nil => simp
  | cons a l ih => rw [List.foldl_cons, ih]; simp [and_assoc]

/-- The reference's largest magnitude. -/
def aTerm (T : IVec S4 32) (D : FVec Ideal S4x3072x10240 .bf16) : FVec Ideal S_ .f32 :=
  Host.reduce (FloatOps.maximumf (F := Ideal) (φ := .f32)) (Host.absf (dTerm T D)) (constant (F := Ideal) S_ .f32 0xFF800000#32) reducesTo_S4x3072x10240_S_d0_1_2 h_S_

theorem aTerm_le (T : IVec S4 32) (D : FVec Ideal S4x3072x10240 .bf16) (j : S_.Idx) (x : EReal) :
    (aTerm T D j : EReal) ≤ x ↔ ∀ i : S4x3072x10240.Idx, absE (maskE T D i) ≤ x := by
  have e : (aTerm T D j : EReal) = (((List.finRange S4x3072x10240.numel).map S4x3072x10240.rowMajor.symm).filter fun i => reducesTo_S4x3072x10240_S_d0_1_2.drop i = j).foldl (fun r i => max r (absE (dTerm T D i))) (Ideal.ofBits .f32 0xFF800000#32) :=
    Host.reduce_eq_foldl _ _ _ _ _ j
  rw [e, foldl_max_le, ofBits_neg_inf]
  constructor
  · intro h i
    rw [← dTerm_apply]
    refine h.2 i (List.mem_filter.2 ⟨List.mem_map.2 ⟨S4x3072x10240.rowMajor i, List.mem_finRange _, Equiv.symm_apply_apply _ _⟩, ?_⟩)
    exact decide_eq_true ((u0_eq _).trans (u0_eq _).symm)
  · intro h
    exact ⟨bot_le, fun i _ => by rw [dTerm_apply]; exact h i⟩

end Cert.ReferenceIdeal.Hand
-- ==== Proof.V.RefReg.lean ====
/-
  What the reference's one-point region leaves in its four arrays, and its three results after it, at the ideal values.
-/
module

public import proofs.«01_k».proof.Proof.V.RefData
public import proofs.«01_k».proof.Proof.V.Dx
public import proofs.«01_k».proof.Proof.V.Dw
public import proofs.«01_k».proof.Proof.Gen.ReferenceIdeal.Read
public import Idealize.ShloMosaic.Lib.TwoAxisContraction
public import Idealize.ShloMosaic.Lib.Pipeline.ValueKit.Geometry

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo Cert.Words
open Cert.KernelIdeal.Hand (I1 I2 I3 ext1 ext2 ext3 lenI maskE codeE quantE dxE dwE)
open Idealize.ShloMosaic.Pipeline (Dat)
open scoped BigOperators

variable (m : (ℓ : Loc nD τ sig) → Buf (Elt Ideal) ℓ)

/-- The arguments the reference reads. -/
def gT (c : Dev nD) : FVec Ideal S4x3072x10240 .bf16 := m ((c.tc : Thread nD τ).loc main_arg0)
def lT (c : Dev nD) : IVec S4 32 := m ((c.tc : Thread nD τ).loc main_arg7)
def rT (c : Dev nD) : FVec Ideal S_ .f32 := Host.divf (constant (F := Ideal) S_ .f32 0x3F800000#32) (m ((c.tc : Thread nD τ).loc main_arg1))

set_option maxHeartbeats 2000000 in
/-- The region reads the scaled and clipped gradient. -/
theorem V0_v14 (c : Dev nD) : Gen.V0 m c (Proc.devRef .tc main_v14) = qTerm (lT m c) (gT m c) (rT m c) := by
  unfold qTerm dTerm rowMask lT gT rT
  simp only [Gen.V0, Gen.hostOps0, Gen.hostOps0_1, Gen.hostOps0_2, Gen.hostOps0_3, TRef.binary, TRef.ternary, TRef.unary, TRef.toBuf, TRef.ofBuf, cast_eq, List.flatten_cons, List.flatten_nil, List.append_nil, List.cons_append, List.nil_append]
  after_results <;> rfl

/-- The one point of the reference's grid. -/
def p0 : Fin cfg0.N := ⟨0, by decide⟩

theorem emb0 (i : S4x3072x10240.Idx) : (((cfg0.win 0).blk p0).view.emb i : S4x3072x10240.Idx) = i := by
  funext a; apply Fin.ext; fin_cases a <;> exact (Nat.zero_add _).trans (Nat.one_mul _)

theorem emb1 (i : S4x3072x8192.Idx) : (((cfg0.win 1).blk p0).view.emb i : S4x3072x8192.Idx) = i := by
  funext a; apply Fin.ext; fin_cases a <;> exact (Nat.zero_add _).trans (Nat.one_mul _)

theorem emb2 (i : S10240x8192.Idx) : (((cfg0.win 2).blk p0).view.emb i : S10240x8192.Idx) = i := by
  funext a; apply Fin.ext; fin_cases a <;> exact (Nat.zero_add _).trans (Nat.one_mul _)

/-- The blocks the body reads at the one point are the whole arrays. -/
theorem blk0_apply (c : Dev nD) (i : S4x3072x10240.Idx) : iblk m c 0 p0 i = qTerm (lT m c) (gT m c) (rT m c) i := by
  have e : iblk m c 0 p0 i = (Gen.V0 m c (Proc.devRef .tc main_v14) : FVec Ideal S4x3072x10240 .f32) (((cfg0.win 0).blk p0).view.emb i) := rfl
  rw [e, V0_v14]
  exact congrArg (qTerm (lT m c) (gT m c) (rT m c)) (emb0 i)

theorem blk1_apply (c : Dev nD) (i : S4x3072x8192.Idx) : iblk m c 1 p0 i = m ((c.tc : Thread nD τ).loc main_arg2) i := by
  have e : iblk m c 1 p0 i = (Gen.V m c main_arg2 : S4x3072x8192.Idx → EReal) (((cfg0.win 1).blk p0).view.emb i) := rfl
  rw [e, V_main_arg2]
  exact congrArg (m ((c.tc : Thread nD τ).loc main_arg2)) (emb1 i)

theorem blk2_apply (c : Dev nD) (i : S10240x8192.Idx) : iblk m c 2 p0 i = m ((c.tc : Thread nD τ).loc main_arg4) i := by
  have e : iblk m c 2 p0 i = (Gen.V m c main_arg4 : S10240x8192.Idx → EReal) (((cfg0.win 2).blk p0).view.emb i) := rfl
  rw [e, V_main_arg4]
  exact congrArg (m ((c.tc : Thread nD τ).loc main_arg4)) (emb2 i)

theorem off3 : (![0, 0, 0] : Fin 3 → Nat) = fun _ => 0 := by funext a; fin_cases a <;> rfl
theorem off2 : (![0, 0] : Fin 2 → Nat) = fun _ => 0 := by funext a; fin_cases a <;> rfl

/-- What the body writes is what it reads: the conversions are exact. -/
theorem out3_apply (x0 : FVec Ideal S4x3072x10240 .f32) (x1 : FVec Ideal S4x3072x8192 .fp8e4m3) (x2 : FVec Ideal S10240x8192 .fp8e4m3) (i : S4x3072x10240.Idx) :
    (out0_3 (F := Ideal) x0 x1 x2 i : EReal) = x0 i := by
  have h : out0_3 (F := Ideal) x0 x1 x2 = k0_pay1 (F := Ideal) (View.ld (Val := Elt Ideal) (e' := .f32) x0 r0_0) := by
    unfold out0_3 r0_0; exact View.canon_unit_zero (S := S4x3072x10240) (off := ![0, 0, 0]) off3 _ _
  have e : (View.ld (Val := Elt Ideal) (e' := .f32) x0 r0_0 : _ → EReal) = (x0 : _ → EReal) := by
    unfold r0_0; exact View.ld_unit_zero (Val := Elt Ideal) (e := .f32) (S := S4x3072x10240) (off := ![0, 0, 0]) off3 _ x0
  have p : k0_pay1 (F := Ideal) x0 = shapeCast S4x3072x10240 x0 shapeCasts_S4x3072x10240_S4x3072x10240 := rfl
  rw [h, e, p, shapeCast_self]

theorem out4_apply (x0 : FVec Ideal S4x3072x10240 .f32) (x1 : FVec Ideal S4x3072x8192 .fp8e4m3) (x2 : FVec Ideal S10240x8192 .fp8e4m3) (i : S4x3072x10240.Idx) :
    (out0_4 (F := Ideal) x0 x1 x2 i : EReal) = x0 i := by
  have h : out0_4 (F := Ideal) x0 x1 x2 = k0_pay2 (F := Ideal) (View.ld (Val := Elt Ideal) (e' := .f32) x0 r0_0) := by
    unfold out0_4 r0_0; exact View.canon_unit_zero (S := S4x3072x10240) (off := ![0, 0, 0]) off3 _ _
  have e : (View.ld (Val := Elt Ideal) (e' := .f32) x0 r0_0 : _ → EReal) = (x0 : _ → EReal) := by
    unfold r0_0; exact View.ld_unit_zero (Val := Elt Ideal) (e := .f32) (S := S4x3072x10240) (off := ![0, 0, 0]) off3 _ x0
  have p : k0_pay2 (F := Ideal) x0 = shapeCast S4x3072x10240 x0 shapeCasts_S4x3072x10240_S4x3072x10240 := rfl
  rw [h, e, p, shapeCast_self]

theorem out5_apply (x0 : FVec Ideal S4x3072x10240 .f32) (x1 : FVec Ideal S4x3072x8192 .fp8e4m3) (x2 : FVec Ideal S10240x8192 .fp8e4m3) (i : S4x3072x8192.Idx) :
    (out0_5 (F := Ideal) x0 x1 x2 i : EReal) = x1 i := by
  have h : out0_5 (F := Ideal) x0 x1 x2 = k0_pay3 (F := Ideal) (View.ld (Val := Elt Ideal) (e' := .fp8e4m3) x1 r0_1) := by
    unfold out0_5 r0_1; exact View.canon_unit_zero (S := S4x3072x8192) (off := ![0, 0, 0]) off3 _ _
  have e : (View.ld (Val := Elt Ideal) (e' := .fp8e4m3) x1 r0_1 : _ → EReal) = (x1 : _ → EReal) := by
    unfold r0_1; exact View.ld_unit_zero (Val := Elt Ideal) (e := .fp8e4m3) (S := S4x3072x8192) (off := ![0, 0, 0]) off3 _ x1
  rw [h, e]; rfl

theorem out6_apply (x0 : FVec Ideal S4x3072x10240 .f32) (x1 : FVec Ideal S4x3072x8192 .fp8e4m3) (x2 : FVec Ideal S10240x8192 .fp8e4m3) (i : S10240x8192.Idx) :
    (out0_6 (F := Ideal) x0 x1 x2 i : EReal) = x2 i := by
  have h : out0_6 (F := Ideal) x0 x1 x2 = k0_pay4 (F := Ideal) (View.ld (Val := Elt Ideal) (e' := .fp8e4m3) x2 r0_2) := by
    unfold out0_6 r0_2; exact View.canon_unit_zero (S := S10240x8192) (off := ![0, 0]) off2 _ _
  have e : (View.ld (Val := Elt Ideal) (e' := .fp8e4m3) x2 r0_2 : _ → EReal) = (x2 : _ → EReal) := by
    unfold r0_2; exact View.ld_unit_zero (Val := Elt Ideal) (e := .fp8e4m3) (S := S10240x8192) (off := ![0, 0]) off2 _ x2
  rw [h, e]; rfl

/-! What the region leaves: the codes and their widened copy; the activations and the weights, widened, are themselves. -/

theorem whole3 : (cfg0.win 3).WholeAt p0 := by decide +kernel
theorem after3_apply (c : Dev nD) (j : S4x3072x10240.Idx) : ((Gen.dats m 0 c).after 3 p0 j : EReal) = codeE (lT m c) (gT m c) (rT m c u0) j :=
  (congrFun (after0_3 m c p0) j).trans ((out3_apply (iblk m c 0 p0) (iblk m c 1 p0) (iblk m c 2 p0) j).trans ((blk0_apply m c j).trans (qTerm_apply _ _ _ j)))
theorem reg0 (c : Dev nD) : Value.reg_main_v15_0 m c = (codeE (lT m c) (gT m c) (rT m c u0) : S4x3072x10240.Idx → EReal) := by
  unfold Value.reg_main_v15_0
  exact (Gen.dats m 0 c).arrAt_eq_of_after_last 3 p0 whole3 (codeE (lT m c) (gT m c) (rT m c u0) : S4x3072x10240.Idx → EReal) (fun j => after3_apply m c j)

theorem whole4 : (cfg0.win 4).WholeAt p0 := by decide +kernel
theorem after4_apply (c : Dev nD) (j : S4x3072x10240.Idx) : ((Gen.dats m 0 c).after 4 p0 j : EReal) = codeE (lT m c) (gT m c) (rT m c u0) j :=
  (congrFun (after0_4 m c p0) j).trans ((out4_apply (iblk m c 0 p0) (iblk m c 1 p0) (iblk m c 2 p0) j).trans ((blk0_apply m c j).trans (qTerm_apply _ _ _ j)))
theorem reg1 (c : Dev nD) : Value.reg_main_v15_1 m c = (codeE (lT m c) (gT m c) (rT m c u0) : S4x3072x10240.Idx → EReal) := by
  unfold Value.reg_main_v15_1
  exact (Gen.dats m 0 c).arrAt_eq_of_after_last 4 p0 whole4 (codeE (lT m c) (gT m c) (rT m c u0) : S4x3072x10240.Idx → EReal) (fun j => after4_apply m c j)

theorem whole5 : (cfg0.win 5).WholeAt p0 := by decide +kernel
theorem after5_apply (c : Dev nD) (j : S4x3072x8192.Idx) : ((Gen.dats m 0 c).after 5 p0 j : EReal) = (m ((c.tc : Thread nD τ).loc main_arg2) : S4x3072x8192.Idx → EReal) j :=
  (congrFun (after0_5 m c p0) j).trans ((out5_apply (iblk m c 0 p0) (iblk m c 1 p0) (iblk m c 2 p0) j).trans (blk1_apply m c j))
theorem reg2 (c : Dev nD) : Value.reg_main_v15_2 m c = ((m ((c.tc : Thread nD τ).loc main_arg2) : S4x3072x8192.Idx → EReal) : S4x3072x8192.Idx → EReal) := by
  unfold Value.reg_main_v15_2
  exact (Gen.dats m 0 c).arrAt_eq_of_after_last 5 p0 whole5 ((m ((c.tc : Thread nD τ).loc main_arg2) : S4x3072x8192.Idx → EReal) : S4x3072x8192.Idx → EReal) (fun j => after5_apply m c j)

theorem whole6 : (cfg0.win 6).WholeAt p0 := by decide +kernel
theorem after6_apply (c : Dev nD) (j : S10240x8192.Idx) : ((Gen.dats m 0 c).after 6 p0 j : EReal) = (m ((c.tc : Thread nD τ).loc main_arg4) : S10240x8192.Idx → EReal) j :=
  (congrFun (after0_6 m c p0) j).trans ((out6_apply (iblk m c 0 p0) (iblk m c 1 p0) (iblk m c 2 p0) j).trans (blk2_apply m c j))
theorem reg3 (c : Dev nD) : Value.reg_main_v15_3 m c = ((m ((c.tc : Thread nD τ).loc main_arg4) : S10240x8192.Idx → EReal) : S10240x8192.Idx → EReal) := by
  unfold Value.reg_main_v15_3
  exact (Gen.dats m 0 c).arrAt_eq_of_after_last 6 p0 whole6 ((m ((c.tc : Thread nD τ).loc main_arg4) : S10240x8192.Idx → EReal) : S10240x8192.Idx → EReal) (fun j => after6_apply m c j)

/-- The reference's product with the weights, scaled. -/
theorem v20_apply (s1 s2 : FVec Ideal S_ .f32) (q : S4x3072x10240.Idx → EReal) (w : S10240x8192.Idx → EReal) :
    (truncf (F := Ideal) .bf16 (mulf (F := Ideal) (φ := .f32) (Host.dotGeneral (F := Ideal) (φ₁ := .bf16) (φ₂ := .bf16) dot_S4x3072x10240_S10240x8192_S4x3072x8192_2_0_01_1_n_n none q w) (broadcastInDim S4x3072x8192 ![] bcast_S_S4x3072x8192 (mulf (F := Ideal) s1 s2))) bitsLt_bf16_f32 : S4x3072x8192.Idx → EReal) = dxE q w (s1 u0 * s2 u0) := by
  funext i
  have hb : broadcastInDim S4x3072x8192 ![] bcast_S_S4x3072x8192 (mulf (F := Ideal) s1 s2) i = mulf (F := Ideal) s1 s2 u0 :=
    broadcastInDim_apply _ _ _ _ u0 fun a => a.elim0
  have e : (∑ k : Fin 10240, q (Read.lidx_main_v16 i k) * w (Read.ridx_main_v16 i k)) = ∑ k : Fin 10240, q (I3 (i 0) (i 1) k) * w (I2 k (i 2)) :=
    Finset.sum_congr rfl fun k _ => congr (congrArg (fun a b : EReal => a * b) (congrArg q (ext3 rfl rfl rfl))) (congrArg w (ext2 rfl rfl))
  show (Read.val_main_v16 (F := Ideal) q w i : EReal) * (broadcastInDim S4x3072x8192 ![] bcast_S_S4x3072x8192 (mulf (F := Ideal) s1 s2) i : EReal) = _
  rw [hb, Read.val_main_v16_apply, e]; rfl

/-- The reference's product over batches and rows. -/
theorem dot2_apply (q : S4x3072x10240.Idx → EReal) (x : S4x3072x8192.Idx → EReal) (i : S10240x8192.Idx) :
    (Host.dotGeneral (F := Ideal) (φ₁ := .bf16) (φ₂ := .bf16) dot_S4x3072x10240_S4x3072x8192_S10240x8192_01_01_2_2_n_n none q x i : EReal) = ∑ b : Fin 4, ∑ r : Fin 3072, q (I3 b r (i 0)) * x (I3 b r (i 1)) := by
  simp only [Host.dotGeneral]
  rw [Ideal.dotGeneral_apply, ValueIdx.sum_contr2 dot_S4x3072x10240_S4x3072x8192_S10240x8192_01_01_2_2_n_n 4 3072 rfl rfl rfl]
  refine Finset.sum_congr rfl fun b _ => Finset.sum_congr rfl fun r _ => ?_
  let e := ValueIdx.contrEquiv2 dot_S4x3072x10240_S4x3072x8192_S10240x8192_01_01_2_2_n_n 4 3072 rfl rfl rfl
  have h0 : ((e.symm (b, r)) ⟨0, by decide⟩).val = b.val := ValueIdx.contrEquiv2_symm_val0 dot_S4x3072x10240_S4x3072x8192_S10240x8192_01_01_2_2_n_n 4 3072 rfl rfl rfl (b, r)
  have h1 : ((e.symm (b, r)) ⟨1, by decide⟩).val = r.val := ValueIdx.contrEquiv2_symm_val1 dot_S4x3072x10240_S4x3072x8192_S10240x8192_01_01_2_2_n_n 4 3072 rfl rfl rfl (b, r)
  exact congr (congrArg (fun a b : EReal => a * b) (congrArg q (ext3 h0 h1 rfl))) (congrArg x (ext3 h0 h1 rfl))

/-- The reference's accumulated gradient. -/
theorem v25_apply (s1 s2 : FVec Ideal S_ .f32) (mg : S10240x8192.Idx → EReal) (q : S4x3072x10240.Idx → EReal) (x : S4x3072x8192.Idx → EReal) :
    (addf (F := Ideal) (φ := .f32) mg (mulf (F := Ideal) (φ := .f32) (Host.dotGeneral (F := Ideal) (φ₁ := .bf16) (φ₂ := .bf16) dot_S4x3072x10240_S4x3072x8192_S10240x8192_01_01_2_2_n_n none q x) (broadcastInDim S10240x8192 ![] bcast_S_S10240x8192 (mulf (F := Ideal) s1 s2))) : S10240x8192.Idx → EReal) = dwE mg q x (s1 u0 * s2 u0) := by
  funext i
  have hb : broadcastInDim S10240x8192 ![] bcast_S_S10240x8192 (mulf (F := Ideal) s1 s2) i = mulf (F := Ideal) s1 s2 u0 :=
    broadcastInDim_apply _ _ _ _ u0 fun a => a.elim0
  exact congrArg (fun z : EReal => mg i + z) (congr (congrArg (fun a b : EReal => a * b) (dot2_apply q x i)) hb)

end Cert.ReferenceIdeal.Hand
-- ==== Proof.V.Equal.lean ====
/-
  The kernel and the reference, at the ideal values, end with the same four results.
-/
module

public import proofs.«01_k».proof.Defs
public import proofs.«01_k».proof.Proof.V.Kern
public import proofs.«01_k».proof.Proof.V.RefReg

@[expose] public section

set_option maxRecDepth 16384

noncomputable section

namespace Cert.Equal

open Idealize.ShloMosaic Idealize.ShloMosaic.TcCoe Idealize.SL.Sem
open Cert.KernelIdeal.Hand (I1 I2 I3 lenI maskE codeE dxE dwE absE aDy aSy aX aSx aW aSw aMg aLen invS codesE amaxR z0)
open Cert.ReferenceIdeal.Hand (gT lT rT u0 aTerm)

/-- The shape relation the precondition states. -/
theorem preFacts : Cert.Pre_lens_bounded.Facts := ⟨by decide⟩

attribute [local instance] Cert.KernelIdeal.Gen.facts Cert.ReferenceIdeal.Gen.facts preFacts

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The precondition, as a bound on every length. -/
theorem lens_of_pre (m : KMem) (h : Cert.Pre_KernelIdeal_lens_bounded m) (c : Dev Cert.KernelIdeal.nD) (b : Fin 4) :
    lenI (aLen m c) b + 1024 ≤ 2147483648 := by
  have h1 := congrFun (h c) (I1 b)
  have e : IntOp.cmpi .sle (aLen m c (I1 b)) 2147482624#32 = 1#1 := h1
  rw [WordCmp.cmpi_sle_eq] at e
  have h2 : (aLen m c (I1 b)).toInt ≤ (2147482624#32 : BitVec 32).toInt := by
    by_contra hc
    rw [decide_eq_false hc] at e
    exact absurd e (by decide)
  have h3 : (2147482624#32 : BitVec 32).toInt = 2147482624 := by decide
  unfold lenI
  omega

section
variable (m : KMem) (m' : RMem) (c : Dev Cert.KernelIdeal.nD)

/-- The codes agree. -/
theorem codes_eq
    (h0 : m' ((c.tc : Thread Cert.ReferenceIdeal.nD Cert.ReferenceIdeal.τ).loc Cert.ReferenceIdeal.main_arg0) = aDy m c)
    (h1 : m' ((c.tc : Thread Cert.ReferenceIdeal.nD Cert.ReferenceIdeal.τ).loc Cert.ReferenceIdeal.main_arg1) = aSy m c)
    (h7 : m' ((c.tc : Thread Cert.ReferenceIdeal.nD Cert.ReferenceIdeal.τ).loc Cert.ReferenceIdeal.main_arg7) = aLen m c) :
    codeE (lT m' c) (gT m' c) (rT m' c u0) = codesE m c := by
  unfold lT gT rT
  rw [h0, h1, h7]
  rfl

/-- The largest magnitudes agree: they have the same upper bounds. -/
theorem amax_eq (hn : ∀ (c : Dev Cert.KernelIdeal.nD) (b : Fin 4), lenI (aLen m c) b + 1024 ≤ 2147483648) :
    (aTerm (aLen m c) (aDy m c) : Cert.KernelIdeal.S_.Idx → EReal) = amaxR m c := by
  funext j
  apply le_antisymm
  · exact (Cert.ReferenceIdeal.Hand.aTerm_le _ _ j _).2 ((Cert.KernelIdeal.Hand.res_amax m hn c j _).1 le_rfl)
  · exact (Cert.KernelIdeal.Hand.res_amax m hn c j _).2 ((Cert.ReferenceIdeal.Hand.aTerm_le _ _ j _).1 le_rfl)

end

/-- The two programs' results are equal. -/
theorem algebraic : Cert.algebraic_KernelIdeal_ReferenceIdeal_pre_lens_bounded := by
  intro m g m' g' hpre hargs
  have hn := lens_of_pre m hpre
  have hu : ∀ r : Ref Cert.KernelIdeal.sig .tc, ¬(Proc.devRef .tc r : DevRef Cert.KernelIdeal.τ Cert.KernelIdeal.sig).isScoped = true → (Proc.devRef .tc r : DevRef Cert.KernelIdeal.τ Cert.KernelIdeal.sig) ∈ Pipeline.ucRefs Cert.KernelIdeal.τ Cert.KernelIdeal.sig :=
    fun r h => Finset.mem_filter.mpr ⟨StableHlo.devRef_mem_tcRefs r, h⟩
  refine ⟨fun c => Cert.KernelIdeal.Hand.U7 m c (Proc.devRef .tc Cert.KernelIdeal.main_v5), fun c => Cert.KernelIdeal.Hand.U7 m c (Proc.devRef .tc Cert.KernelIdeal.main_v8), fun c => Cert.KernelIdeal.Hand.U7 m c (Proc.devRef .tc Cert.KernelIdeal.main_v9), fun c => Cert.KernelIdeal.Hand.U7 m c (Proc.devRef .tc Cert.KernelIdeal.main_v2_0), ?_, ?_⟩
  · exact θ_run_mono (Cert.KernelIdeal.Hand.run_all m g) fun r h c => ⟨h.1 c _ (hu Cert.KernelIdeal.main_v5 (by decide)), h.1 c _ (hu Cert.KernelIdeal.main_v8 (by decide)),
      h.1 c _ (hu Cert.KernelIdeal.main_v9 (by decide)), h.1 c _ (hu Cert.KernelIdeal.main_v2_0 (by decide)),
      (h.1 c _ (hu Cert.KernelIdeal.main_arg0 (by decide))).trans (Cert.KernelIdeal.Hand.U7_keep m c Cert.KernelIdeal.main_arg0 (by decide)),
      (h.1 c _ (hu Cert.KernelIdeal.main_arg1 (by decide))).trans (Cert.KernelIdeal.Hand.U7_keep m c Cert.KernelIdeal.main_arg1 (by decide)),
      (h.1 c _ (hu Cert.KernelIdeal.main_arg2 (by decide))).trans (Cert.KernelIdeal.Hand.U7_keep m c Cert.KernelIdeal.main_arg2 (by decide)),
      (h.1 c _ (hu Cert.KernelIdeal.main_arg3 (by decide))).trans (Cert.KernelIdeal.Hand.U7_keep m c Cert.KernelIdeal.main_arg3 (by decide)),
      (h.1 c _ (hu Cert.KernelIdeal.main_arg4 (by decide))).trans (Cert.KernelIdeal.Hand.U7_keep m c Cert.KernelIdeal.main_arg4 (by decide)),
      (h.1 c _ (hu Cert.KernelIdeal.main_arg5 (by decide))).trans (Cert.KernelIdeal.Hand.U7_keep m c Cert.KernelIdeal.main_arg5 (by decide)),
      (h.1 c _ (hu Cert.KernelIdeal.main_arg6 (by decide))).trans (Cert.KernelIdeal.Hand.U7_keep m c Cert.KernelIdeal.main_arg6 (by decide)),
      (h.1 c _ (hu Cert.KernelIdeal.main_arg7 (by decide))).trans (Cert.KernelIdeal.Hand.U7_keep m c Cert.KernelIdeal.main_arg7 (by decide))⟩
  · refine θ_run_mono (Cert.ReferenceIdeal.Value.run m' g') fun r h c => ?_
    obtain ⟨h0, h1, h2, h3, h4, h5, h6, h7⟩ := hargs c
    obtain ⟨r0, r1, r2, r3, k⟩ := h c
    have hc := codes_eq m m' c h0 h1 h7
    refine ⟨r0.trans ?_, r1.trans ?_, r2.trans ?_, r3.trans ?_, k⟩
    · rw [Cert.ReferenceIdeal.Hand.reg1, Cert.ReferenceIdeal.Hand.reg3, hc, h1, h4, h5]
      exact (Cert.ReferenceIdeal.Hand.v20_apply (aSy m c) (aSw m c) (codesE m c) (aW m c)).trans (Cert.KernelIdeal.Hand.res_dx m hn c).symm
    · rw [Cert.ReferenceIdeal.Hand.reg1, Cert.ReferenceIdeal.Hand.reg2, hc, h1, h2, h3, h6]
      exact (Cert.ReferenceIdeal.Hand.v25_apply (aSy m c) (aSx m c) (aMg m c) (codesE m c) (aX m c)).trans (Cert.KernelIdeal.Hand.res_dw m hn c).symm
    · rw [h0, h7]
      exact amax_eq m c hn
    · rw [Cert.ReferenceIdeal.Hand.reg0, hc]
      exact (Cert.KernelIdeal.Hand.res_codes m hn c).symm

end Cert.Equal
-- ==== Proof.lean ====
/-
  The claims: the kernel, its idealization and the reference each run to the end with every argument as launched and
  every counter at zero; the idealization is the kernel's own text; and at the ideal values the kernel's four results are
  the reference's, for lengths that leave room for the kernel's rounding up.
-/
module

public import proofs.«01_k».proof.Proof.Gen.ReferenceIdeal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.K.Frame
public import proofs.«01_k».proof.Proof.KI.Frame
public import proofs.«01_k».proof.Proof.V.Equal
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Equal.preFacts,
    fun m g _ => Cert.Kernel.Hand.run_frame m g,
    fun m g _ => Cert.KernelIdeal.Hand.run_frame m g,
    fun m g _ => Cert.KernelIdeal.Hand.run_frame m g,
    fun m g _ => Cert.ReferenceIdeal.Gen.frame m g,
    fun m g _ => Cert.ReferenceIdeal.Gen.frame m g,
    trivial,
    Cert.Equal.algebraic⟩

end Cert.Proof

end
